-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_BranchAttnDw (m : (ℓ : Loc Cert.BranchAttnDw.nD Cert.BranchAttnDw.τ Cert.BranchAttnDw.sig) → Buf (Elt Bits) ℓ) : Prop :=
  True

def Pre_BranchAttnDwIdeal (m : (ℓ : Loc Cert.BranchAttnDwIdeal.nD Cert.BranchAttnDwIdeal.τ Cert.BranchAttnDwIdeal.sig) → Buf (Elt Ideal) ℓ) : Prop :=
  True

def Pre_BranchAttnDwRefIdeal (m : (ℓ : Loc Cert.BranchAttnDwRefIdeal.nD Cert.BranchAttnDwRefIdeal.τ Cert.BranchAttnDwRefIdeal.sig) → Buf (Elt Ideal) ℓ) : Prop :=
  True

def Pre_BranchSsmDw (m : (ℓ : Loc Cert.BranchSsmDw.nD Cert.BranchSsmDw.τ Cert.BranchSsmDw.sig) → Buf (Elt Bits) ℓ) : Prop :=
  True

def Pre_BranchSsmDwIdeal (m : (ℓ : Loc Cert.BranchSsmDwIdeal.nD Cert.BranchSsmDwIdeal.τ Cert.BranchSsmDwIdeal.sig) → Buf (Elt Ideal) ℓ) : Prop :=
  True

def Pre_BranchSsmDwRefIdeal (m : (ℓ : Loc Cert.BranchSsmDwRefIdeal.nD Cert.BranchSsmDwRefIdeal.τ Cert.BranchSsmDwRefIdeal.sig) → Buf (Elt Ideal) ℓ) : Prop :=
  True

def Pre_GluDw (m : (ℓ : Loc Cert.GluDw.nD Cert.GluDw.τ Cert.GluDw.sig) → Buf (Elt Bits) ℓ) : Prop :=
  True

def Pre_GluDwIdeal (m : (ℓ : Loc Cert.GluDwIdeal.nD Cert.GluDwIdeal.τ Cert.GluDwIdeal.sig) → Buf (Elt Ideal) ℓ) : Prop :=
  True

def Pre_GluDwRefIdeal (m : (ℓ : Loc Cert.GluDwRefIdeal.nD Cert.GluDwRefIdeal.τ Cert.GluDwRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_UqDw (m : (ℓ : Loc Cert.UqDw.nD Cert.UqDw.τ Cert.UqDw.sig) → Buf (Elt Bits) ℓ) : Prop :=
  True

def Pre_UqDwIdeal (m : (ℓ : Loc Cert.UqDwIdeal.nD Cert.UqDwIdeal.τ Cert.UqDwIdeal.sig) → Buf (Elt Ideal) ℓ) : Prop :=
  True

def Pre_UqDwRefIdeal (m : (ℓ : Loc Cert.UqDwRefIdeal.nD Cert.UqDwRefIdeal.τ Cert.UqDwRefIdeal.sig) → Buf (Elt Ideal) ℓ) : Prop :=
  True

def Pre_UkvDw (m : (ℓ : Loc Cert.UkvDw.nD Cert.UkvDw.τ Cert.UkvDw.sig) → Buf (Elt Bits) ℓ) : Prop :=
  True

def Pre_UkvDwIdeal (m : (ℓ : Loc Cert.UkvDwIdeal.nD Cert.UkvDwIdeal.τ Cert.UkvDwIdeal.sig) → Buf (Elt Ideal) ℓ) : Prop :=
  True

def Pre_UkvDwRefIdeal (m : (ℓ : Loc Cert.UkvDwRefIdeal.nD Cert.UkvDwRefIdeal.τ Cert.UkvDwRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1)
      ∧ r.2.mem ((c.tc : Thread Cert.DownDwRefIdeal.nD Cert.DownDwRefIdeal.τ).loc Cert.DownDwRefIdeal.main_arg2) = m ((c.tc : Thread Cert.DownDwRefIdeal.nD Cert.DownDwRefIdeal.τ).loc Cert.DownDwRefIdeal.main_arg2))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1)
      ∧ r.2.mem ((c.tc : Thread Cert.UpDwRefIdeal.nD Cert.UpDwRefIdeal.τ).loc Cert.UpDwRefIdeal.main_arg2) = m ((c.tc : Thread Cert.UpDwRefIdeal.nD Cert.UpDwRefIdeal.τ).loc Cert.UpDwRefIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1)
      ∧ r.2.mem ((c.tc : Thread Cert.OutDwRefIdeal.nD Cert.OutDwRefIdeal.τ).loc Cert.OutDwRefIdeal.main_arg2) = m ((c.tc : Thread Cert.OutDwRefIdeal.nD Cert.OutDwRefIdeal.τ).loc Cert.OutDwRefIdeal.main_arg2))
      ∧ r.2.sem = fun _ => 0)

def quiescent_BranchAttnDw [hBranchAttnDw : Cert.BranchAttnDw.Facts] : Prop :=
  ∀ (m : (ℓ : Loc Cert.BranchAttnDw.nD Cert.BranchAttnDw.τ Cert.BranchAttnDw.sig) → Buf (Elt Bits) ℓ) (g : Dev Cert.BranchAttnDw.nD → PrngReg), Pre_BranchAttnDw m →
    θ_run (Cert.BranchAttnDw.defs (F := Bits)) (onTc (τ := Cert.BranchAttnDw.τ) (Cert.BranchAttnDw.main (F := Bits))) ⟨m, fun _ => 0, g⟩ (fun r => (∀ c : Dev Cert.BranchAttnDw.nD,
      r.2.mem ((c.tc : Thread Cert.BranchAttnDw.nD Cert.BranchAttnDw.τ).loc Cert.BranchAttnDw.main_arg0) = m ((c.tc : Thread Cert.BranchAttnDw.nD Cert.BranchAttnDw.τ).loc Cert.BranchAttnDw.main_arg0)
      ∧ r.2.mem ((c.tc : Thread Cert.BranchAttnDw.nD Cert.BranchAttnDw.τ).loc Cert.BranchAttnDw.main_arg1) = m ((c.tc : Thread Cert.BranchAttnDw.nD Cert.BranchAttnDw.τ).loc Cert.BranchAttnDw.main_arg1)
      ∧ r.2.mem ((c.tc : Thread Cert.BranchAttnDw.nD Cert.BranchAttnDw.τ).loc Cert.BranchAttnDw.main_arg2) = m ((c.tc : Thread Cert.BranchAttnDw.nD Cert.BranchAttnDw.τ).loc Cert.BranchAttnDw.main_arg2))
      ∧ r.2.sem = fun _ => 0)

def quiescent_BranchAttnDwIdeal [hBranchAttnDwIdeal : Cert.BranchAttnDwIdeal.Facts] : Prop :=
  ∀ (m : (ℓ : Loc Cert.BranchAttnDwIdeal.nD Cert.BranchAttnDwIdeal.τ Cert.BranchAttnDwIdeal.sig) → Buf (Elt Ideal) ℓ) (g : Dev Cert.BranchAttnDwIdeal.nD → PrngReg), Pre_BranchAttnDwIdeal m →
    θ_run (Cert.BranchAttnDwIdeal.defs (F := Ideal)) (onTc (τ := Cert.BranchAttnDwIdeal.τ) (Cert.BranchAttnDwIdeal.main (F := Ideal))) ⟨m, fun _ => 0, g⟩ (fun r => (∀ c : Dev Cert.BranchAttnDwIdeal.nD,
      r.2.mem ((c.tc : Thread Cert.BranchAttnDwIdeal.nD Cert.BranchAttnDwIdeal.τ).loc Cert.BranchAttnDwIdeal.main_arg0) = m ((c.tc : Thread Cert.BranchAttnDwIdeal.nD Cert.BranchAttnDwIdeal.τ).loc Cert.BranchAttnDwIdeal.main_arg0)
      ∧ r.2.mem ((c.tc : Thread Cert.BranchAttnDwIdeal.nD Cert.BranchAttnDwIdeal.τ).loc Cert.BranchAttnDwIdeal.main_arg1) = m ((c.tc : Thread Cert.BranchAttnDwIdeal.nD Cert.BranchAttnDwIdeal.τ).loc Cert.BranchAttnDwIdeal.main_arg1)
      ∧ r.2.mem ((c.tc : Thread Cert.BranchAttnDwIdeal.nD Cert.BranchAttnDwIdeal.τ).loc Cert.BranchAttnDwIdeal.main_arg2) = m ((c.tc : Thread Cert.BranchAttnDwIdeal.nD Cert.BranchAttnDwIdeal.τ).loc Cert.BranchAttnDwIdeal.main_arg2))
      ∧ r.2.sem = fun _ => 0)

def quiescent_BranchAttnDwRefIdeal [hBranchAttnDwRefIdeal : Cert.BranchAttnDwRefIdeal.Facts] : Prop :=
  ∀ (m : (ℓ : Loc Cert.BranchAttnDwRefIdeal.nD Cert.BranchAttnDwRefIdeal.τ Cert.BranchAttnDwRefIdeal.sig) → Buf (Elt Ideal) ℓ) (g : Dev Cert.BranchAttnDwRefIdeal.nD → PrngReg), Pre_BranchAttnDwRefIdeal m →
    θ_run (Cert.BranchAttnDwRefIdeal.defs (F := Ideal)) (onTc (τ := Cert.BranchAttnDwRefIdeal.τ) (Cert.BranchAttnDwRefIdeal.main (F := Ideal))) ⟨m, fun _ => 0, g⟩ (fun r => (∀ c : Dev Cert.BranchAttnDwRefIdeal.nD,
      r.2.mem ((c.tc : Thread Cert.BranchAttnDwRefIdeal.nD Cert.BranchAttnDwRefIdeal.τ).loc Cert.BranchAttnDwRefIdeal.main_arg0) = m ((c.tc : Thread Cert.BranchAttnDwRefIdeal.nD Cert.BranchAttnDwRefIdeal.τ).loc Cert.BranchAttnDwRefIdeal.main_arg0)
      ∧ r.2.mem ((c.tc : Thread Cert.BranchAttnDwRefIdeal.nD Cert.BranchAttnDwRefIdeal.τ).loc Cert.BranchAttnDwRefIdeal.main_arg1) = m ((c.tc : Thread Cert.BranchAttnDwRefIdeal.nD Cert.BranchAttnDwRefIdeal.τ).loc Cert.BranchAttnDwRefIdeal.main_arg1)
      ∧ r.2.mem ((c.tc : Thread Cert.BranchAttnDwRefIdeal.nD Cert.BranchAttnDwRefIdeal.τ).loc Cert.BranchAttnDwRefIdeal.main_arg2) = m ((c.tc : Thread Cert.BranchAttnDwRefIdeal.nD Cert.BranchAttnDwRefIdeal.τ).loc Cert.BranchAttnDwRefIdeal.main_arg2))
      ∧ r.2.sem = fun _ => 0)

def quiescent_BranchSsmDw [hBranchSsmDw : Cert.BranchSsmDw.Facts] : Prop :=
  ∀ (m : (ℓ : Loc Cert.BranchSsmDw.nD Cert.BranchSsmDw.τ Cert.BranchSsmDw.sig) → Buf (Elt Bits) ℓ) (g : Dev Cert.BranchSsmDw.nD → PrngReg), Pre_BranchSsmDw m →
    θ_run (Cert.BranchSsmDw.defs (F := Bits)) (onTc (τ := Cert.BranchSsmDw.τ) (Cert.BranchSsmDw.main (F := Bits))) ⟨m, fun _ => 0, g⟩ (fun r => (∀ c : Dev Cert.BranchSsmDw.nD,
      r.2.mem ((c.tc : Thread Cert.BranchSsmDw.nD Cert.BranchSsmDw.τ).loc Cert.BranchSsmDw.main_arg0) = m ((c.tc : Thread Cert.BranchSsmDw.nD Cert.BranchSsmDw.τ).loc Cert.BranchSsmDw.main_arg0)
      ∧ r.2.mem ((c.tc : Thread Cert.BranchSsmDw.nD Cert.BranchSsmDw.τ).loc Cert.BranchSsmDw.main_arg1) = m ((c.tc : Thread Cert.BranchSsmDw.nD Cert.BranchSsmDw.τ).loc Cert.BranchSsmDw.main_arg1)
      ∧ r.2.mem ((c.tc : Thread Cert.BranchSsmDw.nD Cert.BranchSsmDw.τ).loc Cert.BranchSsmDw.main_arg2) = m ((c.tc : Thread Cert.BranchSsmDw.nD Cert.BranchSsmDw.τ).loc Cert.BranchSsmDw.main_arg2))
      ∧ r.2.sem = fun _ => 0)

def quiescent_BranchSsmDwIdeal [hBranchSsmDwIdeal : Cert.BranchSsmDwIdeal.Facts] : Prop :=
  ∀ (m : (ℓ : Loc Cert.BranchSsmDwIdeal.nD Cert.BranchSsmDwIdeal.τ Cert.BranchSsmDwIdeal.sig) → Buf (Elt Ideal) ℓ) (g : Dev Cert.BranchSsmDwIdeal.nD → PrngReg), Pre_BranchSsmDwIdeal m →
    θ_run (Cert.BranchSsmDwIdeal.defs (F := Ideal)) (onTc (τ := Cert.BranchSsmDwIdeal.τ) (Cert.BranchSsmDwIdeal.main (F := Ideal))) ⟨m, fun _ => 0, g⟩ (fun r => (∀ c : Dev Cert.BranchSsmDwIdeal.nD,
      r.2.mem ((c.tc : Thread Cert.BranchSsmDwIdeal.nD Cert.BranchSsmDwIdeal.τ).loc Cert.BranchSsmDwIdeal.main_arg0) = m ((c.tc : Thread Cert.BranchSsmDwIdeal.nD Cert.BranchSsmDwIdeal.τ).loc Cert.BranchSsmDwIdeal.main_arg0)
      ∧ r.2.mem ((c.tc : Thread Cert.BranchSsmDwIdeal.nD Cert.BranchSsmDwIdeal.τ).loc Cert.BranchSsmDwIdeal.main_arg1) = m ((c.tc : Thread Cert.BranchSsmDwIdeal.nD Cert.BranchSsmDwIdeal.τ).loc Cert.BranchSsmDwIdeal.main_arg1)
      ∧ r.2.mem ((c.tc : Thread Cert.BranchSsmDwIdeal.nD Cert.BranchSsmDwIdeal.τ).loc Cert.BranchSsmDwIdeal.main_arg2) = m ((c.tc : Thread Cert.BranchSsmDwIdeal.nD Cert.BranchSsmDwIdeal.τ).loc Cert.BranchSsmDwIdeal.main_arg2))
      ∧ r.2.sem = fun _ => 0)

def quiescent_BranchSsmDwRefIdeal [hBranchSsmDwRefIdeal : Cert.BranchSsmDwRefIdeal.Facts] : Prop :=
  ∀ (m : (ℓ : Loc Cert.BranchSsmDwRefIdeal.nD Cert.BranchSsmDwRefIdeal.τ Cert.BranchSsmDwRefIdeal.sig) → Buf (Elt Ideal) ℓ) (g : Dev Cert.BranchSsmDwRefIdeal.nD → PrngReg), Pre_BranchSsmDwRefIdeal m →
    θ_run (Cert.BranchSsmDwRefIdeal.defs (F := Ideal)) (onTc (τ := Cert.BranchSsmDwRefIdeal.τ) (Cert.BranchSsmDwRefIdeal.main (F := Ideal))) ⟨m, fun _ => 0, g⟩ (fun r => (∀ c : Dev Cert.BranchSsmDwRefIdeal.nD,
      r.2.mem ((c.tc : Thread Cert.BranchSsmDwRefIdeal.nD Cert.BranchSsmDwRefIdeal.τ).loc Cert.BranchSsmDwRefIdeal.main_arg0) = m ((c.tc : Thread Cert.BranchSsmDwRefIdeal.nD Cert.BranchSsmDwRefIdeal.τ).loc Cert.BranchSsmDwRefIdeal.main_arg0)
      ∧ r.2.mem ((c.tc : Thread Cert.BranchSsmDwRefIdeal.nD Cert.BranchSsmDwRefIdeal.τ).loc Cert.BranchSsmDwRefIdeal.main_arg1) = m ((c.tc : Thread Cert.BranchSsmDwRefIdeal.nD Cert.BranchSsmDwRefIdeal.τ).loc Cert.BranchSsmDwRefIdeal.main_arg1)
      ∧ r.2.mem ((c.tc : Thread Cert.BranchSsmDwRefIdeal.nD Cert.BranchSsmDwRefIdeal.τ).loc Cert.BranchSsmDwRefIdeal.main_arg2) = m ((c.tc : Thread Cert.BranchSsmDwRefIdeal.nD Cert.BranchSsmDwRefIdeal.τ).loc Cert.BranchSsmDwRefIdeal.main_arg2))
      ∧ r.2.sem = fun _ => 0)

def quiescent_GluDw [hGluDw : Cert.GluDw.Facts] : Prop :=
  ∀ (m : (ℓ : Loc Cert.GluDw.nD Cert.GluDw.τ Cert.GluDw.sig) → Buf (Elt Bits) ℓ) (g : Dev Cert.GluDw.nD → PrngReg), Pre_GluDw m →
    θ_run (Cert.GluDw.defs (F := Bits)) (onTc (τ := Cert.GluDw.τ) (Cert.GluDw.main (F := Bits))) ⟨m, fun _ => 0, g⟩ (fun r => (∀ c : Dev Cert.GluDw.nD,
      r.2.mem ((c.tc : Thread Cert.GluDw.nD Cert.GluDw.τ).loc Cert.GluDw.main_arg0) = m ((c.tc : Thread Cert.GluDw.nD Cert.GluDw.τ).loc Cert.GluDw.main_arg0)
      ∧ r.2.mem ((c.tc : Thread Cert.GluDw.nD Cert.GluDw.τ).loc Cert.GluDw.main_arg1) = m ((c.tc : Thread Cert.GluDw.nD Cert.GluDw.τ).loc Cert.GluDw.main_arg1)
      ∧ r.2.mem ((c.tc : Thread Cert.GluDw.nD Cert.GluDw.τ).loc Cert.GluDw.main_arg2) = m ((c.tc : Thread Cert.GluDw.nD Cert.GluDw.τ).loc Cert.GluDw.main_arg2))
      ∧ r.2.sem = fun _ => 0)

def quiescent_GluDwIdeal [hGluDwIdeal : Cert.GluDwIdeal.Facts] : Prop :=
  ∀ (m : (ℓ : Loc Cert.GluDwIdeal.nD Cert.GluDwIdeal.τ Cert.GluDwIdeal.sig) → Buf (Elt Ideal) ℓ) (g : Dev Cert.GluDwIdeal.nD → PrngReg), Pre_GluDwIdeal m →
    θ_run (Cert.GluDwIdeal.defs (F := Ideal)) (onTc (τ := Cert.GluDwIdeal.τ) (Cert.GluDwIdeal.main (F := Ideal))) ⟨m, fun _ => 0, g⟩ (fun r => (∀ c : Dev Cert.GluDwIdeal.nD,
      r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
      ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1)
      ∧ r.2.mem ((c.tc : Thread Cert.GluDwIdeal.nD Cert.GluDwIdeal.τ).loc Cert.GluDwIdeal.main_arg2) = m ((c.tc : Thread Cert.GluDwIdeal.nD Cert.GluDwIdeal.τ).loc Cert.GluDwIdeal.main_arg2))
      ∧ r.2.sem = fun _ => 0)

def quiescent_GluDwRefIdeal [hGluDwRefIdeal : Cert.GluDwRefIdeal.Facts] : Prop :=
  ∀ (m : (ℓ : Loc Cert.GluDwRefIdeal.nD Cert.GluDwRefIdeal.τ Cert.GluDwRefIdeal.sig) → Buf (Elt Ideal) ℓ) (g : Dev Cert.GluDwRefIdeal.nD → PrngReg), Pre_GluDwRefIdeal m →
    θ_run (Cert.GluDwRefIdeal.defs (F := Ideal)) (onTc (τ := Cert.GluDwRefIdeal.τ) (Cert.GluDwRefIdeal.main (F := Ideal))) ⟨m, fun _ => 0, g⟩ (fun r => (∀ c : Dev Cert.GluDwRefIdeal.nD,
      r.2.mem ((c.tc : Thread Cert.GluDwRefIdeal.nD Cert.GluDwRefIdeal.τ).loc Cert.GluDwRefIdeal.main_arg0) = m ((c.tc : Thread Cert.GluDwRefIdeal.nD Cert.GluDwRefIdeal.τ).loc Cert.GluDwRefIdeal.main_arg0)
      ∧ r.2.mem ((c.tc : Thread Cert.GluDwRefIdeal.nD Cert.GluDwRefIdeal.τ).loc Cert.GluDwRefIdeal.main_arg1) = m ((c.tc : Thread Cert.GluDwRefIdeal.nD Cert.GluDwRefIdeal.τ).loc Cert.GluDwRefIdeal.main_arg1)
      ∧ r.2.mem ((c.tc : Thread Cert.GluDwRefIdeal.nD Cert.GluDwRefIdeal.τ).loc Cert.GluDwRefIdeal.main_arg2) = m ((c.tc : Thread Cert.GluDwRefIdeal.nD Cert.GluDwRefIdeal.τ).loc Cert.GluDwRefIdeal.main_arg2))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1)
      ∧ r.2.mem ((c.tc : Thread Cert.InDw.nD Cert.InDw.τ).loc Cert.InDw.main_arg2) = m ((c.tc : Thread Cert.InDw.nD Cert.InDw.τ).loc Cert.InDw.main_arg2))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
      ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1)
      ∧ r.2.mem ((c.tc : Thread Cert.InDwRefIdeal.nD Cert.InDwRefIdeal.τ).loc Cert.InDwRefIdeal.main_arg2) = m ((c.tc : Thread Cert.InDwRefIdeal.nD Cert.InDwRefIdeal.τ).loc Cert.InDwRefIdeal.main_arg2))
      ∧ r.2.sem = fun _ => 0)

def quiescent_UqDw [hUqDw : Cert.UqDw.Facts] : Prop :=
  ∀ (m : (ℓ : Loc Cert.UqDw.nD Cert.UqDw.τ Cert.UqDw.sig) → Buf (Elt Bits) ℓ) (g : Dev Cert.UqDw.nD → PrngReg), Pre_UqDw m →
    θ_run (Cert.UqDw.defs (F := Bits)) (onTc (τ := Cert.UqDw.τ) (Cert.UqDw.main (F := Bits))) ⟨m, fun _ => 0, g⟩ (fun r => (∀ c : Dev Cert.UqDw.nD,
      r.2.mem ((c.tc : Thread Cert.UqDw.nD Cert.UqDw.τ).loc Cert.UqDw.main_arg0) = m ((c.tc : Thread Cert.UqDw.nD Cert.UqDw.τ).loc Cert.UqDw.main_arg0)
      ∧ r.2.mem ((c.tc : Thread Cert.UqDw.nD Cert.UqDw.τ).loc Cert.UqDw.main_arg1) = m ((c.tc : Thread Cert.UqDw.nD Cert.UqDw.τ).loc Cert.UqDw.main_arg1)
      ∧ r.2.mem ((c.tc : Thread Cert.UqDw.nD Cert.UqDw.τ).loc Cert.UqDw.main_arg2) = m ((c.tc : Thread Cert.UqDw.nD Cert.UqDw.τ).loc Cert.UqDw.main_arg2))
      ∧ r.2.sem = fun _ => 0)

def quiescent_UqDwIdeal [hUqDwIdeal : Cert.UqDwIdeal.Facts] : Prop :=
  ∀ (m : (ℓ : Loc Cert.UqDwIdeal.nD Cert.UqDwIdeal.τ Cert.UqDwIdeal.sig) → Buf (Elt Ideal) ℓ) (g : Dev Cert.UqDwIdeal.nD → PrngReg), Pre_UqDwIdeal m →
    θ_run (Cert.UqDwIdeal.defs (F := Ideal)) (onTc (τ := Cert.UqDwIdeal.τ) (Cert.UqDwIdeal.main (F := Ideal))) ⟨m, fun _ => 0, g⟩ (fun r => (∀ c : Dev Cert.UqDwIdeal.nD,
      r.2.mem ((c.tc : Thread Cert.UqDwIdeal.nD Cert.UqDwIdeal.τ).loc Cert.UqDwIdeal.main_arg0) = m ((c.tc : Thread Cert.UqDwIdeal.nD Cert.UqDwIdeal.τ).loc Cert.UqDwIdeal.main_arg0)
      ∧ r.2.mem ((c.tc : Thread Cert.UqDwIdeal.nD Cert.UqDwIdeal.τ).loc Cert.UqDwIdeal.main_arg1) = m ((c.tc : Thread Cert.UqDwIdeal.nD Cert.UqDwIdeal.τ).loc Cert.UqDwIdeal.main_arg1)
      ∧ r.2.mem ((c.tc : Thread Cert.UqDwIdeal.nD Cert.UqDwIdeal.τ).loc Cert.UqDwIdeal.main_arg2) = m ((c.tc : Thread Cert.UqDwIdeal.nD Cert.UqDwIdeal.τ).loc Cert.UqDwIdeal.main_arg2))
      ∧ r.2.sem = fun _ => 0)

def quiescent_UqDwRefIdeal [hUqDwRefIdeal : Cert.UqDwRefIdeal.Facts] : Prop :=
  ∀ (m : (ℓ : Loc Cert.UqDwRefIdeal.nD Cert.UqDwRefIdeal.τ Cert.UqDwRefIdeal.sig) → Buf (Elt Ideal) ℓ) (g : Dev Cert.UqDwRefIdeal.nD → PrngReg), Pre_UqDwRefIdeal m →
    θ_run (Cert.UqDwRefIdeal.defs (F := Ideal)) (onTc (τ := Cert.UqDwRefIdeal.τ) (Cert.UqDwRefIdeal.main (F := Ideal))) ⟨m, fun _ => 0, g⟩ (fun r => (∀ c : Dev Cert.UqDwRefIdeal.nD,
      r.2.mem ((c.tc : Thread Cert.UqDwRefIdeal.nD Cert.UqDwRefIdeal.τ).loc Cert.UqDwRefIdeal.main_arg0) = m ((c.tc : Thread Cert.UqDwRefIdeal.nD Cert.UqDwRefIdeal.τ).loc Cert.UqDwRefIdeal.main_arg0)
      ∧ r.2.mem ((c.tc : Thread Cert.UqDwRefIdeal.nD Cert.UqDwRefIdeal.τ).loc Cert.UqDwRefIdeal.main_arg1) = m ((c.tc : Thread Cert.UqDwRefIdeal.nD Cert.UqDwRefIdeal.τ).loc Cert.UqDwRefIdeal.main_arg1)
      ∧ r.2.mem ((c.tc : Thread Cert.UqDwRefIdeal.nD Cert.UqDwRefIdeal.τ).loc Cert.UqDwRefIdeal.main_arg2) = m ((c.tc : Thread Cert.UqDwRefIdeal.nD Cert.UqDwRefIdeal.τ).loc Cert.UqDwRefIdeal.main_arg2))
      ∧ r.2.sem = fun _ => 0)

def quiescent_UkvDw [hUkvDw : Cert.UkvDw.Facts] : Prop :=
  ∀ (m : (ℓ : Loc Cert.UkvDw.nD Cert.UkvDw.τ Cert.UkvDw.sig) → Buf (Elt Bits) ℓ) (g : Dev Cert.UkvDw.nD → PrngReg), Pre_UkvDw m →
    θ_run (Cert.UkvDw.defs (F := Bits)) (onTc (τ := Cert.UkvDw.τ) (Cert.UkvDw.main (F := Bits))) ⟨m, fun _ => 0, g⟩ (fun r => (∀ c : Dev Cert.UkvDw.nD,
      r.2.mem ((c.tc : Thread Cert.UkvDw.nD Cert.UkvDw.τ).loc Cert.UkvDw.main_arg0) = m ((c.tc : Thread Cert.UkvDw.nD Cert.UkvDw.τ).loc Cert.UkvDw.main_arg0)
      ∧ r.2.mem ((c.tc : Thread Cert.UkvDw.nD Cert.UkvDw.τ).loc Cert.UkvDw.main_arg1) = m ((c.tc : Thread Cert.UkvDw.nD Cert.UkvDw.τ).loc Cert.UkvDw.main_arg1)
      ∧ r.2.mem ((c.tc : Thread Cert.UkvDw.nD Cert.UkvDw.τ).loc Cert.UkvDw.main_arg2) = m ((c.tc : Thread Cert.UkvDw.nD Cert.UkvDw.τ).loc Cert.UkvDw.main_arg2))
      ∧ r.2.sem = fun _ => 0)

def quiescent_UkvDwIdeal [hUkvDwIdeal : Cert.UkvDwIdeal.Facts] : Prop :=
  ∀ (m : (ℓ : Loc Cert.UkvDwIdeal.nD Cert.UkvDwIdeal.τ Cert.UkvDwIdeal.sig) → Buf (Elt Ideal) ℓ) (g : Dev Cert.UkvDwIdeal.nD → PrngReg), Pre_UkvDwIdeal m →
    θ_run (Cert.UkvDwIdeal.defs (F := Ideal)) (onTc (τ := Cert.UkvDwIdeal.τ) (Cert.UkvDwIdeal.main (F := Ideal))) ⟨m, fun _ => 0, g⟩ (fun r => (∀ c : Dev Cert.UkvDwIdeal.nD,
      r.2.mem ((c.tc : Thread Cert.UkvDwIdeal.nD Cert.UkvDwIdeal.τ).loc Cert.UkvDwIdeal.main_arg0) = m ((c.tc : Thread Cert.UkvDwIdeal.nD Cert.UkvDwIdeal.τ).loc Cert.UkvDwIdeal.main_arg0)
      ∧ r.2.mem ((c.tc : Thread Cert.UkvDwIdeal.nD Cert.UkvDwIdeal.τ).loc Cert.UkvDwIdeal.main_arg1) = m ((c.tc : Thread Cert.UkvDwIdeal.nD Cert.UkvDwIdeal.τ).loc Cert.UkvDwIdeal.main_arg1)
      ∧ r.2.mem ((c.tc : Thread Cert.UkvDwIdeal.nD Cert.UkvDwIdeal.τ).loc Cert.UkvDwIdeal.main_arg2) = m ((c.tc : Thread Cert.UkvDwIdeal.nD Cert.UkvDwIdeal.τ).loc Cert.UkvDwIdeal.main_arg2))
      ∧ r.2.sem = fun _ => 0)

def quiescent_UkvDwRefIdeal [hUkvDwRefIdeal : Cert.UkvDwRefIdeal.Facts] : Prop :=
  ∀ (m : (ℓ : Loc Cert.UkvDwRefIdeal.nD Cert.UkvDwRefIdeal.τ Cert.UkvDwRefIdeal.sig) → Buf (Elt Ideal) ℓ) (g : Dev Cert.UkvDwRefIdeal.nD → PrngReg), Pre_UkvDwRefIdeal m →
    θ_run (Cert.UkvDwRefIdeal.defs (F := Ideal)) (onTc (τ := Cert.UkvDwRefIdeal.τ) (Cert.UkvDwRefIdeal.main (F := Ideal))) ⟨m, fun _ => 0, g⟩ (fun r => (∀ c : Dev Cert.UkvDwRefIdeal.nD,
      r.2.mem ((c.tc : Thread Cert.UkvDwRefIdeal.nD Cert.UkvDwRefIdeal.τ).loc Cert.UkvDwRefIdeal.main_arg0) = m ((c.tc : Thread Cert.UkvDwRefIdeal.nD Cert.UkvDwRefIdeal.τ).loc Cert.UkvDwRefIdeal.main_arg0)
      ∧ r.2.mem ((c.tc : Thread Cert.UkvDwRefIdeal.nD Cert.UkvDwRefIdeal.τ).loc Cert.UkvDwRefIdeal.main_arg1) = m ((c.tc : Thread Cert.UkvDwRefIdeal.nD Cert.UkvDwRefIdeal.τ).loc Cert.UkvDwRefIdeal.main_arg1)
      ∧ r.2.mem ((c.tc : Thread Cert.UkvDwRefIdeal.nD Cert.UkvDwRefIdeal.τ).loc Cert.UkvDwRefIdeal.main_arg2) = m ((c.tc : Thread Cert.UkvDwRefIdeal.nD Cert.UkvDwRefIdeal.τ).loc Cert.UkvDwRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)) (v2 : (c : Dev Cert.KernelIdeal.nD) → Buf (Elt Ideal) ((c.tc : Thread Cert.KernelIdeal.nD Cert.KernelIdeal.τ).loc Cert.KernelIdeal.main_v40_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_v40_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v7) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)
      ∧ m' ((c.tc : Thread Cert.DownDwRefIdeal.nD Cert.DownDwRefIdeal.τ).loc Cert.DownDwRefIdeal.main_arg2) = m ((c.tc : Thread Cert.DownDwIdeal.nD Cert.DownDwIdeal.τ).loc Cert.DownDwIdeal.main_arg2)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v5) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1)
          ∧ r.2.mem ((c.tc : Thread Cert.DownDwRefIdeal.nD Cert.DownDwRefIdeal.τ).loc Cert.DownDwRefIdeal.main_arg2) = m' ((c.tc : Thread Cert.DownDwRefIdeal.nD Cert.DownDwRefIdeal.τ).loc Cert.DownDwRefIdeal.main_arg2))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v8) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)
      ∧ m' ((c.tc : Thread Cert.UpDwRefIdeal.nD Cert.UpDwRefIdeal.τ).loc Cert.UpDwRefIdeal.main_arg2) = m ((c.tc : Thread Cert.UpDwIdeal.nD Cert.UpDwIdeal.τ).loc Cert.UpDwIdeal.main_arg2)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v10) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1)
          ∧ r.2.mem ((c.tc : Thread Cert.UpDwRefIdeal.nD Cert.UpDwRefIdeal.τ).loc Cert.UpDwRefIdeal.main_arg2) = m' ((c.tc : Thread Cert.UpDwRefIdeal.nD Cert.UpDwRefIdeal.τ).loc Cert.UpDwRefIdeal.main_arg2))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)
      ∧ m' ((c.tc : Thread Cert.OutDwRefIdeal.nD Cert.OutDwRefIdeal.τ).loc Cert.OutDwRefIdeal.main_arg2) = m ((c.tc : Thread Cert.OutDwIdeal.nD Cert.OutDwIdeal.τ).loc Cert.OutDwIdeal.main_arg2)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v5) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1)
          ∧ r.2.mem ((c.tc : Thread Cert.OutDwRefIdeal.nD Cert.OutDwRefIdeal.τ).loc Cert.OutDwRefIdeal.main_arg2) = m' ((c.tc : Thread Cert.OutDwRefIdeal.nD Cert.OutDwRefIdeal.τ).loc Cert.OutDwRefIdeal.main_arg2))

def preserves_BranchAttnDw_BranchAttnDwIdeal : Prop :=
  True

def algebraic_BranchAttnDwIdeal_BranchAttnDwRefIdeal [hBranchAttnDwIdeal : Cert.BranchAttnDwIdeal.Facts] [hBranchAttnDwRefIdeal : Cert.BranchAttnDwRefIdeal.Facts] : Prop :=
  ∀ (m : (ℓ : Loc Cert.BranchAttnDwIdeal.nD Cert.BranchAttnDwIdeal.τ Cert.BranchAttnDwIdeal.sig) → Buf (Elt Ideal) ℓ) (g : Dev Cert.BranchAttnDwIdeal.nD → PrngReg)
    (m' : (ℓ : Loc Cert.BranchAttnDwRefIdeal.nD Cert.BranchAttnDwRefIdeal.τ Cert.BranchAttnDwRefIdeal.sig) → Buf (Elt Ideal) ℓ) (g' : Dev Cert.BranchAttnDwRefIdeal.nD → PrngReg), Pre_BranchAttnDwIdeal m →
    (∀ c : Dev Cert.BranchAttnDwIdeal.nD,
      m' ((c.tc : Thread Cert.BranchAttnDwRefIdeal.nD Cert.BranchAttnDwRefIdeal.τ).loc Cert.BranchAttnDwRefIdeal.main_arg0) = m ((c.tc : Thread Cert.BranchAttnDwIdeal.nD Cert.BranchAttnDwIdeal.τ).loc Cert.BranchAttnDwIdeal.main_arg0)
      ∧ m' ((c.tc : Thread Cert.BranchAttnDwRefIdeal.nD Cert.BranchAttnDwRefIdeal.τ).loc Cert.BranchAttnDwRefIdeal.main_arg1) = m ((c.tc : Thread Cert.BranchAttnDwIdeal.nD Cert.BranchAttnDwIdeal.τ).loc Cert.BranchAttnDwIdeal.main_arg1)
      ∧ m' ((c.tc : Thread Cert.BranchAttnDwRefIdeal.nD Cert.BranchAttnDwRefIdeal.τ).loc Cert.BranchAttnDwRefIdeal.main_arg2) = m ((c.tc : Thread Cert.BranchAttnDwIdeal.nD Cert.BranchAttnDwIdeal.τ).loc Cert.BranchAttnDwIdeal.main_arg2)) →
    ∃ (v0 : (c : Dev Cert.BranchAttnDwIdeal.nD) → Buf (Elt Ideal) ((c.tc : Thread Cert.BranchAttnDwIdeal.nD Cert.BranchAttnDwIdeal.τ).loc Cert.BranchAttnDwIdeal.main_v0)),
      θ_run (Cert.BranchAttnDwIdeal.defs (F := Ideal)) (onTc (τ := Cert.BranchAttnDwIdeal.τ) (Cert.BranchAttnDwIdeal.main (F := Ideal))) ⟨m, fun _ => 0, g⟩ (fun r => ∀ c : Dev Cert.BranchAttnDwIdeal.nD,
          r.2.mem ((c.tc : Thread Cert.BranchAttnDwIdeal.nD Cert.BranchAttnDwIdeal.τ).loc Cert.BranchAttnDwIdeal.main_v0) = v0 c
          ∧ r.2.mem ((c.tc : Thread Cert.BranchAttnDwIdeal.nD Cert.BranchAttnDwIdeal.τ).loc Cert.BranchAttnDwIdeal.main_arg0) = m ((c.tc : Thread Cert.BranchAttnDwIdeal.nD Cert.BranchAttnDwIdeal.τ).loc Cert.BranchAttnDwIdeal.main_arg0)
          ∧ r.2.mem ((c.tc : Thread Cert.BranchAttnDwIdeal.nD Cert.BranchAttnDwIdeal.τ).loc Cert.BranchAttnDwIdeal.main_arg1) = m ((c.tc : Thread Cert.BranchAttnDwIdeal.nD Cert.BranchAttnDwIdeal.τ).loc Cert.BranchAttnDwIdeal.main_arg1)
          ∧ r.2.mem ((c.tc : Thread Cert.BranchAttnDwIdeal.nD Cert.BranchAttnDwIdeal.τ).loc Cert.BranchAttnDwIdeal.main_arg2) = m ((c.tc : Thread Cert.BranchAttnDwIdeal.nD Cert.BranchAttnDwIdeal.τ).loc Cert.BranchAttnDwIdeal.main_arg2))
      ∧ θ_run (Cert.BranchAttnDwRefIdeal.defs (F := Ideal)) (onTc (τ := Cert.BranchAttnDwRefIdeal.τ) (Cert.BranchAttnDwRefIdeal.main (F := Ideal))) ⟨m', fun _ => 0, g'⟩ (fun r => ∀ c : Dev Cert.BranchAttnDwRefIdeal.nD,
          r.2.mem ((c.tc : Thread Cert.BranchAttnDwRefIdeal.nD Cert.BranchAttnDwRefIdeal.τ).loc Cert.BranchAttnDwRefIdeal.main_v8) = v0 c
          ∧ r.2.mem ((c.tc : Thread Cert.BranchAttnDwRefIdeal.nD Cert.BranchAttnDwRefIdeal.τ).loc Cert.BranchAttnDwRefIdeal.main_arg0) = m' ((c.tc : Thread Cert.BranchAttnDwRefIdeal.nD Cert.BranchAttnDwRefIdeal.τ).loc Cert.BranchAttnDwRefIdeal.main_arg0)
          ∧ r.2.mem ((c.tc : Thread Cert.BranchAttnDwRefIdeal.nD Cert.BranchAttnDwRefIdeal.τ).loc Cert.BranchAttnDwRefIdeal.main_arg1) = m' ((c.tc : Thread Cert.BranchAttnDwRefIdeal.nD Cert.BranchAttnDwRefIdeal.τ).loc Cert.BranchAttnDwRefIdeal.main_arg1)
          ∧ r.2.mem ((c.tc : Thread Cert.BranchAttnDwRefIdeal.nD Cert.BranchAttnDwRefIdeal.τ).loc Cert.BranchAttnDwRefIdeal.main_arg2) = m' ((c.tc : Thread Cert.BranchAttnDwRefIdeal.nD Cert.BranchAttnDwRefIdeal.τ).loc Cert.BranchAttnDwRefIdeal.main_arg2))

def preserves_BranchSsmDw_BranchSsmDwIdeal : Prop :=
  True

def algebraic_BranchSsmDwIdeal_BranchSsmDwRefIdeal [hBranchSsmDwIdeal : Cert.BranchSsmDwIdeal.Facts] [hBranchSsmDwRefIdeal : Cert.BranchSsmDwRefIdeal.Facts] : Prop :=
  ∀ (m : (ℓ : Loc Cert.BranchSsmDwIdeal.nD Cert.BranchSsmDwIdeal.τ Cert.BranchSsmDwIdeal.sig) → Buf (Elt Ideal) ℓ) (g : Dev Cert.BranchSsmDwIdeal.nD → PrngReg)
    (m' : (ℓ : Loc Cert.BranchSsmDwRefIdeal.nD Cert.BranchSsmDwRefIdeal.τ Cert.BranchSsmDwRefIdeal.sig) → Buf (Elt Ideal) ℓ) (g' : Dev Cert.BranchSsmDwRefIdeal.nD → PrngReg), Pre_BranchSsmDwIdeal m →
    (∀ c : Dev Cert.BranchSsmDwIdeal.nD,
      m' ((c.tc : Thread Cert.BranchSsmDwRefIdeal.nD Cert.BranchSsmDwRefIdeal.τ).loc Cert.BranchSsmDwRefIdeal.main_arg0) = m ((c.tc : Thread Cert.BranchSsmDwIdeal.nD Cert.BranchSsmDwIdeal.τ).loc Cert.BranchSsmDwIdeal.main_arg0)
      ∧ m' ((c.tc : Thread Cert.BranchSsmDwRefIdeal.nD Cert.BranchSsmDwRefIdeal.τ).loc Cert.BranchSsmDwRefIdeal.main_arg1) = m ((c.tc : Thread Cert.BranchSsmDwIdeal.nD Cert.BranchSsmDwIdeal.τ).loc Cert.BranchSsmDwIdeal.main_arg1)
      ∧ m' ((c.tc : Thread Cert.BranchSsmDwRefIdeal.nD Cert.BranchSsmDwRefIdeal.τ).loc Cert.BranchSsmDwRefIdeal.main_arg2) = m ((c.tc : Thread Cert.BranchSsmDwIdeal.nD Cert.BranchSsmDwIdeal.τ).loc Cert.BranchSsmDwIdeal.main_arg2)) →
    ∃ (v0 : (c : Dev Cert.BranchSsmDwIdeal.nD) → Buf (Elt Ideal) ((c.tc : Thread Cert.BranchSsmDwIdeal.nD Cert.BranchSsmDwIdeal.τ).loc Cert.BranchSsmDwIdeal.main_v0)),
      θ_run (Cert.BranchSsmDwIdeal.defs (F := Ideal)) (onTc (τ := Cert.BranchSsmDwIdeal.τ) (Cert.BranchSsmDwIdeal.main (F := Ideal))) ⟨m, fun _ => 0, g⟩ (fun r => ∀ c : Dev Cert.BranchSsmDwIdeal.nD,
          r.2.mem ((c.tc : Thread Cert.BranchSsmDwIdeal.nD Cert.BranchSsmDwIdeal.τ).loc Cert.BranchSsmDwIdeal.main_v0) = v0 c
          ∧ r.2.mem ((c.tc : Thread Cert.BranchSsmDwIdeal.nD Cert.BranchSsmDwIdeal.τ).loc Cert.BranchSsmDwIdeal.main_arg0) = m ((c.tc : Thread Cert.BranchSsmDwIdeal.nD Cert.BranchSsmDwIdeal.τ).loc Cert.BranchSsmDwIdeal.main_arg0)
          ∧ r.2.mem ((c.tc : Thread Cert.BranchSsmDwIdeal.nD Cert.BranchSsmDwIdeal.τ).loc Cert.BranchSsmDwIdeal.main_arg1) = m ((c.tc : Thread Cert.BranchSsmDwIdeal.nD Cert.BranchSsmDwIdeal.τ).loc Cert.BranchSsmDwIdeal.main_arg1)
          ∧ r.2.mem ((c.tc : Thread Cert.BranchSsmDwIdeal.nD Cert.BranchSsmDwIdeal.τ).loc Cert.BranchSsmDwIdeal.main_arg2) = m ((c.tc : Thread Cert.BranchSsmDwIdeal.nD Cert.BranchSsmDwIdeal.τ).loc Cert.BranchSsmDwIdeal.main_arg2))
      ∧ θ_run (Cert.BranchSsmDwRefIdeal.defs (F := Ideal)) (onTc (τ := Cert.BranchSsmDwRefIdeal.τ) (Cert.BranchSsmDwRefIdeal.main (F := Ideal))) ⟨m', fun _ => 0, g'⟩ (fun r => ∀ c : Dev Cert.BranchSsmDwRefIdeal.nD,
          r.2.mem ((c.tc : Thread Cert.BranchSsmDwRefIdeal.nD Cert.BranchSsmDwRefIdeal.τ).loc Cert.BranchSsmDwRefIdeal.main_v8) = v0 c
          ∧ r.2.mem ((c.tc : Thread Cert.BranchSsmDwRefIdeal.nD Cert.BranchSsmDwRefIdeal.τ).loc Cert.BranchSsmDwRefIdeal.main_arg0) = m' ((c.tc : Thread Cert.BranchSsmDwRefIdeal.nD Cert.BranchSsmDwRefIdeal.τ).loc Cert.BranchSsmDwRefIdeal.main_arg0)
          ∧ r.2.mem ((c.tc : Thread Cert.BranchSsmDwRefIdeal.nD Cert.BranchSsmDwRefIdeal.τ).loc Cert.BranchSsmDwRefIdeal.main_arg1) = m' ((c.tc : Thread Cert.BranchSsmDwRefIdeal.nD Cert.BranchSsmDwRefIdeal.τ).loc Cert.BranchSsmDwRefIdeal.main_arg1)
          ∧ r.2.mem ((c.tc : Thread Cert.BranchSsmDwRefIdeal.nD Cert.BranchSsmDwRefIdeal.τ).loc Cert.BranchSsmDwRefIdeal.main_arg2) = m' ((c.tc : Thread Cert.BranchSsmDwRefIdeal.nD Cert.BranchSsmDwRefIdeal.τ).loc Cert.BranchSsmDwRefIdeal.main_arg2))

def preserves_GluDw_GluDwIdeal : Prop :=
  True

def algebraic_GluDwIdeal_GluDwRefIdeal [hGluDwIdeal : Cert.GluDwIdeal.Facts] [hGluDwRefIdeal : Cert.GluDwRefIdeal.Facts] : Prop :=
  ∀ (m : (ℓ : Loc Cert.GluDwIdeal.nD Cert.GluDwIdeal.τ Cert.GluDwIdeal.sig) → Buf (Elt Ideal) ℓ) (g : Dev Cert.GluDwIdeal.nD → PrngReg)
    (m' : (ℓ : Loc Cert.GluDwRefIdeal.nD Cert.GluDwRefIdeal.τ Cert.GluDwRefIdeal.sig) → Buf (Elt Ideal) ℓ) (g' : Dev Cert.GluDwRefIdeal.nD → PrngReg), Pre_GluDwIdeal m →
    (∀ c : Dev Cert.GluDwIdeal.nD,
      m' ((c.tc : Thread Cert.GluDwRefIdeal.nD Cert.GluDwRefIdeal.τ).loc Cert.GluDwRefIdeal.main_arg0) = m ((c.tc : Thread Cert.GluDwIdeal.nD Cert.GluDwIdeal.τ).loc Cert.GluDwIdeal.main_arg0)
      ∧ m' ((c.tc : Thread Cert.GluDwRefIdeal.nD Cert.GluDwRefIdeal.τ).loc Cert.GluDwRefIdeal.main_arg1) = m ((c.tc : Thread Cert.GluDwIdeal.nD Cert.GluDwIdeal.τ).loc Cert.GluDwIdeal.main_arg1)
      ∧ m' ((c.tc : Thread Cert.GluDwRefIdeal.nD Cert.GluDwRefIdeal.τ).loc Cert.GluDwRefIdeal.main_arg2) = m ((c.tc : Thread Cert.GluDwIdeal.nD Cert.GluDwIdeal.τ).loc Cert.GluDwIdeal.main_arg2)) →
    ∃ (v0 : (c : Dev Cert.GluDwIdeal.nD) → Buf (Elt Ideal) ((c.tc : Thread Cert.GluDwIdeal.nD Cert.GluDwIdeal.τ).loc Cert.GluDwIdeal.main_v0)),
      θ_run (Cert.GluDwIdeal.defs (F := Ideal)) (onTc (τ := Cert.GluDwIdeal.τ) (Cert.GluDwIdeal.main (F := Ideal))) ⟨m, fun _ => 0, g⟩ (fun r => ∀ c : Dev Cert.GluDwIdeal.nD,
          r.2.mem ((c.tc : Thread Cert.GluDwIdeal.nD Cert.GluDwIdeal.τ).loc Cert.GluDwIdeal.main_v0) = v0 c
          ∧ r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
          ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1)
          ∧ r.2.mem ((c.tc : Thread Cert.GluDwIdeal.nD Cert.GluDwIdeal.τ).loc Cert.GluDwIdeal.main_arg2) = m ((c.tc : Thread Cert.GluDwIdeal.nD Cert.GluDwIdeal.τ).loc Cert.GluDwIdeal.main_arg2))
      ∧ θ_run (Cert.GluDwRefIdeal.defs (F := Ideal)) (onTc (τ := Cert.GluDwRefIdeal.τ) (Cert.GluDwRefIdeal.main (F := Ideal))) ⟨m', fun _ => 0, g'⟩ (fun r => ∀ c : Dev Cert.GluDwRefIdeal.nD,
          r.2.mem ((c.tc : Thread Cert.GluDwRefIdeal.nD Cert.GluDwRefIdeal.τ).loc Cert.GluDwRefIdeal.main_v5) = v0 c
          ∧ r.2.mem ((c.tc : Thread Cert.GluDwRefIdeal.nD Cert.GluDwRefIdeal.τ).loc Cert.GluDwRefIdeal.main_arg0) = m' ((c.tc : Thread Cert.GluDwRefIdeal.nD Cert.GluDwRefIdeal.τ).loc Cert.GluDwRefIdeal.main_arg0)
          ∧ r.2.mem ((c.tc : Thread Cert.GluDwRefIdeal.nD Cert.GluDwRefIdeal.τ).loc Cert.GluDwRefIdeal.main_arg1) = m' ((c.tc : Thread Cert.GluDwRefIdeal.nD Cert.GluDwRefIdeal.τ).loc Cert.GluDwRefIdeal.main_arg1)
          ∧ r.2.mem ((c.tc : Thread Cert.GluDwRefIdeal.nD Cert.GluDwRefIdeal.τ).loc Cert.GluDwRefIdeal.main_arg2) = m' ((c.tc : Thread Cert.GluDwRefIdeal.nD Cert.GluDwRefIdeal.τ).loc Cert.GluDwRefIdeal.main_arg2))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)
      ∧ m' ((c.tc : Thread Cert.InDwRefIdeal.nD Cert.InDwRefIdeal.τ).loc Cert.InDwRefIdeal.main_arg2) = m ((c.tc : Thread Cert.InDwIdeal.nD Cert.InDwIdeal.τ).loc Cert.InDwIdeal.main_arg2)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
          ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v5) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1)
          ∧ r.2.mem ((c.tc : Thread Cert.InDwRefIdeal.nD Cert.InDwRefIdeal.τ).loc Cert.InDwRefIdeal.main_arg2) = m' ((c.tc : Thread Cert.InDwRefIdeal.nD Cert.InDwRefIdeal.τ).loc Cert.InDwRefIdeal.main_arg2))

def preserves_UqDw_UqDwIdeal : Prop :=
  True

def algebraic_UqDwIdeal_UqDwRefIdeal [hUqDwIdeal : Cert.UqDwIdeal.Facts] [hUqDwRefIdeal : Cert.UqDwRefIdeal.Facts] : Prop :=
  ∀ (m : (ℓ : Loc Cert.UqDwIdeal.nD Cert.UqDwIdeal.τ Cert.UqDwIdeal.sig) → Buf (Elt Ideal) ℓ) (g : Dev Cert.UqDwIdeal.nD → PrngReg)
    (m' : (ℓ : Loc Cert.UqDwRefIdeal.nD Cert.UqDwRefIdeal.τ Cert.UqDwRefIdeal.sig) → Buf (Elt Ideal) ℓ) (g' : Dev Cert.UqDwRefIdeal.nD → PrngReg), Pre_UqDwIdeal m →
    (∀ c : Dev Cert.UqDwIdeal.nD,
      m' ((c.tc : Thread Cert.UqDwRefIdeal.nD Cert.UqDwRefIdeal.τ).loc Cert.UqDwRefIdeal.main_arg0) = m ((c.tc : Thread Cert.UqDwIdeal.nD Cert.UqDwIdeal.τ).loc Cert.UqDwIdeal.main_arg0)
      ∧ m' ((c.tc : Thread Cert.UqDwRefIdeal.nD Cert.UqDwRefIdeal.τ).loc Cert.UqDwRefIdeal.main_arg1) = m ((c.tc : Thread Cert.UqDwIdeal.nD Cert.UqDwIdeal.τ).loc Cert.UqDwIdeal.main_arg1)
      ∧ m' ((c.tc : Thread Cert.UqDwRefIdeal.nD Cert.UqDwRefIdeal.τ).loc Cert.UqDwRefIdeal.main_arg2) = m ((c.tc : Thread Cert.UqDwIdeal.nD Cert.UqDwIdeal.τ).loc Cert.UqDwIdeal.main_arg2)) →
    ∃ (v0 : (c : Dev Cert.UqDwIdeal.nD) → Buf (Elt Ideal) ((c.tc : Thread Cert.UqDwIdeal.nD Cert.UqDwIdeal.τ).loc Cert.UqDwIdeal.main_v0)),
      θ_run (Cert.UqDwIdeal.defs (F := Ideal)) (onTc (τ := Cert.UqDwIdeal.τ) (Cert.UqDwIdeal.main (F := Ideal))) ⟨m, fun _ => 0, g⟩ (fun r => ∀ c : Dev Cert.UqDwIdeal.nD,
          r.2.mem ((c.tc : Thread Cert.UqDwIdeal.nD Cert.UqDwIdeal.τ).loc Cert.UqDwIdeal.main_v0) = v0 c
          ∧ r.2.mem ((c.tc : Thread Cert.UqDwIdeal.nD Cert.UqDwIdeal.τ).loc Cert.UqDwIdeal.main_arg0) = m ((c.tc : Thread Cert.UqDwIdeal.nD Cert.UqDwIdeal.τ).loc Cert.UqDwIdeal.main_arg0)
          ∧ r.2.mem ((c.tc : Thread Cert.UqDwIdeal.nD Cert.UqDwIdeal.τ).loc Cert.UqDwIdeal.main_arg1) = m ((c.tc : Thread Cert.UqDwIdeal.nD Cert.UqDwIdeal.τ).loc Cert.UqDwIdeal.main_arg1)
          ∧ r.2.mem ((c.tc : Thread Cert.UqDwIdeal.nD Cert.UqDwIdeal.τ).loc Cert.UqDwIdeal.main_arg2) = m ((c.tc : Thread Cert.UqDwIdeal.nD Cert.UqDwIdeal.τ).loc Cert.UqDwIdeal.main_arg2))
      ∧ θ_run (Cert.UqDwRefIdeal.defs (F := Ideal)) (onTc (τ := Cert.UqDwRefIdeal.τ) (Cert.UqDwRefIdeal.main (F := Ideal))) ⟨m', fun _ => 0, g'⟩ (fun r => ∀ c : Dev Cert.UqDwRefIdeal.nD,
          r.2.mem ((c.tc : Thread Cert.UqDwRefIdeal.nD Cert.UqDwRefIdeal.τ).loc Cert.UqDwRefIdeal.main_v5) = v0 c
          ∧ r.2.mem ((c.tc : Thread Cert.UqDwRefIdeal.nD Cert.UqDwRefIdeal.τ).loc Cert.UqDwRefIdeal.main_arg0) = m' ((c.tc : Thread Cert.UqDwRefIdeal.nD Cert.UqDwRefIdeal.τ).loc Cert.UqDwRefIdeal.main_arg0)
          ∧ r.2.mem ((c.tc : Thread Cert.UqDwRefIdeal.nD Cert.UqDwRefIdeal.τ).loc Cert.UqDwRefIdeal.main_arg1) = m' ((c.tc : Thread Cert.UqDwRefIdeal.nD Cert.UqDwRefIdeal.τ).loc Cert.UqDwRefIdeal.main_arg1)
          ∧ r.2.mem ((c.tc : Thread Cert.UqDwRefIdeal.nD Cert.UqDwRefIdeal.τ).loc Cert.UqDwRefIdeal.main_arg2) = m' ((c.tc : Thread Cert.UqDwRefIdeal.nD Cert.UqDwRefIdeal.τ).loc Cert.UqDwRefIdeal.main_arg2))

def preserves_UkvDw_UkvDwIdeal : Prop :=
  True

def algebraic_UkvDwIdeal_UkvDwRefIdeal [hUkvDwIdeal : Cert.UkvDwIdeal.Facts] [hUkvDwRefIdeal : Cert.UkvDwRefIdeal.Facts] : Prop :=
  ∀ (m : (ℓ : Loc Cert.UkvDwIdeal.nD Cert.UkvDwIdeal.τ Cert.UkvDwIdeal.sig) → Buf (Elt Ideal) ℓ) (g : Dev Cert.UkvDwIdeal.nD → PrngReg)
    (m' : (ℓ : Loc Cert.UkvDwRefIdeal.nD Cert.UkvDwRefIdeal.τ Cert.UkvDwRefIdeal.sig) → Buf (Elt Ideal) ℓ) (g' : Dev Cert.UkvDwRefIdeal.nD → PrngReg), Pre_UkvDwIdeal m →
    (∀ c : Dev Cert.UkvDwIdeal.nD,
      m' ((c.tc : Thread Cert.UkvDwRefIdeal.nD Cert.UkvDwRefIdeal.τ).loc Cert.UkvDwRefIdeal.main_arg0) = m ((c.tc : Thread Cert.UkvDwIdeal.nD Cert.UkvDwIdeal.τ).loc Cert.UkvDwIdeal.main_arg0)
      ∧ m' ((c.tc : Thread Cert.UkvDwRefIdeal.nD Cert.UkvDwRefIdeal.τ).loc Cert.UkvDwRefIdeal.main_arg1) = m ((c.tc : Thread Cert.UkvDwIdeal.nD Cert.UkvDwIdeal.τ).loc Cert.UkvDwIdeal.main_arg1)
      ∧ m' ((c.tc : Thread Cert.UkvDwRefIdeal.nD Cert.UkvDwRefIdeal.τ).loc Cert.UkvDwRefIdeal.main_arg2) = m ((c.tc : Thread Cert.UkvDwIdeal.nD Cert.UkvDwIdeal.τ).loc Cert.UkvDwIdeal.main_arg2)) →
    ∃ (v0 : (c : Dev Cert.UkvDwIdeal.nD) → Buf (Elt Ideal) ((c.tc : Thread Cert.UkvDwIdeal.nD Cert.UkvDwIdeal.τ).loc Cert.UkvDwIdeal.main_v0)),
      θ_run (Cert.UkvDwIdeal.defs (F := Ideal)) (onTc (τ := Cert.UkvDwIdeal.τ) (Cert.UkvDwIdeal.main (F := Ideal))) ⟨m, fun _ => 0, g⟩ (fun r => ∀ c : Dev Cert.UkvDwIdeal.nD,
          r.2.mem ((c.tc : Thread Cert.UkvDwIdeal.nD Cert.UkvDwIdeal.τ).loc Cert.UkvDwIdeal.main_v0) = v0 c
          ∧ r.2.mem ((c.tc : Thread Cert.UkvDwIdeal.nD Cert.UkvDwIdeal.τ).loc Cert.UkvDwIdeal.main_arg0) = m ((c.tc : Thread Cert.UkvDwIdeal.nD Cert.UkvDwIdeal.τ).loc Cert.UkvDwIdeal.main_arg0)
          ∧ r.2.mem ((c.tc : Thread Cert.UkvDwIdeal.nD Cert.UkvDwIdeal.τ).loc Cert.UkvDwIdeal.main_arg1) = m ((c.tc : Thread Cert.UkvDwIdeal.nD Cert.UkvDwIdeal.τ).loc Cert.UkvDwIdeal.main_arg1)
          ∧ r.2.mem ((c.tc : Thread Cert.UkvDwIdeal.nD Cert.UkvDwIdeal.τ).loc Cert.UkvDwIdeal.main_arg2) = m ((c.tc : Thread Cert.UkvDwIdeal.nD Cert.UkvDwIdeal.τ).loc Cert.UkvDwIdeal.main_arg2))
      ∧ θ_run (Cert.UkvDwRefIdeal.defs (F := Ideal)) (onTc (τ := Cert.UkvDwRefIdeal.τ) (Cert.UkvDwRefIdeal.main (F := Ideal))) ⟨m', fun _ => 0, g'⟩ (fun r => ∀ c : Dev Cert.UkvDwRefIdeal.nD,
          r.2.mem ((c.tc : Thread Cert.UkvDwRefIdeal.nD Cert.UkvDwRefIdeal.τ).loc Cert.UkvDwRefIdeal.main_v5) = v0 c
          ∧ r.2.mem ((c.tc : Thread Cert.UkvDwRefIdeal.nD Cert.UkvDwRefIdeal.τ).loc Cert.UkvDwRefIdeal.main_arg0) = m' ((c.tc : Thread Cert.UkvDwRefIdeal.nD Cert.UkvDwRefIdeal.τ).loc Cert.UkvDwRefIdeal.main_arg0)
          ∧ r.2.mem ((c.tc : Thread Cert.UkvDwRefIdeal.nD Cert.UkvDwRefIdeal.τ).loc Cert.UkvDwRefIdeal.main_arg1) = m' ((c.tc : Thread Cert.UkvDwRefIdeal.nD Cert.UkvDwRefIdeal.τ).loc Cert.UkvDwRefIdeal.main_arg1)
          ∧ r.2.mem ((c.tc : Thread Cert.UkvDwRefIdeal.nD Cert.UkvDwRefIdeal.τ).loc Cert.UkvDwRefIdeal.main_arg2) = m' ((c.tc : Thread Cert.UkvDwRefIdeal.nD Cert.UkvDwRefIdeal.τ).loc Cert.UkvDwRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)) (v4 : (c : Dev Cert.MergeIdeal.nD) → Buf (Elt Ideal) ((c.tc : Thread Cert.MergeIdeal.nD Cert.MergeIdeal.τ).loc Cert.MergeIdeal.main_v0_4)) (v5 : (c : Dev Cert.MergeIdeal.nD) → Buf (Elt Ideal) ((c.tc : Thread Cert.MergeIdeal.nD Cert.MergeIdeal.τ).loc Cert.MergeIdeal.main_v0_5)) (v6 : (c : Dev Cert.MergeIdeal.nD) → Buf (Elt Ideal) ((c.tc : Thread Cert.MergeIdeal.nD Cert.MergeIdeal.τ).loc Cert.MergeIdeal.main_v0_6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_v0_4) = v4 c
          ∧ r.2.mem ((c.tc : Thread Cert.MergeIdeal.nD Cert.MergeIdeal.τ).loc Cert.MergeIdeal.main_v0_5) = v5 c
          ∧ r.2.mem ((c.tc : Thread Cert.MergeIdeal.nD Cert.MergeIdeal.τ).loc Cert.MergeIdeal.main_v0_6) = v6 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v71) = v0 c
          ∧ r.2.mem ((c.tc : Thread Cert.MergeRefIdeal.nD Cert.MergeRefIdeal.τ).loc Cert.MergeRefIdeal.main_v72) = v1 c
          ∧ r.2.mem ((c.tc : Thread Cert.MergeRefIdeal.nD Cert.MergeRefIdeal.τ).loc Cert.MergeRefIdeal.main_v73) = v2 c
          ∧ r.2.mem ((c.tc : Thread Cert.MergeRefIdeal.nD Cert.MergeRefIdeal.τ).loc Cert.MergeRefIdeal.main_v45) = v3 c
          ∧ r.2.mem ((c.tc : Thread Cert.MergeRefIdeal.nD Cert.MergeRefIdeal.τ).loc Cert.MergeRefIdeal.main_v58) = v4 c
          ∧ r.2.mem ((c.tc : Thread Cert.MergeRefIdeal.nD Cert.MergeRefIdeal.τ).loc Cert.MergeRefIdeal.main_v74) = v5 c
          ∧ r.2.mem ((c.tc : Thread Cert.MergeRefIdeal.nD Cert.MergeRefIdeal.τ).loc Cert.MergeRefIdeal.main_v75) = v6 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hOutDw : Cert.OutDw.Facts) (hOutDwIdeal : Cert.OutDwIdeal.Facts) (hOutDwRefIdeal : Cert.OutDwRefIdeal.Facts) (hBranchAttnDw : Cert.BranchAttnDw.Facts) (hBranchAttnDwIdeal : Cert.BranchAttnDwIdeal.Facts) (hBranchAttnDwRefIdeal : Cert.BranchAttnDwRefIdeal.Facts) (hBranchSsmDw : Cert.BranchSsmDw.Facts) (hBranchSsmDwIdeal : Cert.BranchSsmDwIdeal.Facts) (hBranchSsmDwRefIdeal : Cert.BranchSsmDwRefIdeal.Facts) (hGluDw : Cert.GluDw.Facts) (hGluDwIdeal : Cert.GluDwIdeal.Facts) (hGluDwRefIdeal : Cert.GluDwRefIdeal.Facts) (hInDw : Cert.InDw.Facts) (hInDwIdeal : Cert.InDwIdeal.Facts) (hInDwRefIdeal : Cert.InDwRefIdeal.Facts) (hUqDw : Cert.UqDw.Facts) (hUqDwIdeal : Cert.UqDwIdeal.Facts) (hUqDwRefIdeal : Cert.UqDwRefIdeal.Facts) (hUkvDw : Cert.UkvDw.Facts) (hUkvDwIdeal : Cert.UkvDwIdeal.Facts) (hUkvDwRefIdeal : Cert.UkvDwRefIdeal.Facts) (hMerge : Cert.Merge.Facts) (hMergeIdeal : Cert.MergeIdeal.Facts) (hMergeRefIdeal : Cert.MergeRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_BranchAttnDw (hBranchAttnDw := hBranchAttnDw)
    ∧ quiescent_BranchAttnDwIdeal (hBranchAttnDwIdeal := hBranchAttnDwIdeal)
    ∧ quiescent_BranchAttnDwRefIdeal (hBranchAttnDwRefIdeal := hBranchAttnDwRefIdeal)
    ∧ quiescent_BranchSsmDw (hBranchSsmDw := hBranchSsmDw)
    ∧ quiescent_BranchSsmDwIdeal (hBranchSsmDwIdeal := hBranchSsmDwIdeal)
    ∧ quiescent_BranchSsmDwRefIdeal (hBranchSsmDwRefIdeal := hBranchSsmDwRefIdeal)
    ∧ quiescent_GluDw (hGluDw := hGluDw)
    ∧ quiescent_GluDwIdeal (hGluDwIdeal := hGluDwIdeal)
    ∧ quiescent_GluDwRefIdeal (hGluDwRefIdeal := hGluDwRefIdeal)
    ∧ quiescent_InDw (hInDw := hInDw)
    ∧ quiescent_InDwIdeal (hInDwIdeal := hInDwIdeal)
    ∧ quiescent_InDwRefIdeal (hInDwRefIdeal := hInDwRefIdeal)
    ∧ quiescent_UqDw (hUqDw := hUqDw)
    ∧ quiescent_UqDwIdeal (hUqDwIdeal := hUqDwIdeal)
    ∧ quiescent_UqDwRefIdeal (hUqDwRefIdeal := hUqDwRefIdeal)
    ∧ quiescent_UkvDw (hUkvDw := hUkvDw)
    ∧ quiescent_UkvDwIdeal (hUkvDwIdeal := hUkvDwIdeal)
    ∧ quiescent_UkvDwRefIdeal (hUkvDwRefIdeal := hUkvDwRefIdeal)
    ∧ quiescent_Merge (hMerge := hMerge)
    ∧ quiescent_MergeIdeal (hMergeIdeal := hMergeIdeal)
    ∧ quiescent_MergeRefIdeal (hMergeRefIdeal := hMergeRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_OutDw_OutDwIdeal
    ∧ algebraic_OutDwIdeal_OutDwRefIdeal (hOutDwIdeal := hOutDwIdeal) (hOutDwRefIdeal := hOutDwRefIdeal)
    ∧ preserves_BranchAttnDw_BranchAttnDwIdeal
    ∧ algebraic_BranchAttnDwIdeal_BranchAttnDwRefIdeal (hBranchAttnDwIdeal := hBranchAttnDwIdeal) (hBranchAttnDwRefIdeal := hBranchAttnDwRefIdeal)
    ∧ preserves_BranchSsmDw_BranchSsmDwIdeal
    ∧ algebraic_BranchSsmDwIdeal_BranchSsmDwRefIdeal (hBranchSsmDwIdeal := hBranchSsmDwIdeal) (hBranchSsmDwRefIdeal := hBranchSsmDwRefIdeal)
    ∧ preserves_GluDw_GluDwIdeal
    ∧ algebraic_GluDwIdeal_GluDwRefIdeal (hGluDwIdeal := hGluDwIdeal) (hGluDwRefIdeal := hGluDwRefIdeal)
    ∧ preserves_InDw_InDwIdeal
    ∧ algebraic_InDwIdeal_InDwRefIdeal (hInDwIdeal := hInDwIdeal) (hInDwRefIdeal := hInDwRefIdeal)
    ∧ preserves_UqDw_UqDwIdeal
    ∧ algebraic_UqDwIdeal_UqDwRefIdeal (hUqDwIdeal := hUqDwIdeal) (hUqDwRefIdeal := hUqDwRefIdeal)
    ∧ preserves_UkvDw_UkvDwIdeal
    ∧ algebraic_UkvDwIdeal_UkvDwRefIdeal (hUkvDwIdeal := hUkvDwIdeal) (hUkvDwRefIdeal := hUkvDwRefIdeal)
    ∧ preserves_Merge_MergeIdeal
    ∧ algebraic_MergeIdeal_MergeRefIdeal (hMergeIdeal := hMergeIdeal) (hMergeRefIdeal := hMergeRefIdeal)
-- ==== Pre_finite.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32

variable [Facts]

def fn_part1 {F : FTy → Type} [FloatOps F] (main_v15 : IVec S_ 1) (main_v16 : FVec F S4096x1024 .f32) (main_cst_4 : FVec F S_ .f32) : IVec S_ 1 :=
  let main_v17 : FVec F S4096x1024 .f32 := broadcastInDim S4096x1024 ![] bcast_S_S4096x1024 main_cst_4
  let main_v18 : IVec S4096x1024 1 := cmpf .olt main_v16 main_v17
  let main_c_5 : IVec S_ 1 := constantI S_ 1 1#1
  let main_v19 : IVec S_ 1 := (fun x v => Host.reduce IntOp.andi x v reducesTo_S4096x1024_S_d0_1 h_S_) main_v18 main_c_5
  let main_v20 : IVec S_ 1 := andi main_v15 main_v19
  main_v20

def fn {F : FTy → Type} [FloatOps F] (main_arg0 : FVec F S4096x1024 .f32) (main_arg1 : FVec F S4096x1024 .bf16) (main_arg2 : FVec F S4096x1024 .bf16) (main_arg3 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : IVec S_ 1 := andi main_v3 main_v8
  let main_v10 : FVec F S4096x1024 .f32 := (extf .f32 · bitsLt_bf16_f32) main_arg2
  let main_v11 : FVec F S4096x1024 .f32 := Host.absf main_v10
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v9 main_v14
  let main_v16 : FVec F S4096x1024 .f32 := Host.absf main_arg3
  let main_cst_4 : FVec F S_ .f32 := constant S_ .f32 0x7F800000#32
  fn_part1 (F := F) main_v15 main_v16 main_cst_4
-- ==== Kernel.lean ====
abbrev S4096x1024 : Shape := ⟨2, ![4096, 1024]⟩
abbrev S36 : Shape := ⟨1, ![36]⟩
abbrev S4096x8x128 : Shape := ⟨3, ![4096, 8, 128]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x128x4096 : Shape := ⟨3, ![8, 128, 4096]⟩
abbrev S8x1x4096 : Shape := ⟨3, ![8, 1, 4096]⟩
abbrev S512x1024 : Shape := ⟨2, ![512, 1024]⟩
abbrev S1 : Shape := ⟨1, ![1]⟩
abbrev S8x1x512 : Shape := ⟨3, ![8, 1, 512]⟩
abbrev S512x128 : Shape := ⟨2, ![512, 128]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 54
  | .vmem => 19
  | .smem => 2
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x1024, .f32⟩
  | .hbm, ⟨4, _⟩ => ⟨S4096x8x128, .f32⟩
  | .hbm, ⟨5, _⟩ => ⟨S4096x1024, .f32⟩
  | .hbm, ⟨6, _⟩ => ⟨S4096x8x128, .f32⟩
  | .hbm, ⟨7, _⟩ => ⟨S4096x1024, .f32⟩
  | .hbm, ⟨8, _⟩ => ⟨S4096x8x128, .f32⟩
  | .hbm, ⟨9, _⟩ => ⟨S4096x8x128, .f32⟩
  | .hbm, ⟨10, _⟩ => ⟨S8x4096x4096, .f32⟩
  | .hbm, ⟨11, _⟩ => ⟨S_, .f32⟩
  | .hbm, ⟨12, _⟩ => ⟨S8x4096x4096, .f32⟩
  | .hbm, ⟨13, _⟩ => ⟨S8x4096x4096, .f32⟩
  | .hbm, ⟨14, _⟩ => ⟨S8x4096x4096, .i32⟩
  | .hbm, ⟨15, _⟩ => ⟨S8x4096x4096, .i32⟩
  | .hbm, ⟨16, _⟩ => ⟨S8x4096x4096, .i1⟩
  | .hbm, ⟨17, _⟩ => ⟨S_, .f32⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096, .f32⟩
  | .hbm, ⟨22, _⟩ => ⟨S8x4096x1, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S8x4096x4096, .f32⟩
  | .hbm, ⟨30, _⟩ => ⟨S8x4096x4096, .f32⟩
  | .hbm, ⟨31, _⟩ => ⟨S8x128x4096, .f32⟩
  | .hbm, ⟨32, _⟩ => ⟨S4096x8x128, .f32⟩
  | .hbm, ⟨33, _⟩ => ⟨S8x4096, .f32⟩
  | .hbm, ⟨34, _⟩ => ⟨S8x4096, .f32⟩
  | .hbm, ⟨35, _⟩ => ⟨S_, .f32⟩
  | .hbm, ⟨36, _⟩ => ⟨S_, .f32⟩
  | .hbm, ⟨37, _⟩ => ⟨S8x4096, .f32⟩
  | .hbm, ⟨38, _⟩ => ⟨S8x4096, .f32⟩
  | .hbm, ⟨39, _⟩ => ⟨S8x4096, .f32⟩
  | .hbm, ⟨40, _⟩ => ⟨S8x1x4096, .f32⟩
  | .hbm, ⟨41, _⟩ => ⟨S8x1x4096, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1024, .bf16⟩
  | .hbm, ⟨50, _⟩ => ⟨S4096x1024, .bf16⟩
  | .hbm, ⟨51, _⟩ => ⟨S4096x1024, .f32⟩
  | .hbm, ⟨52, _⟩ => ⟨S4096x1024, .bf16⟩
  | .hbm, ⟨53, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S8x1x512, .f32⟩
  | .local _ .vmem, ⟨9, _⟩ => ⟨S8x1x512, .f32⟩
  | .local _ .vmem, ⟨10, _⟩ => ⟨S8x1x512, .f32⟩
  | .local _ .vmem, ⟨11, _⟩ => ⟨S8x1x512, .f32⟩
  | .local _ .vmem, ⟨12, _⟩ => ⟨S4096x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .smem, ⟨0, _⟩ => ⟨S36, .i32⟩
  | .local _ .smem, ⟨1, _⟩ => ⟨S36, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40_0 : Ref sig .tc := ⟨.hbm, 51, rfl⟩
abbrev main_v40_1 : Ref sig .tc := ⟨.hbm, 52, rfl⟩
abbrev main_v40_2 : Ref sig .tc := ⟨.hbm, 53, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![1, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c512_i32 : BitVec 32 := 512#32
  let v19 : BitVec 32 := Scalar.muli v1 c512_i32
  v19
def k0_cond3 (v1 : BitVec 32) (v3 : BitVec 32) : BitVec 1 :=
  let v10 : BitVec 1 := Scalar.cmpi .slt v3 v1
  let v11 : BitVec 32 := Scalar.extui v10
  let c0_i32_2 : BitVec 32 := 0#32
  let v12 : BitVec 1 := Scalar.cmpi .ne v11 c0_i32_2
  v12

def k0_off2 (v1 : BitVec 32) : Fin 2 → Nat :=
  let c512_i32 : BitVec 32 := 512#32
  let v19 : BitVec 32 := Scalar.muli v1 c512_i32
  let v20 : BitVec 32 := v19
  let v53 : Index := Scalar.indexCast v20
  let c0_29 : Index := 0#32
  ![v53.toNat, 0]
def k0_off3 (v1 : BitVec 32) : Fin 2 → Nat :=
  let c512_i32 : BitVec 32 := 512#32
  let v19 : BitVec 32 := Scalar.muli v1 c512_i32
  let v20 : BitVec 32 := v19
  let v94 : Index := Scalar.indexCast v20
  let c128_57 : Index := 128#32
  ![v94.toNat, 128]
def k0_off4 (v1 : BitVec 32) : Fin 2 → Nat :=
  let c512_i32 : BitVec 32 := 512#32
  let v19 : BitVec 32 := Scalar.muli v1 c512_i32
  let v20 : BitVec 32 := v19
  let v135 : Index := Scalar.indexCast v20
  let c256_85 : Index := 256#32
  ![v135.toNat, 256]
def k0_off5 (v1 : BitVec 32) : Fin 2 → Nat :=
  let c512_i32 : BitVec 32 := 512#32
  let v19 : BitVec 32 := Scalar.muli v1 c512_i32
  let v20 : BitVec 32 := v19
  let v176 : Index := Scalar.indexCast v20
  let c384_113 : Index := 384#32
  ![v176.toNat, 384]
def k0_off6 (v1 : BitVec 32) : Fin 2 → Nat :=
  let c512_i32 : BitVec 32 := 512#32
  let v19 : BitVec 32 := Scalar.muli v1 c512_i32
  let v20 : BitVec 32 := v19
  let v217 : Index := Scalar.indexCast v20
  let c512_141 : Index := 512#32
  ![v217.toNat, 512]
def k0_off7 (v1 : BitVec 32) : Fin 2 → Nat :=
  let c512_i32 : BitVec 32 := 512#32
  let v19 : BitVec 32 := Scalar.muli v1 c512_i32
  let v20 : BitVec 32 := v19
  let v258 : Index := Scalar.indexCast v20
  let c640_169 : Index := 640#32
  ![v258.toNat, 640]
def k0_off8 (v1 : BitVec 32) : Fin 2 → Nat :=
  let c512_i32 : BitVec 32 := 512#32
  let v19 : BitVec 32 := Scalar.muli v1 c512_i32
  let v20 : BitVec 32 := v19
  let v299 : Index := Scalar.indexCast v20
  let c768_197 : Index := 768#32
  ![v299.toNat, 768]
def k0_off9 (v1 : BitVec 32) : Fin 2 → Nat :=
  let c512_i32 : BitVec 32 := 512#32
  let v19 : BitVec 32 := Scalar.muli v1 c512_i32
  let v20 : BitVec 32 := v19
  let v340 : Index := Scalar.indexCast v20
  let c896_225 : Index := 896#32
  ![v340.toNat, 896]
def k0_mult2 (v1 : BitVec 32) : BitVec 32 :=
  let c512_i32 : BitVec 32 := 512#32
  let v19 : BitVec 32 := Scalar.muli v1 c512_i32
  v19
def k0_cond4 (v1 : BitVec 32) (v3 : BitVec 32) : BitVec 1 :=
  let v13 : BitVec 1 := Scalar.cmpi .eq v3 v1
  let v14 : BitVec 32 := Scalar.extui v13
  let c0_i32_3 : BitVec 32 := 0#32
  let v15 : BitVec 1 := Scalar.cmpi .ne v14 c0_i32_3
  v15

def k0_off10 (v1 : BitVec 32) : Fin 2 → Nat :=
  let c512_i32 : BitVec 32 := 512#32
  let v19 : BitVec 32 := Scalar.muli v1 c512_i32
  let v20 : BitVec 32 := v19
  let v58 : Index := Scalar.indexCast v20
  let c0_30 : Index := 0#32
  ![v58.toNat, 0]
def k0_off11 (v1 : BitVec 32) : Fin 2 → Nat :=
  let c512_i32 : BitVec 32 := 512#32
  let v19 : BitVec 32 := Scalar.muli v1 c512_i32
  let v20 : BitVec 32 := v19
  let v104 : Index := Scalar.indexCast v20
  let c128_59 : Index := 128#32
  ![v104.toNat, 128]
def k0_off12 (v1 : BitVec 32) : Fin 2 → Nat :=
  let c512_i32 : BitVec 32 := 512#32
  let v19 : BitVec 32 := Scalar.muli v1 c512_i32
  let v20 : BitVec 32 := v19
  let v150 : Index := Scalar.indexCast v20
  let c256_88 : Index := 256#32
  ![v150.toNat, 256]
def k0_off13 (v1 : BitVec 32) : Fin 2 → Nat :=
  let c512_i32 : BitVec 32 := 512#32
  let v19 : BitVec 32 := Scalar.muli v1 c512_i32
  let v20 : BitVec 32 := v19
  let v196 : Index := Scalar.indexCast v20
  let c384_117 : Index := 384#32
  ![v196.toNat, 384]
def k0_off14 (v1 : BitVec 32) : Fin 2 → Nat :=
  let c512_i32 : BitVec 32 := 512#32
  let v19 : BitVec 32 := Scalar.muli v1 c512_i32
  let v20 : BitVec 32 := v19
  let v242 : Index := Scalar.indexCast v20
  let c512_146 : Index := 512#32
  ![v242.toNat, 512]
def k0_off15 (v1 : BitVec 32) : Fin 2 → Nat :=
  let c512_i32 : BitVec 32 := 512#32
  let v19 : BitVec 32 := Scalar.muli v1 c512_i32
  let v20 : BitVec 32 := v19
  let v288 : Index := Scalar.indexCast v20
  let c640_175 : Index := 640#32
  ![v288.toNat, 640]
def k0_off16 (v1 : BitVec 32) : Fin 2 → Nat :=
  let c512_i32 : BitVec 32 := 512#32
  let v19 : BitVec 32 := Scalar.muli v1 c512_i32
  let v20 : BitVec 32 := v19
  let v334 : Index := Scalar.indexCast v20
  let c768_204 : Index := 768#32
  ![v334.toNat, 768]
def k0_off17 (v1 : BitVec 32) : Fin 2 → Nat :=
  let c512_i32 : BitVec 32 := 512#32
  let v19 : BitVec 32 := Scalar.muli v1 c512_i32
  let v20 : BitVec 32 := v19
  let v380 : Index := Scalar.indexCast v20
  let c896_233 : Index := 896#32
  ![v380.toNat, 896]

def k0_chk1 (v1 : BitVec 32) (v3 : BitVec 32) : Prop :=
  (∀ (k0_h3 : k0_cond3 v1 v3 = 1#1), 512 ∣ (k0_mult1 v1).toNat) ∧
  (∀ (k0_h3 : k0_cond3 v1 v3 = 1#1), ∀ a, (k0_off2 v1) a + S512x128.size a ≤ S4096x1024.size a) ∧
  (∀ (k0_h3 : k0_cond3 v1 v3 = 1#1), ∀ a, (k0_off3 v1) a + S512x128.size a ≤ S4096x1024.size a) ∧
  (∀ (k0_h3 : k0_cond3 v1 v3 = 1#1), ∀ a, (k0_off4 v1) a + S512x128.size a ≤ S4096x1024.size a) ∧
  (∀ (k0_h3 : k0_cond3 v1 v3 = 1#1), ∀ a, (k0_off5 v1) a + S512x128.size a ≤ S4096x1024.size a) ∧
  (∀ (k0_h3 : k0_cond3 v1 v3 = 1#1), ∀ a, (k0_off6 v1) a + S512x128.size a ≤ S4096x1024.size a) ∧
  (∀ (k0_h3 : k0_cond3 v1 v3 = 1#1), ∀ a, (k0_off7 v1) a + S512x128.size a ≤ S4096x1024.size a) ∧
  (∀ (k0_h3 : k0_cond3 v1 v3 = 1#1), ∀ a, (k0_off8 v1) a + S512x128.size a ≤ S4096x1024.size a) ∧
  (∀ (k0_h3 : k0_cond3 v1 v3 = 1#1), ∀ a, (k0_off9 v1) a + S512x128.size a ≤ S4096x1024.size a) ∧
  (∀ (k0_h4 : k0_cond4 v1 v3 = 1#1), 512 ∣ (k0_mult2 v1).toNat) ∧
  (∀ (k0_h4 : k0_cond4 v1 v3 = 1#1), ∀ a, (k0_off10 v1) a + S512x128.size a ≤ S4096x1024.size a) ∧
  (∀ (k0_h4 : k0_cond4 v1 v3 = 1#1), ∀ a, (k0_off11 v1) a + S512x128.size a ≤ S4096x1024.size a) ∧
  (∀ (k0_h4 : k0_cond4 v1 v3 = 1#1), ∀ a, (k0_off12 v1) a + S512x128.size a ≤ S4096x1024.size a) ∧
  (∀ (k0_h4 : k0_cond4 v1 v3 = 1#1), ∀ a, (k0_off13 v1) a + S512x128.size a ≤ S4096x1024.size a) ∧
  (∀ (k0_h4 : k0_cond4 v1 v3 = 1#1), ∀ a, (k0_off14 v1) a + S512x128.size a ≤ S4096x1024.size a) ∧
  (∀ (k0_h4 : k0_cond4 v1 v3 = 1#1), ∀ a, (k0_off15 v1) a + S512x128.size a ≤ S4096x1024.size a) ∧
  (∀ (k0_h4 : k0_cond4 v1 v3 = 1#1), ∀ a, (k0_off16 v1) a + S512x128.size a ≤ S4096x1024.size a) ∧
  (∀ (k0_h4 : k0_cond4 v1 v3 = 1#1), ∀ a, (k0_off17 v1) a + S512x128.size a ≤ S4096x1024.size a)
theorem k0_mult1_dvd : ∀ (v1 : BitVec 32) (v3 : BitVec 32) (k0_hw1 : k0_chk1 v1 v3), ∀ (k0_h3 : k0_cond3 v1 v3 = 1#1), 512 ∣ (k0_mult1 v1).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ a, (k0_off2 v1) a + S512x128.size a ≤ S4096x1024.size a := fun v1 v3 k0_hw1 k0_h3 => k0_hw1.2.1 k0_h3
theorem k0_off3_inb : ∀ (v1 : BitVec 32) (v3 : BitVec 32) (k0_hw1 : k0_chk1 v1 v3), ∀ (k0_h3 : k0_cond3 v1 v3 = 1#1), ∀ a, (k0_off3 v1) a + S512x128.size a ≤ S4096x1024.size a := fun v1 v3 k0_hw1 k0_h3 => k0_hw1.2.2.1 k0_h3
theorem k0_off4_inb : ∀ (v1 : BitVec 32) (v3 : BitVec 32) (k0_hw1 : k0_chk1 v1 v3), ∀ (k0_h3 : k0_cond3 v1 v3 = 1#1), ∀ a, (k0_off4 v1) a + S512x128.size a ≤ S4096x1024.size a := fun v1 v3 k0_hw1 k0_h3 => k0_hw1.2.2.2.1 k0_h3
theorem k0_off5_inb : ∀ (v1 : BitVec 32) (v3 : BitVec 32) (k0_hw1 : k0_chk1 v1 v3), ∀ (k0_h3 : k0_cond3 v1 v3 = 1#1), ∀ a, (k0_off5 v1) a + S512x128.size a ≤ S4096x1024.size a := fun v1 v3 k0_hw1 k0_h3 => k0_hw1.2.2.2.2.1 k0_h3
theorem k0_off6_inb : ∀ (v1 : BitVec 32) (v3 : BitVec 32) (k0_hw1 : k0_chk1 v1 v3), ∀ (k0_h3 : k0_cond3 v1 v3 = 1#1), ∀ a, (k0_off6 v1) a + S512x128.size a ≤ S4096x1024.size a := fun v1 v3 k0_hw1 k0_h3 => k0_hw1.2.2.2.2.2.1 k0_h3
theorem k0_off7_inb : ∀ (v1 : BitVec 32) (v3 : BitVec 32) (k0_hw1 : k0_chk1 v1 v3), ∀ (k0_h3 : k0_cond3 v1 v3 = 1#1), ∀ a, (k0_off7 v1) a + S512x128.size a ≤ S4096x1024.size a := fun v1 v3 k0_hw1 k0_h3 => k0_hw1.2.2.2.2.2.2.1 k0_h3
theorem k0_off8_inb : ∀ (v1 : BitVec 32) (v3 : BitVec 32) (k0_hw1 : k0_chk1 v1 v3), ∀ (k0_h3 : k0_cond3 v1 v3 = 1#1), ∀ a, (k0_off8 v1) a + S512x128.size a ≤ S4096x1024.size a := fun v1 v3 k0_hw1 k0_h3 => k0_hw1.2.2.2.2.2.2.2.1 k0_h3
theorem k0_off9_inb : ∀ (v1 : BitVec 32) (v3 : BitVec 32) (k0_hw1 : k0_chk1 v1 v3), ∀ (k0_h3 : k0_cond3 v1 v3 = 1#1), ∀ a, (k0_off9 v1) a + S512x128.size a ≤ S4096x1024.size a := fun v1 v3 k0_hw1 k0_h3 => k0_hw1.2.2.2.2.2.2.2.2.1 k0_h3
theorem k0_mult2_dvd : ∀ (v1 : BitVec 32) (v3 : BitVec 32) (k0_hw1 : k0_chk1 v1 v3), ∀ (k0_h4 : k0_cond4 v1 v3 = 1#1), 512 ∣ (k0_mult2 v1).toNat := fun v1 v3 k0_hw1 k0_h4 => k0_hw1.2.2.2.2.2.2.2.2.2.1 k0_h4
theorem k0_off10_inb : ∀ (v1 : BitVec 32) (v3 : BitVec 32) (k0_hw1 : k0_chk1 v1 v3), ∀ (k0_h4 : k0_cond4 v1 v3 = 1#1), ∀ a, (k0_off10 v1) a + S512x128.size a ≤ S4096x1024.size a := fun v1 v3 k0_hw1 k0_h4 => k0_hw1.2.2.2.2.2.2.2.2.2.2.1 k0_h4
theorem k0_off11_inb : ∀ (v1 : BitVec 32) (v3 : BitVec 32) (k0_hw1 : k0_chk1 v1 v3), ∀ (k0_h4 : k0_cond4 v1 v3 = 1#1), ∀ a, (k0_off11 v1) a + S512x128.size a ≤ S4096x1024.size a := fun v1 v3 k0_hw1 k0_h4 => k0_hw1.2.2.2.2.2.2.2.2.2.2.2.1 k0_h4
theorem k0_off12_inb : ∀ (v1 : BitVec 32) (v3 : BitVec 32) (k0_hw1 : k0_chk1 v1 v3), ∀ (k0_h4 : k0_cond4 v1 v3 = 1#1), ∀ a, (k0_off12 v1) a + S512x128.size a ≤ S4096x1024.size a := fun v1 v3 k0_hw1 k0_h4 => k0_hw1.2.2.2.2.2.2.2.2.2.2.2.2.1 k0_h4
theorem k0_off13_inb : ∀ (v1 : BitVec 32) (v3 : BitVec 32) (k0_hw1 : k0_chk1 v1 v3), ∀ (k0_h4 : k0_cond4 v1 v3 = 1#1), ∀ a, (k0_off13 v1) a + S512x128.size a ≤ S4096x1024.size a := fun v1 v3 k0_hw1 k0_h4 => k0_hw1.2.2.2.2.2.2.2.2.2.2.2.2.2.1 k0_h4
theorem k0_off14_inb : ∀ (v1 : BitVec 32) (v3 : BitVec 32) (k0_hw1 : k0_chk1 v1 v3), ∀ (k0_h4 : k0_cond4 v1 v3 = 1#1), ∀ a, (k0_off14 v1) a + S512x128.size a ≤ S4096x1024.size a := fun v1 v3 k0_hw1 k0_h4 => k0_hw1.2.2.2.2.2.2.2.2.2.2.2.2.2.2.1 k0_h4
theorem k0_off15_inb : ∀ (v1 : BitVec 32) (v3 : BitVec 32) (k0_hw1 : k0_chk1 v1 v3), ∀ (k0_h4 : k0_cond4 v1 v3 = 1#1), ∀ a, (k0_off15 v1) a + S512x128.size a ≤ S4096x1024.size a := fun v1 v3 k0_hw1 k0_h4 => k0_hw1.2.2.2.2.2.2.2.2.2.2.2.2.2.2.2.1 k0_h4
theorem k0_off16_inb : ∀ (v1 : BitVec 32) (v3 : BitVec 32) (k0_hw1 : k0_chk1 v1 v3), ∀ (k0_h4 : k0_cond4 v1 v3 = 1#1), ∀ a, (k0_off16 v1) a + S512x128.size a ≤ S4096x1024.size a := fun v1 v3 k0_hw1 k0_h4 => k0_hw1.2.2.2.2.2.2.2.2.2.2.2.2.2.2.2.2.1 k0_h4
theorem k0_off17_inb : ∀ (v1 : BitVec 32) (v3 : BitVec 32) (k0_hw1 : k0_chk1 v1 v3), ∀ (k0_h4 : k0_cond4 v1 v3 = 1#1), ∀ a, (k0_off17 v1) a + S512x128.size a ≤ S4096x1024.size a := fun v1 v3 k0_hw1 k0_h4 => k0_hw1.2.2.2.2.2.2.2.2.2.2.2.2.2.2.2.2.2 k0_h4

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def k0_cond5 (v1 : BitVec 32) : BitVec 1 :=
  let c7_i32 : BitVec 32 := 7#32
  let v16 : BitVec 1 := Scalar.cmpi .eq v1 c7_i32
  let v17 : BitVec 32 := Scalar.extui v16
  let c0_i32_4 : BitVec 32 := 0#32
  let v18 : BitVec 1 := Scalar.cmpi .ne v17 c0_i32_4
  v18

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, c0_i32.toNat, v1.toNat]

def cc0_transform_5 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, c0_i32.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_8 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4096x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "ln2" => some ((Real.log 2 : ℝ) : EReal)
  | "mask" => some ⊥
  | _ => none
-- ==== ReferenceIdeal.lean ====
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x128 : Shape := ⟨3, ![8, 4096, 128]⟩

abbrev nBuf : Space → Nat
  | .hbm => 101
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x1024, .f32⟩
  | .hbm, ⟨4, _⟩ => ⟨S4096x8x128, .f32⟩
  | .hbm, ⟨5, _⟩ => ⟨S4096x1024, .f32⟩
  | .hbm, ⟨6, _⟩ => ⟨S4096x8x128, .f32⟩
  | .hbm, ⟨7, _⟩ => ⟨S4096x1024, .f32⟩
  | .hbm, ⟨8, _⟩ => ⟨S4096x8x128, .f32⟩
  | .hbm, ⟨9, _⟩ => ⟨S8x4096x4096, .f32⟩
  | .hbm, ⟨10, _⟩ => ⟨S_, .f32⟩
  | .hbm, ⟨11, _⟩ => ⟨S8x4096x4096, .f32⟩
  | .hbm, ⟨12, _⟩ => ⟨S8x4096x4096, .f32⟩
  | .hbm, ⟨13, _⟩ => ⟨S4096, .i32⟩
  | .hbm, ⟨14, _⟩ => ⟨S1x4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S8x4096x4096, .i1⟩
  | .hbm, ⟨22, _⟩ => ⟨S8x4096x4096, .f32⟩
  | .hbm, ⟨23, _⟩ => ⟨S8x4096x4096, .f32⟩
  | .hbm, ⟨24, _⟩ => ⟨S_, .f32⟩
  | .hbm, ⟨25, _⟩ => ⟨S8x4096x4096, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S8x4096x4096, .f32⟩
  | .hbm, ⟨30, _⟩ => ⟨S8x4096x4096, .i1⟩
  | .hbm, ⟨31, _⟩ => ⟨S8x4096x4096, .f32⟩
  | .hbm, ⟨32, _⟩ => ⟨S_, .f32⟩
  | .hbm, ⟨33, _⟩ => ⟨S8x4096, .f32⟩
  | .hbm, ⟨34, _⟩ => ⟨S_, .f32⟩
  | .hbm, ⟨35, _⟩ => ⟨S8x4096, .f32⟩
  | .hbm, ⟨36, _⟩ => ⟨S8x4096, .f32⟩
  | .hbm, ⟨37, _⟩ => ⟨S_, .f32⟩
  | .hbm, ⟨38, _⟩ => ⟨S8x4096, .f32⟩
  | .hbm, ⟨39, _⟩ => ⟨S8x4096, .i1⟩
  | .hbm, ⟨40, _⟩ => ⟨S_, .f32⟩
  | .hbm, ⟨41, _⟩ => ⟨S8x4096, .f32⟩
  | .hbm, ⟨42, _⟩ => ⟨S8x4096, .i1⟩
  | .hbm, ⟨43, _⟩ => ⟨S_, .f32⟩
  | .hbm, ⟨44, _⟩ => ⟨S8x4096, .f32⟩
  | .hbm, ⟨45, _⟩ => ⟨S_, .f32⟩
  | .hbm, ⟨46, _⟩ => ⟨S8x4096, .f32⟩
  | .hbm, ⟨47, _⟩ => ⟨S_, .f32⟩
  | .hbm, ⟨48, _⟩ => ⟨S8x4096, .f32⟩
  | .hbm, ⟨49, _⟩ => ⟨S8x4096, .f32⟩
  | .hbm, ⟨50, _⟩ => ⟨S8x4096, .f32⟩
  | .hbm, ⟨51, _⟩ => ⟨S8x4096x1, .f32⟩
  | .hbm, ⟨52, _⟩ => ⟨S8x4096x4096, .f32⟩
  | .hbm, ⟨53, _⟩ => ⟨S8x4096x4096, .f32⟩
  | .hbm, ⟨54, _⟩ => ⟨S8x4096x4096, .f32⟩
  | .hbm, ⟨55, _⟩ => ⟨S_, .f32⟩
  | .hbm, ⟨56, _⟩ => ⟨S8x4096, .f32⟩
  | .hbm, ⟨57, _⟩ => ⟨S8x4096x1, .f32⟩
  | .hbm, ⟨58, _⟩ => ⟨S8x4096x4096, .f32⟩
  | .hbm, ⟨59, _⟩ => ⟨S8x4096x4096, .f32⟩
  | .hbm, ⟨60, _⟩ => ⟨S8x4096x1, .f32⟩
  | .hbm, ⟨61, _⟩ => ⟨S_, .f32⟩
  | .hbm, ⟨62, _⟩ => ⟨S8x4096x1, .f32⟩
  | .hbm, ⟨63, _⟩ => ⟨S8x4096x1, .f32⟩
  | .hbm, ⟨64, _⟩ => ⟨S8x128x4096, .f32⟩
  | .hbm, ⟨65, _⟩ => ⟨S4096x8x128, .f32⟩
  | .hbm, ⟨66, _⟩ => ⟨S4096x1024, .f32⟩
  | .hbm, ⟨67, _⟩ => ⟨S4096x8x128, .f32⟩
  | .hbm, ⟨68, _⟩ => ⟨S8x128x4096, .f32⟩
  | .hbm, ⟨69, _⟩ => ⟨S8x4096x4096, .f32⟩
  | .hbm, ⟨70, _⟩ => ⟨S8x128x4096, .f32⟩
  | .hbm, ⟨71, _⟩ => ⟨S4096x8x128, .f32⟩
  | .hbm, ⟨72, _⟩ => ⟨S8x4096x4096, .f32⟩
  | .hbm, ⟨73, _⟩ => ⟨S8x4096x4096, .f32⟩
  | .hbm, ⟨74, _⟩ => ⟨S8x4096x4096, .f32⟩
  | .hbm, ⟨75, _⟩ => ⟨S_, .f32⟩
  | .hbm, ⟨76, _⟩ => ⟨S8x4096, .f32⟩
  | .hbm, ⟨77, _⟩ => ⟨S8x4096x1, .f32⟩
  | .hbm, ⟨78, _⟩ => ⟨S8x4096x1, .f32⟩
  | .hbm, ⟨79, _⟩ => ⟨S8x4096x4096, .f32⟩
  | .hbm, ⟨80, _⟩ => ⟨S8x4096x4096, .f32⟩
  | .hbm, ⟨81, _⟩ => ⟨S_, .f32⟩
  | .hbm, ⟨82, _⟩ => ⟨S8x4096, .f32⟩
  | .hbm, ⟨83, _⟩ => ⟨S8x4096x4096, .f32⟩
  | .hbm, ⟨84, _⟩ => ⟨S8x4096x4096, .f32⟩
  | .hbm, ⟨85, _⟩ => ⟨S8x4096x4096, .f32⟩
  | .hbm, ⟨86, _⟩ => ⟨S_, .f32⟩
  | .hbm, ⟨87, _⟩ => ⟨S8x4096x4096, .f32⟩
  | .hbm, ⟨88, _⟩ => ⟨S8x4096x4096, .f32⟩
  | .hbm, ⟨89, _⟩ => ⟨S_, .f32⟩
  | .hbm, ⟨90, _⟩ => ⟨S8x4096x4096, .f32⟩
  | .hbm, ⟨91, _⟩ => ⟨S8x4096x4096, .f32⟩
  | .hbm, ⟨92, _⟩ => ⟨S8x4096x128, .f32⟩
  | .hbm, ⟨93, _⟩ => ⟨S4096x8x128, .f32⟩
  | .hbm, ⟨94, _⟩ => ⟨S8x4096x128, .f32⟩
  | .hbm, ⟨95, _⟩ => ⟨S4096x8x128, .f32⟩
  | .hbm, ⟨96, _⟩ => ⟨S4096x1024, .f32⟩
  | .hbm, ⟨97, _⟩ => ⟨S4096x1024, .bf16⟩
  | .hbm, ⟨98, _⟩ => ⟨S4096x1024, .f32⟩
  | .hbm, ⟨99, _⟩ => ⟨S4096x1024, .bf16⟩
  | .hbm, ⟨100, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_call0_v0 : Ref sig .tc := ⟨.hbm, 20, rfl⟩
abbrev main_v14_1 : Ref sig .tc := ⟨.hbm, 21, rfl⟩
abbrev main_call0_v2 : Ref sig .tc := ⟨.hbm, 22, rfl⟩
abbrev main_v14_0 : Ref sig .tc := ⟨.hbm, 23, rfl⟩
abbrev main_call0_cst : Ref sig .tc := ⟨.hbm, 24, rfl⟩
abbrev main_v14_2 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_call1_cst : Ref sig .tc := ⟨.hbm, 86, rfl⟩
abbrev main_call1_v0 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]
-- ==== Up.lean ====
abbrev S4096x1024 : Shape := ⟨2, ![4096, 1024]⟩
abbrev S1024x5632 : Shape := ⟨2, ![1024, 5632]⟩
abbrev S4096x5632 : Shape := ⟨2, ![4096, 5632]⟩
abbrev S2048x1024 : Shape := ⟨2, ![2048, 1024]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .f32⟩
  | .local _ .vmem, ⟨0, _⟩ => ⟨S2048x1024, .bf16⟩
  | .local _ .vmem, ⟨1, _⟩ => ⟨S2048x1024, .bf16⟩
  | .local _ .vmem, ⟨2, _⟩ => ⟨S1024x1408, .bf16⟩
  | .local _ .vmem, ⟨3, _⟩ => ⟨S1024x1408, .bf16⟩
  | .local _ .vmem, ⟨4, _⟩ => ⟨S2048x1408, .f32⟩
  | .local _ .vmem, ⟨5, _⟩ => ⟨S2048x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Down.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownDx.lean ====
abbrev S4096x2816 : Shape := ⟨2, ![4096, 2816]⟩
abbrev S2816x1024 : Shape := ⟨2, ![2816, 1024]⟩
abbrev S4096x1024 : Shape := ⟨2, ![4096, 1024]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 4
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .bf16⟩
  | .hbm, ⟨3, _⟩ => ⟨S4096x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2048x1408, .bf16⟩
  | .local _ .vmem, ⟨5, _⟩ => ⟨S2048x1408, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .bf16⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S4096x2816, .f32⟩
  | .hbm, ⟨10, _⟩ => ⟨S4096x2816, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DownDw.lean ====
abbrev S4096x2816 : Shape := ⟨2, ![4096, 2816]⟩
abbrev S2816x1024 : Shape := ⟨2, ![2816, 1024]⟩
abbrev S4096x1024 : Shape := ⟨2, ![4096, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .bf16⟩
  | .hbm, ⟨3, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .bf16⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S4096x2816, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDx.lean ====
abbrev S4096x1024 : Shape := ⟨2, ![4096, 1024]⟩
abbrev S1024x5632 : Shape := ⟨2, ![1024, 5632]⟩
abbrev S2x4096x2816 : Shape := ⟨3, ![2, 4096, 2816]⟩
abbrev S1x1024x2816 : Shape := ⟨3, ![1, 1024, 2816]⟩
abbrev S1024x2816 : Shape := ⟨2, ![1024, 2816]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S2x4096x2816, .bf16⟩
  | .hbm, ⟨3, _⟩ => ⟨S4096x1024, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S4096x1024 : Shape := ⟨2, ![4096, 1024]⟩
abbrev S1024x5632 : Shape := ⟨2, ![1024, 5632]⟩
abbrev S2x4096x2816 : Shape := ⟨3, ![2, 4096, 2816]⟩
abbrev S4096x2x2816 : Shape := ⟨3, ![4096, 2, 2816]⟩
abbrev S4096x5632 : Shape := ⟨2, ![4096, 5632]⟩
abbrev S5632x1024 : Shape := ⟨2, ![5632, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S2x4096x2816, .bf16⟩
  | .hbm, ⟨3, _⟩ => ⟨S4096x2x2816, .bf16⟩
  | .hbm, ⟨4, _⟩ => ⟨S4096x5632, .bf16⟩
  | .hbm, ⟨5, _⟩ => ⟨S4096x1024, .f32⟩
  | .hbm, ⟨6, _⟩ => ⟨S1024x5632, .f32⟩
  | .hbm, ⟨7, _⟩ => ⟨S4096x5632, .f32⟩
  | .hbm, ⟨8, _⟩ => ⟨S4096x5632, .f32⟩
  | .hbm, ⟨9, _⟩ => ⟨S5632x1024, .f32⟩
  | .hbm, ⟨10, _⟩ => ⟨S1024x5632, .f32⟩
  | .hbm, ⟨11, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== UpDw.lean ====
abbrev S4096x1024 : Shape := ⟨2, ![4096, 1024]⟩
abbrev S1024x5632 : Shape := ⟨2, ![1024, 5632]⟩
abbrev S2x4096x2816 : Shape := ⟨3, ![2, 4096, 2816]⟩
abbrev S4x1024x1408 : Shape := ⟨3, ![4, 1024, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S2x4096x2816, .bf16⟩
  | .hbm, ⟨3, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .f32⟩
  | .local _ .vmem, ⟨5, _⟩ => ⟨S1x1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S4096x1024 : Shape := ⟨2, ![4096, 1024]⟩
abbrev S1024x5632 : Shape := ⟨2, ![1024, 5632]⟩
abbrev S2x4096x2816 : Shape := ⟨3, ![2, 4096, 2816]⟩
abbrev S4096x2x2816 : Shape := ⟨3, ![4096, 2, 2816]⟩
abbrev S4096x5632 : Shape := ⟨2, ![4096, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S2x4096x2816, .bf16⟩
  | .hbm, ⟨3, _⟩ => ⟨S4096x2x2816, .bf16⟩
  | .hbm, ⟨4, _⟩ => ⟨S4096x5632, .bf16⟩
  | .hbm, ⟨5, _⟩ => ⟨S4096x1024, .f32⟩
  | .hbm, ⟨6, _⟩ => ⟨S1024x5632, .f32⟩
  | .hbm, ⟨7, _⟩ => ⟨S4096x5632, .f32⟩
  | .hbm, ⟨8, _⟩ => ⟨S4096x5632, .f32⟩
  | .hbm, ⟨9, _⟩ => ⟨S5632x1024, .f32⟩
  | .hbm, ⟨10, _⟩ => ⟨S1024x5632, .f32⟩
  | .hbm, ⟨11, _⟩ => ⟨S4096x1024, .f32⟩
  | .hbm, ⟨12, _⟩ => ⟨S1024x4x1408, .f32⟩
  | .hbm, ⟨13, _⟩ => ⟨S4x1024x1408, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== OutDw.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S4096x1024 : Shape := ⟨2, ![4096, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BranchAttnDw.lean ====
abbrev S4096x1024 : Shape := ⟨2, ![4096, 1024]⟩
abbrev S1024x1024 : Shape := ⟨2, ![1024, 1024]⟩
abbrev S4x1024x256 : Shape := ⟨3, ![4, 1024, 256]⟩
abbrev S2048x1024 : Shape := ⟨2, ![2048, 1024]⟩
abbrev S2048x256 : Shape := ⟨2, ![2048, 256]⟩
abbrev S1x1024x256 : Shape := ⟨3, ![1, 1024, 256]⟩
abbrev S1024x256 : Shape := ⟨2, ![1024, 256]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4x1024x256, .f32⟩
  | .local _ .vmem, ⟨0, _⟩ => ⟨S2048x1024, .bf16⟩
  | .local _ .vmem, ⟨1, _⟩ => ⟨S2048x1024, .bf16⟩
  | .local _ .vmem, ⟨2, _⟩ => ⟨S2048x256, .bf16⟩
  | .local _ .vmem, ⟨3, _⟩ => ⟨S2048x256, .bf16⟩
  | .local _ .vmem, ⟨4, _⟩ => ⟨S1x1024x256, .f32⟩
  | .local _ .vmem, ⟨5, _⟩ => ⟨S1x1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchAttnDwRefIdeal.lean ====
abbrev S4096x1024 : Shape := ⟨2, ![4096, 1024]⟩
abbrev S1024x1024 : Shape := ⟨2, ![1024, 1024]⟩
abbrev S1024x4x256 : Shape := ⟨3, ![1024, 4, 256]⟩
abbrev S4x1024x256 : Shape := ⟨3, ![4, 1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S4096x1024, .f32⟩
  | .hbm, ⟨10, _⟩ => ⟨S1024x4x256, .f32⟩
  | .hbm, ⟨11, _⟩ => ⟨S4x1024x256, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== BranchSsmDw.lean ====
abbrev S4096x512 : Shape := ⟨2, ![4096, 512]⟩
abbrev S512x1024 : Shape := ⟨2, ![512, 1024]⟩
abbrev S4096x1024 : Shape := ⟨2, ![4096, 1024]⟩
abbrev S4x512x256 : Shape := ⟨3, ![4, 512, 256]⟩
abbrev S2048x512 : Shape := ⟨2, ![2048, 512]⟩
abbrev S2048x256 : Shape := ⟨2, ![2048, 256]⟩
abbrev S1x512x256 : Shape := ⟨3, ![1, 512, 256]⟩
abbrev S512x256 : Shape := ⟨2, ![512, 256]⟩

abbrev nBuf : Space → Nat
  | .hbm => 4
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .bf16⟩
  | .hbm, ⟨3, _⟩ => ⟨S4x512x256, .f32⟩
  | .local _ .vmem, ⟨0, _⟩ => ⟨S2048x512, .bf16⟩
  | .local _ .vmem, ⟨1, _⟩ => ⟨S2048x512, .bf16⟩
  | .local _ .vmem, ⟨2, _⟩ => ⟨S2048x256, .bf16⟩
  | .local _ .vmem, ⟨3, _⟩ => ⟨S2048x256, .bf16⟩
  | .local _ .vmem, ⟨4, _⟩ => ⟨S1x512x256, .f32⟩
  | .local _ .vmem, ⟨5, _⟩ => ⟨S1x512x256, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchSsmDwRefIdeal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 12
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .bf16⟩
  | .hbm, ⟨3, _⟩ => ⟨S4096x512, .f32⟩
  | .hbm, ⟨4, _⟩ => ⟨S512x1024, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S4096x512, .f32⟩
  | .hbm, ⟨10, _⟩ => ⟨S512x4x256, .f32⟩
  | .hbm, ⟨11, _⟩ => ⟨S4x512x256, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GluDw.lean ====
abbrev S4096x512 : Shape := ⟨2, ![4096, 512]⟩
abbrev S512x512 : Shape := ⟨2, ![512, 512]⟩
abbrev S2048x512 : Shape := ⟨2, ![2048, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x512, .bf16⟩
  | .hbm, ⟨2, _⟩ => ⟨S4096x512, .bf16⟩
  | .hbm, ⟨3, _⟩ => ⟨S512x512, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GluDwRefIdeal.lean ====
abbrev S4096x512 : Shape := ⟨2, ![4096, 512]⟩
abbrev S512x512 : Shape := ⟨2, ![512, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x512, .bf16⟩
  | .hbm, ⟨2, _⟩ => ⟨S4096x512, .bf16⟩
  | .hbm, ⟨3, _⟩ => ⟨S4096x512, .f32⟩
  | .hbm, ⟨4, _⟩ => ⟨S512x512, .f32⟩
  | .hbm, ⟨5, _⟩ => ⟨S4096x512, .f32⟩
  | .hbm, ⟨6, _⟩ => ⟨S4096x512, .f32⟩
  | .hbm, ⟨7, _⟩ => ⟨S512x512, .f32⟩
  | .hbm, ⟨8, _⟩ => ⟨S512x512, .f32⟩
  | .hbm, ⟨9, _⟩ => ⟨S4096x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDw.lean ====
abbrev S4096x1024 : Shape := ⟨2, ![4096, 1024]⟩
abbrev S1024x3328 : Shape := ⟨2, ![1024, 3328]⟩
abbrev S4096x3328 : Shape := ⟨2, ![4096, 3328]⟩
abbrev S2048x1024 : Shape := ⟨2, ![2048, 1024]⟩
abbrev S2048x1664 : Shape := ⟨2, ![2048, 1664]⟩
abbrev S1024x1664 : Shape := ⟨2, ![1024, 1664]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3328, .bf16⟩
  | .hbm, ⟨2, _⟩ => ⟨S4096x3328, .bf16⟩
  | .hbm, ⟨3, _⟩ => ⟨S1024x3328, .f32⟩
  | .local _ .vmem, ⟨0, _⟩ => ⟨S2048x1024, .bf16⟩
  | .local _ .vmem, ⟨1, _⟩ => ⟨S2048x1024, .bf16⟩
  | .local _ .vmem, ⟨2, _⟩ => ⟨S2048x1664, .bf16⟩
  | .local _ .vmem, ⟨3, _⟩ => ⟨S2048x1664, .bf16⟩
  | .local _ .vmem, ⟨4, _⟩ => ⟨S1024x1664, .f32⟩
  | .local _ .vmem, ⟨5, _⟩ => ⟨S1024x1664, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S4096x1024 : Shape := ⟨2, ![4096, 1024]⟩
abbrev S1024x3328 : Shape := ⟨2, ![1024, 3328]⟩
abbrev S4096x3328 : Shape := ⟨2, ![4096, 3328]⟩
abbrev S3328x1024 : Shape := ⟨2, ![3328, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3328, .bf16⟩
  | .hbm, ⟨2, _⟩ => ⟨S4096x3328, .bf16⟩
  | .hbm, ⟨3, _⟩ => ⟨S4096x1024, .f32⟩
  | .hbm, ⟨4, _⟩ => ⟨S1024x3328, .f32⟩
  | .hbm, ⟨5, _⟩ => ⟨S4096x3328, .f32⟩
  | .hbm, ⟨6, _⟩ => ⟨S4096x3328, .f32⟩
  | .hbm, ⟨7, _⟩ => ⟨S3328x1024, .f32⟩
  | .hbm, ⟨8, _⟩ => ⟨S1024x3328, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UqDw.lean ====
abbrev S4096x384 : Shape := ⟨2, ![4096, 384]⟩
abbrev S384x1024 : Shape := ⟨2, ![384, 1024]⟩
abbrev S4096x1024 : Shape := ⟨2, ![4096, 1024]⟩
abbrev S2048x384 : Shape := ⟨2, ![2048, 384]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x384, .bf16⟩
  | .hbm, ⟨1, _⟩ => ⟨S384x1024, .bf16⟩
  | .hbm, ⟨2, _⟩ => ⟨S4096x1024, .bf16⟩
  | .hbm, ⟨3, _⟩ => ⟨S384x1024, .f32⟩
  | .local _ .vmem, ⟨0, _⟩ => ⟨S2048x384, .bf16⟩
  | .local _ .vmem, ⟨1, _⟩ => ⟨S2048x384, .bf16⟩
  | .local _ .vmem, ⟨2, _⟩ => ⟨S2048x1024, .bf16⟩
  | .local _ .vmem, ⟨3, _⟩ => ⟨S2048x1024, .bf16⟩
  | .local _ .vmem, ⟨4, _⟩ => ⟨S384x1024, .f32⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UqDwRefIdeal.lean ====
abbrev S4096x384 : Shape := ⟨2, ![4096, 384]⟩
abbrev S384x1024 : Shape := ⟨2, ![384, 1024]⟩
abbrev S4096x1024 : Shape := ⟨2, ![4096, 1024]⟩
abbrev S1024x384 : Shape := ⟨2, ![1024, 384]⟩

abbrev nBuf : Space → Nat
  | .hbm => 10
  | .vmem => 0
  | .smem => 0
  | _ => 0

abbrev bufTy : (tb : Table) → Fin (tcTables nBuf tb) → BufTy
  | .hbm, ⟨0, _⟩ => ⟨S4096x384, .bf16⟩
  | .hbm, ⟨1, _⟩ => ⟨S384x1024, .bf16⟩
  | .hbm, ⟨2, _⟩ => ⟨S4096x1024, .bf16⟩
  | .hbm, ⟨3, _⟩ => ⟨S4096x384, .f32⟩
  | .hbm, ⟨4, _⟩ => ⟨S384x1024, .f32⟩
  | .hbm, ⟨5, _⟩ => ⟨S4096x1024, .f32⟩
  | .hbm, ⟨6, _⟩ => ⟨S4096x1024, .f32⟩
  | .hbm, ⟨7, _⟩ => ⟨S1024x384, .f32⟩
  | .hbm, ⟨8, _⟩ => ⟨S384x1024, .f32⟩
  | .hbm, ⟨9, _⟩ => ⟨S4096x384, .f32⟩
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UkvDw.lean ====
abbrev S4096x256 : Shape := ⟨2, ![4096, 256]⟩
abbrev S256x1024 : Shape := ⟨2, ![256, 1024]⟩
abbrev S4096x1024 : Shape := ⟨2, ![4096, 1024]⟩
abbrev S2048x256 : Shape := ⟨2, ![2048, 256]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x1024, .bf16⟩
  | .hbm, ⟨3, _⟩ => ⟨S256x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UkvDwRefIdeal.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x1024, .bf16⟩
  | .hbm, ⟨3, _⟩ => ⟨S4096x256, .f32⟩
  | .hbm, ⟨4, _⟩ => ⟨S256x1024, .f32⟩
  | .hbm, ⟨5, _⟩ => ⟨S4096x1024, .f32⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S4096x256, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Merge.lean ====
abbrev S4096x1024 : Shape := ⟨2, ![4096, 1024]⟩
abbrev S4096x2048 : Shape := ⟨2, ![4096, 2048]⟩
abbrev S4096x512 : Shape := ⟨2, ![4096, 512]⟩
abbrev S1024x1024 : Shape := ⟨2, ![1024, 1024]⟩
abbrev S512x1024 : Shape := ⟨2, ![512, 1024]⟩
abbrev S512x512 : Shape := ⟨2, ![512, 512]⟩
abbrev S1x512 : Shape := ⟨2, ![1, 512]⟩
abbrev S1x1024 : Shape := ⟨2, ![1, 1024]⟩
abbrev S512x2048 : Shape := ⟨2, ![512, 2048]⟩
abbrev S512 : Shape := ⟨1, ![512]⟩
abbrev S512x1 : Shape := ⟨2, ![512, 1]⟩

abbrev nBuf : Space → Nat
  | .hbm => 18
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S4096x1024, .bf16⟩
  | .hbm, ⟨3, _⟩ => ⟨S4096x512, .f32⟩
  | .hbm, ⟨4, _⟩ => ⟨S1024x1024, .bf16⟩
  | .hbm, ⟨5, _⟩ => ⟨S512x1024, .bf16⟩
  | .hbm, ⟨6, _⟩ => ⟨S512x512, .bf16⟩
  | .hbm, ⟨7, _⟩ => ⟨S1x512, .f32⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S4096x1024, .bf16⟩
  | .hbm, ⟨12, _⟩ => ⟨S4096x1024, .bf16⟩
  | .hbm, ⟨13, _⟩ => ⟨S4096x1024, .bf16⟩
  | .hbm, ⟨14, _⟩ => ⟨S4096x1024, .f32⟩
  | .hbm, ⟨15, _⟩ => ⟨S4096x1024, .f32⟩
  | .hbm, ⟨16, _⟩ => ⟨S4096x1024, .bf16⟩
  | .hbm, ⟨17, _⟩ => ⟨S4096x512, .bf16⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x512, .f32⟩
  | .local _ .vmem, ⟨7, _⟩ => ⟨S512x512, .f32⟩
  | .local _ .vmem, ⟨8, _⟩ => ⟨S1024x1024, .bf16⟩
  | .local _ .vmem, ⟨9, _⟩ => ⟨S512x1024, .bf16⟩
  | .local _ .vmem, ⟨10, _⟩ => ⟨S512x512, .bf16⟩
  | .local _ .vmem, ⟨11, _⟩ => ⟨S1x512, .f32⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .bf16⟩
  | .local _ .vmem, ⟨26, _⟩ => ⟨S512x1024, .bf16⟩
  | .local _ .vmem, ⟨27, _⟩ => ⟨S512x512, .bf16⟩
  | .local _ .vmem, ⟨28, _⟩ => ⟨S512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MergeRefIdeal.lean ====
abbrev S4096x1024 : Shape := ⟨2, ![4096, 1024]⟩
abbrev S4096x2048 : Shape := ⟨2, ![4096, 2048]⟩
abbrev S4096x512 : Shape := ⟨2, ![4096, 512]⟩
abbrev S1024x1024 : Shape := ⟨2, ![1024, 1024]⟩
abbrev S512x1024 : Shape := ⟨2, ![512, 1024]⟩
abbrev S512x512 : Shape := ⟨2, ![512, 512]⟩
abbrev S1x512 : Shape := ⟨2, ![1, 512]⟩
abbrev S1x1024 : Shape := ⟨2, ![1, 1024]⟩
abbrev S_ : Shape := ⟨0, ![]⟩
abbrev S4096x2x1024 : Shape := ⟨3, ![4096, 2, 1024]⟩
abbrev S4096x1x1024 : Shape := ⟨3, ![4096, 1, 1024]⟩
abbrev S4096 : Shape := ⟨1, ![4096]⟩
abbrev S4096x1 : Shape := ⟨2, ![4096, 1]⟩

abbrev nBuf : Space → Nat
  | .hbm => 101
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S4096x1024, .bf16⟩
  | .hbm, ⟨3, _⟩ => ⟨S4096x512, .f32⟩
  | .hbm, ⟨4, _⟩ => ⟨S1024x1024, .bf16⟩
  | .hbm, ⟨5, _⟩ => ⟨S512x1024, .bf16⟩
  | .hbm, ⟨6, _⟩ => ⟨S512x512, .bf16⟩
  | .hbm, ⟨7, _⟩ => ⟨S1x512, .f32⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S4096x2048, .f32⟩
  | .hbm, ⟨12, _⟩ => ⟨S4096x1024, .f32⟩
  | .hbm, ⟨13, _⟩ => ⟨S1024x1024, .f32⟩
  | .hbm, ⟨14, _⟩ => ⟨S512x1024, .f32⟩
  | .hbm, ⟨15, _⟩ => ⟨S512x512, .f32⟩
  | .hbm, ⟨16, _⟩ => ⟨S1024x1024, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S_, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S_, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S_, .f32⟩
  | .hbm, ⟨40, _⟩ => ⟨S4096x512, .f32⟩
  | .hbm, ⟨41, _⟩ => ⟨S4096x512, .f32⟩
  | .hbm, ⟨42, _⟩ => ⟨S_, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S4096x1024, .f32⟩
  | .hbm, ⟨47, _⟩ => ⟨S4096x1024, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S4096x2048, .f32⟩
  | .hbm, ⟨55, _⟩ => ⟨S4096x2048, .f32⟩
  | .hbm, ⟨56, _⟩ => ⟨S4096x2x1024, .f32⟩
  | .hbm, ⟨57, _⟩ => ⟨S4096x1x1024, .f32⟩
  | .hbm, ⟨58, _⟩ => ⟨S4096x1024, .f32⟩
  | .hbm, ⟨59, _⟩ => ⟨S4096x1024, .f32⟩
  | .hbm, ⟨60, _⟩ => ⟨S4096x1x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S4096x1, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S_, .f32⟩
  | .hbm, ⟨86, _⟩ => ⟨S4096x1, .f32⟩
  | .hbm, ⟨87, _⟩ => ⟨S4096x1, .f32⟩
  | .hbm, ⟨88, _⟩ => ⟨S_, .f32⟩
  | .hbm, ⟨89, _⟩ => ⟨S4096x1, .f32⟩
  | .hbm, ⟨90, _⟩ => ⟨S4096x1, .f32⟩
  | .hbm, ⟨91, _⟩ => ⟨S4096x1, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .bf16⟩
  | .hbm, ⟨97, _⟩ => ⟨S4096x1024, .bf16⟩
  | .hbm, ⟨98, _⟩ => ⟨S4096x1024, .bf16⟩
  | .hbm, ⟨99, _⟩ => ⟨S4096x1024, .bf16⟩
  | .hbm, ⟨100, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_cst_12 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩

abbrev nD : Nat := 1
abbrev τ : Topo := Topo.v7x

variable {F : FTy → Type} [FloatOps F]
-- ==== Proof.Heads.lean ====
/-
  The backward attention body, one head at a time: the printed body works through the eight heads in a row, each on its own
  128 lanes of the blocks. Here the work of one head is written once, for any head, and the printed body is shown to be the
  eight of them in order.
-/
module

public import proofs.«01_k».proof.Proof.Gen.KernelIdeal.Skeleton

@[expose] public section

set_option maxRecDepth 16384

noncomputable section

namespace Cert.KernelIdeal.Bwd

open Cert.KernelIdeal Cert.KernelIdeal.Gen
open Idealize.ShloMosaic Idealize.SL.Sem

variable {F : FTy → Type} [FloatOps F] [Named F]

/-! ## The values of one head -/

/-- The transposed scores of a block of keys against a block of queries, masked above the diagonal on the diagonal block. -/
def scores (diag : Bool) (q k : Vec F S512x128 .bf16) : FVec F S512x512 .f32 :=
  let s := matmul dot_S512x128_S512x128_S512x512_1_1_0_0_n_n none k (shapeCast S512x128 q shapeCasts_S512x128_S512x128)
    (constant S512x512 .f32 0x00000000#32)
  if diag then
    select (cmpi .sle (iota .tc S512x512 32 [0] iota_S512x512_d0_w32) (iota .tc S512x512 32 [1] iota_S512x512_d1_w32)) s
      (broadcast S512x512 (Named.named κ "mask" 0xF149F2CA#32))
  else s

/-- A row of one number per query spread over the keys. -/
def spread (r : Vec F S1x1x512 .f32) : FVec F S512x512 .f32 :=
  broadcastTo S512x512 (shapeCast S1x512 r shapeCasts_S1x1x512_S1x512) broadcasts_S1x512_S512x512

/-- The transposed attention weights. -/
def weights (diag : Bool) (q k : Vec F S512x128 .bf16) (lse : Vec F S1x1x512 .f32) : FVec F S512x512 .f32 :=
  exp2 (subf (scores diag q k) (spread lse))

/-- The transposed gradient of the scores. -/
def dscores (diag : Bool) (q k v d : Vec F S512x128 .bf16) (lse dl : Vec F S1x1x512 .f32) : FVec F S512x512 .bf16 :=
  truncf .bf16 (mulf (weights diag q k lse)
    (subf (matmul dot_S512x128_S512x128_S512x512_1_1_0_0_n_n none v (shapeCast S512x128 d shapeCasts_S512x128_S512x128)
      (constant S512x512 .f32 0x00000000#32)) (spread dl))) bitsLt_bf16_f32

/-- One head's new lanes of the accumulated gradient of the values, -/
def newV (diag : Bool) (q k d : Vec F S512x128 .bf16) (lse : Vec F S1x1x512 .f32) (a : Vec F S512x128 .f32) : FVec F S512x128 .f32 :=
  shapeCast S512x128 (addf a (matmul dot_S512x512_S512x128_S512x128_1_0_0_1_n_n none
    (truncf .bf16 (weights diag q k lse) bitsLt_bf16_f32) (shapeCast S512x128 d shapeCasts_S512x128_S512x128)
    (constant S512x128 .f32 0x00000000#32))) shapeCasts_S512x128_S512x128

/-- of the keys, -/
def newK (diag : Bool) (q k v d : Vec F S512x128 .bf16) (lse dl : Vec F S1x1x512 .f32) (a : Vec F S512x128 .f32) : FVec F S512x128 .f32 :=
  shapeCast S512x128 (addf a (matmul dot_S512x512_S512x128_S512x128_1_0_0_1_n_n none
    (dscores diag q k v d lse dl) (shapeCast S512x128 q shapeCasts_S512x128_S512x128)
    (constant S512x128 .f32 0x00000000#32))) shapeCasts_S512x128_S512x128

/-- and of the queries. -/
def newQ (diag : Bool) (q k v d : Vec F S512x128 .bf16) (lse dl : Vec F S1x1x512 .f32) (a : Vec F S512x128 .f32) : FVec F S512x128 .f32 :=
  addf (shapeCast S512x128 a shapeCasts_S512x128_S512x128) (mulf (broadcast S512x128 (Scalar.ofBits .f32 0x3DD105EC#32))
    (matmul dot_S512x512_S512x128_S512x128_0_0_1_1_n_n none (dscores diag q k v d lse dl) k (constant S512x128 .f32 0x00000000#32)))

/-! ## Where a head's lanes lie -/

/-- Head `hh`'s lanes of a block. -/
def lane (hh : Fin 8) : Fin 2 → Nat := ![0, 128 * hh.val]
/-- Head `hh`'s row of the saved statistics. -/
def row (hh : Fin 8) : Fin 3 → Nat := ![hh.val, 0, 0]
/-- Head `hh`'s lanes of the block of query rows the word `v1` names, in the whole gradient of the queries. -/
def slot (v1 : BitVec 32) (hh : Fin 8) : Fin 2 → Nat := ![(Scalar.indexCast (Scalar.muli v1 512#32)).toNat, 128 * hh.val]

theorem lane_inb : ∀ (hh : Fin 8) a, lane hh a + S512x128.size a ≤ S512x1024.size a := by decide
theorem row_inb : ∀ (hh : Fin 8) a, row hh a + S1x1x512.size a ≤ S8x1x512.size a := by decide

theorem slot_inb (v1 : BitVec 32) (h : ∀ a, k0_off2 v1 a + S512x128.size a ≤ S4096x1024.size a) (hh : Fin 8) :
    ∀ a, slot v1 hh a + S512x128.size a ≤ S4096x1024.size a := by
  intro a
  fin_cases a
  · exact h 0
  · have := hh.isLt
    show 128 * hh.val + 128 ≤ 1024
    omega

/-! ## One head's part of the body, and the body -/

section Prog

variable (arg4 : Memref sig .tc .vmem S512x1024 .bf16) (arg5 : Memref sig .tc .vmem S512x1024 .bf16)
  (arg6 : Memref sig .tc .vmem S512x1024 .bf16) (arg7 : Memref sig .tc .vmem S512x1024 .bf16)
  (arg8 : Memref sig .tc .vmem S8x1x512 .f32) (arg9 : Memref sig .tc .vmem S8x1x512 .f32)
  (arg10 : Memref sig .tc .vmem S4096x1024 .f32)
  (arg13 : Memref sig .tc .vmem S512x1024 .f32) (arg14 : Memref sig .tc .vmem S512x1024 .f32)

/-- Head `hh`: read its lanes and rows, and add its share to the three accumulators. -/
def head (diag : Bool) (v1 : BitVec 32) (hh : Fin 8) (hb : ∀ a, slot v1 hh a + S512x128.size a ≤ S4096x1024.size a) :
    Prog (TpuEff nD τ sig (Elt F) Λ₀ .tc) PUnit := do
  let q : Vec F S512x128 .bf16 ← Prog.lift (.load arg4 (Rect.unit (s := S512x1024) (lane hh) S512x128.size (lane_inb hh)).toLoadRect (View.loadsAt_vmem h_S512x128))
  let k : Vec F S512x128 .bf16 ← Prog.lift (.load arg5 (Rect.unit (s := S512x1024) (lane hh) S512x128.size (lane_inb hh)).toLoadRect (View.loadsAt_vmem h_S512x128))
  let d : Vec F S512x128 .bf16 ← Prog.lift (.load arg7 (Rect.unit (s := S512x1024) (lane hh) S512x128.size (lane_inb hh)).toLoadRect (View.loadsAt_vmem h_S512x128))
  let lse : Vec F S1x1x512 .f32 ← Prog.lift (.load arg8 (Rect.unit (s := S8x1x512) (row hh) S1x1x512.size (row_inb hh)).toLoadRect (View.loadsAt_vmem h_S1x1x512))
  let a : Vec F S512x128 .f32 ← Prog.lift (.load arg14 (Rect.unit (s := S512x1024) (lane hh) S512x128.size (lane_inb hh)).toLoadRect (View.loadsAt_vmem h_S512x128))
  let _ : Vec F S512x128 .f32 ← Prog.lift (.load arg14 (Rect.unit (s := S512x1024) (lane hh) S512x128.size (lane_inb hh)).toLoadRect (View.loadsAt_vmem h_S512x128))
  Prog.lift (.store arg14 (Rect.unit (s := S512x1024) (lane hh) S512x128.size (lane_inb hh)) (newV diag q k d lse a) Finset.univ (View.stores_vmem_bits_univ h_S512x128 rfl) (.inl rfl))
  let v : Vec F S512x128 .bf16 ← Prog.lift (.load arg6 (Rect.unit (s := S512x1024) (lane hh) S512x128.size (lane_inb hh)).toLoadRect (View.loadsAt_vmem h_S512x128))
  let dl : Vec F S1x1x512 .f32 ← Prog.lift (.load arg9 (Rect.unit (s := S8x1x512) (row hh) S1x1x512.size (row_inb hh)).toLoadRect (View.loadsAt_vmem h_S1x1x512))
  let b : Vec F S512x128 .f32 ← Prog.lift (.load arg13 (Rect.unit (s := S512x1024) (lane hh) S512x128.size (lane_inb hh)).toLoadRect (View.loadsAt_vmem h_S512x128))
  let _ : Vec F S512x128 .f32 ← Prog.lift (.load arg13 (Rect.unit (s := S512x1024) (lane hh) S512x128.size (lane_inb hh)).toLoadRect (View.loadsAt_vmem h_S512x128))
  Prog.lift (.store arg13 (Rect.unit (s := S512x1024) (lane hh) S512x128.size (lane_inb hh)) (newK diag q k v d lse dl b) Finset.univ (View.stores_vmem_bits_univ h_S512x128 rfl) (.inl rfl))
  let e : Vec F S512x128 .f32 ← Prog.lift (.load arg10 (Rect.unit (s := S4096x1024) (slot v1 hh) S512x128.size hb).toLoadRect (View.loadsAt_vmem h_S512x128))
  let _ : Vec F S512x128 .f32 ← Prog.lift (.load arg10 (Rect.unit (s := S4096x1024) (slot v1 hh) S512x128.size hb).toLoadRect (View.loadsAt_vmem h_S512x128))
  Prog.lift (.store arg10 (Rect.unit (s := S4096x1024) (slot v1 hh) S512x128.size hb) (newQ diag q k v d lse dl e) Finset.univ (View.stores_vmem_bits_univ h_S512x128 rfl) (.inl rfl))

/-- The eight heads in order. -/
def heads (diag : Bool) (v1 : BitVec 32) (hb : ∀ hh a, slot v1 hh a + S512x128.size a ≤ S4096x1024.size a) :
    Prog (TpuEff nD τ sig (Elt F) Λ₀ .tc) PUnit := do
  head arg4 arg5 arg6 arg7 arg8 arg9 arg10 arg13 arg14 diag v1 0 (hb 0)
  head arg4 arg5 arg6 arg7 arg8 arg9 arg10 arg13 arg14 diag v1 1 (hb 1)
  head arg4 arg5 arg6 arg7 arg8 arg9 arg10 arg13 arg14 diag v1 2 (hb 2)
  head arg4 arg5 arg6 arg7 arg8 arg9 arg10 arg13 arg14 diag v1 3 (hb 3)
  head arg4 arg5 arg6 arg7 arg8 arg9 arg10 arg13 arg14 diag v1 4 (hb 4)
  head arg4 arg5 arg6 arg7 arg8 arg9 arg10 arg13 arg14 diag v1 5 (hb 5)
  head arg4 arg5 arg6 arg7 arg8 arg9 arg10 arg13 arg14 diag v1 6 (hb 6)
  head arg4 arg5 arg6 arg7 arg8 arg9 arg10 arg13 arg14 diag v1 7 (hb 7)

end Prog

end Cert.KernelIdeal.Bwd

end
-- ==== Proof.Body.lean ====
/-
  The printed backward body is: read the point's two table words, zero what starts here, work through the eight heads (masked
  on the diagonal block), and at a key block's last point write its two gradients out.
-/
module

public import proofs.«01_k».proof.Proof.Heads

@[expose] public section

set_option maxRecDepth 65536

noncomputable section

namespace Cert.KernelIdeal.Bwd

open Cert.KernelIdeal Cert.KernelIdeal.Gen
open Idealize.ShloMosaic Idealize.SL.Sem

variable {F : FTy → Type} [FloatOps F] [Named F]

section Prog

/-- Two programs that begin with one effect are equal if they go on equally. -/
theorem op_congr {E : Type → Type 1} {α β : Type} {e e' : E β} {k k' : β → Prog E α} (he : e = e') (hk : ∀ x, k x = k' x) :
    Prog.op e k = Prog.op e' k' := by subst he; exact congrArg _ (funext hk)

variable (arg2 : Memref sig .tc .smem S36 .i32) (harg2 : arg2.IsWhole)
  (arg3 : Memref sig .tc .smem S36 .i32) (harg3 : arg3.IsWhole)
  (arg4 : Memref sig .tc .vmem S512x1024 .bf16) (harg4 : arg4.IsWhole)
  (arg5 : Memref sig .tc .vmem S512x1024 .bf16) (harg5 : arg5.IsWhole)
  (arg6 : Memref sig .tc .vmem S512x1024 .bf16) (harg6 : arg6.IsWhole)
  (arg7 : Memref sig .tc .vmem S512x1024 .bf16) (harg7 : arg7.IsWhole)
  (arg8 : Memref sig .tc .vmem S8x1x512 .f32) (harg8 : arg8.IsWhole)
  (arg9 : Memref sig .tc .vmem S8x1x512 .f32) (harg9 : arg9.IsWhole)
  (arg10 : Memref sig .tc .vmem S4096x1024 .f32) (harg10 : arg10.IsWhole)
  (arg11 : Memref sig .tc .vmem S512x1024 .bf16) (harg11 : arg11.IsWhole)
  (arg12 : Memref sig .tc .vmem S512x1024 .bf16) (harg12 : arg12.IsWhole)
  (arg13 : Memref sig .tc .vmem S512x1024 .f32) (harg13 : arg13.IsWhole)
  (arg14 : Memref sig .tc .vmem S512x1024 .f32) (harg14 : arg14.IsWhole)

set_option maxHeartbeats 4000000 in
/-- Below the diagonal the printed body works through the eight heads unmasked, -/
theorem off_eq (i : grid0.Coords) (v1 v3 : BitVec 32) (hw : k0_chk1 v1 v3) (h : k0_cond3 v1 v3 = 1#1)
    (k : Prog (TpuEff nD τ sig (Elt F) Λ₀ .tc) PUnit) :
    (do
      let ⟨v20, v346⟩ : Σ' (v20 : BitVec 32), FVec F S512x128 .f32 ← k0_part10 i arg2 harg2 arg3 harg3 arg4 harg4 arg5 harg5 arg6 harg6 arg7 harg7 arg8 harg8 arg9 harg9 arg10 harg10 arg11 harg11 arg12 harg12 arg13 harg13 arg14 harg14 v1 v3 hw h
      let v348 : Vec F S512x128 .f32 ← Prog.lift (.load arg10 (Rect.unit (s := S4096x1024) (k0_off9 v1) S512x128.size (k0_off9_inb v1 v3 hw h)).toLoadRect (View.loadsAt_vmem h_S512x128))
      Prog.lift (.store arg10 (Rect.unit (s := S4096x1024) (k0_off9 v1) S512x128.size (k0_off9_inb v1 v3 hw h)) v346 Finset.univ (View.stores_vmem_bits_univ h_S512x128 rfl) (.inl rfl))
      k : Prog (TpuEff nD τ sig (Elt F) Λ₀ .tc) PUnit)
    = heads arg4 arg5 arg6 arg7 arg8 arg9 arg10 arg13 arg14 false v1 (slot_inb v1 (hw.2.1 h)) >>= fun _ => k := by
  simp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, heads, head, Prog.bind_lift, bind_assoc, pure_bind, Prog.pure_eq_ret, Prog.bind_ret, Prog.bind_op]
  repeat' (refine op_congr rfl (fun _ => ?_))
  rfl

set_option maxHeartbeats 4000000 in
/-- and on it masked. -/
theorem diag_eq (i : grid0.Coords) (v1 v3 : BitVec 32) (hw : k0_chk1 v1 v3) (h : k0_cond4 v1 v3 = 1#1)
    (k : Prog (TpuEff nD τ sig (Elt F) Λ₀ .tc) PUnit) :
    (do
      let ⟨v20, v22, v23, v51, v52⟩ : Σ' (v20 : BitVec 32) (v22 : FVec F S512x128 .bf16) (v23 : Vec F S512x128 .bf16) (v51 : FVec F S512x512 .bf16), Vec F S512x128 .f32 ← k0_part11 i arg2 harg2 arg3 harg3 arg4 harg4 arg5 harg5 arg6 harg6 arg7 harg7 arg8 harg8 arg9 harg9 arg10 harg10 arg11 harg11 arg12 harg12 arg13 harg13 arg14 harg14 v1
      let ⟨v68, v69, v71, v82, v86, v87⟩ : Σ' (v68 : FVec F S512x128 .bf16) (v69 : Vec F S512x128 .bf16) (v71 : FVec F S512x128 .bf16) (v82 : FVec F S512x512 .f32) (v86 : FVec F S512x128 .f32), Vec F S512x128 .f32 ← k0_part12 i arg2 harg2 arg3 harg3 arg4 harg4 arg5 harg5 arg6 harg6 arg7 harg7 arg8 harg8 arg9 harg9 arg10 harg10 arg11 harg11 arg12 harg12 arg13 harg13 arg14 harg14 v1 v3 hw h v20 v22 v23 v51 v52
      let ⟨v114, v115, v117, v118, v121, cst_69⟩ : Σ' (v114 : FVec F S512x128 .bf16) (v115 : Vec F S512x128 .bf16) (v117 : FVec F S512x128 .bf16) (v118 : FVec F S512x512 .f32) (v121 : IVec S512x512 1), F .f32 ← k0_part13 i arg2 harg2 arg3 harg3 arg4 harg4 arg5 harg5 arg6 harg6 arg7 harg7 arg8 harg8 arg9 harg9 arg10 harg10 arg11 harg11 arg12 harg12 arg13 harg13 arg14 harg14 v1 v3 hw h v20 v68 v69 v71 v82 v86 v87
      let v156 : FVec F S512x128 .f32 ← k0_part14 i arg2 harg2 arg3 harg3 arg4 harg4 arg5 harg5 arg6 harg6 arg7 harg7 arg8 harg8 arg9 harg9 arg10 harg10 arg11 harg11 arg12 harg12 arg13 harg13 arg14 harg14 v1 v3 hw h v20 v114 v115 v117 v118 v121 cst_69
      let ⟨v160, v161, v189, v190⟩ : Σ' (v160 : FVec F S512x128 .bf16) (v161 : Vec F S512x128 .bf16) (v189 : FVec F S512x512 .bf16), Vec F S512x128 .f32 ← k0_part15 i arg2 harg2 arg3 harg3 arg4 harg4 arg5 harg5 arg6 harg6 arg7 harg7 arg8 harg8 arg9 harg9 arg10 harg10 arg11 harg11 arg12 harg12 arg13 harg13 arg14 harg14 v1 v3 hw h v156
      let ⟨v206, v207, v209, v220, v224, v225⟩ : Σ' (v206 : FVec F S512x128 .bf16) (v207 : Vec F S512x128 .bf16) (v209 : FVec F S512x128 .bf16) (v220 : FVec F S512x512 .f32) (v224 : FVec F S512x128 .f32), Vec F S512x128 .f32 ← k0_part16 i arg2 harg2 arg3 harg3 arg4 harg4 arg5 harg5 arg6 harg6 arg7 harg7 arg8 harg8 arg9 harg9 arg10 harg10 arg11 harg11 arg12 harg12 arg13 harg13 arg14 harg14 v1 v3 hw h v20 v160 v161 v189 v190
      let ⟨v252, v253, v255, v256, v259, cst_156⟩ : Σ' (v252 : FVec F S512x128 .bf16) (v253 : Vec F S512x128 .bf16) (v255 : FVec F S512x128 .bf16) (v256 : FVec F S512x512 .f32) (v259 : IVec S512x512 1), F .f32 ← k0_part17 i arg2 harg2 arg3 harg3 arg4 harg4 arg5 harg5 arg6 harg6 arg7 harg7 arg8 harg8 arg9 harg9 arg10 harg10 arg11 harg11 arg12 harg12 arg13 harg13 arg14 harg14 v1 v3 hw h v20 v206 v207 v209 v220 v224 v225
      let v294 : FVec F S512x128 .f32 ← k0_part18 i arg2 harg2 arg3 harg3 arg4 harg4 arg5 harg5 arg6 harg6 arg7 harg7 arg8 harg8 arg9 harg9 arg10 harg10 arg11 harg11 arg12 harg12 arg13 harg13 arg14 harg14 v1 v3 hw h v20 v252 v253 v255 v256 v259 cst_156
      let ⟨v298, v299, v327, v328⟩ : Σ' (v298 : FVec F S512x128 .bf16) (v299 : Vec F S512x128 .bf16) (v327 : FVec F S512x512 .bf16), Vec F S512x128 .f32 ← k0_part19 i arg2 harg2 arg3 harg3 arg4 harg4 arg5 harg5 arg6 harg6 arg7 harg7 arg8 harg8 arg9 harg9 arg10 harg10 arg11 harg11 arg12 harg12 arg13 harg13 arg14 harg14 v1 v3 hw h v294
      let ⟨v344, v345, v347, v358, v362, v363⟩ : Σ' (v344 : FVec F S512x128 .bf16) (v345 : Vec F S512x128 .bf16) (v347 : FVec F S512x128 .bf16) (v358 : FVec F S512x512 .f32) (v362 : FVec F S512x128 .f32), Vec F S512x128 .f32 ← k0_part20 i arg2 harg2 arg3 harg3 arg4 harg4 arg5 harg5 arg6 harg6 arg7 harg7 arg8 harg8 arg9 harg9 arg10 harg10 arg11 harg11 arg12 harg12 arg13 harg13 arg14 harg14 v1 v3 hw h v20 v298 v299 v327 v328
      Prog.lift (.store arg14 (Rect.unit (s := S512x1024) ![0, 896] S512x128.size inb_S512x1024_S512x128_0_896) (k0_pay4 v362) Finset.univ (View.stores_vmem_bits_univ h_S512x128 rfl) (.inl rfl))
      let v366 : Vec F S512x128 .bf16 ← Prog.lift (.load arg6 (Rect.unit (s := S512x1024) ![0, 896] S512x128.size inb_S512x1024_S512x128_0_896).toLoadRect (View.loadsAt_vmem h_S512x128))
      let v368 : Vec F S1x1x512 .f32 ← Prog.lift (.load arg9 (Rect.unit (s := S8x1x512) ![7, 0, 0] S1x1x512.size inb_S8x1x512_S1x1x512_7_0_0).toLoadRect (View.loadsAt_vmem h_S1x1x512))
      let v374 : Vec F S512x128 .f32 ← Prog.lift (.load arg13 (Rect.unit (s := S512x1024) ![0, 896] S512x128.size inb_S512x1024_S512x128_0_896).toLoadRect (View.loadsAt_vmem h_S512x128))
      let v377 : Vec F S512x128 .f32 ← Prog.lift (.load arg13 (Rect.unit (s := S512x1024) ![0, 896] S512x128.size inb_S512x1024_S512x128_0_896).toLoadRect (View.loadsAt_vmem h_S512x128))
      Prog.lift (.store arg13 (Rect.unit (s := S512x1024) ![0, 896] S512x128.size inb_S512x1024_S512x128_0_896) (k0_pay6 v344 v347 v358 v366 v368 v374) Finset.univ (View.stores_vmem_bits_univ h_S512x128 rfl) (.inl rfl))
      let v381 : Vec F S512x128 .f32 ← Prog.lift (.load arg10 (Rect.unit (s := S4096x1024) (k0_off17 v1) S512x128.size (k0_off17_inb v1 v3 hw h)).toLoadRect (View.loadsAt_vmem h_S512x128))
      let v388 : Vec F S512x128 .f32 ← Prog.lift (.load arg10 (Rect.unit (s := S4096x1024) (k0_off17 v1) S512x128.size (k0_off17_inb v1 v3 hw h)).toLoadRect (View.loadsAt_vmem h_S512x128))
      Prog.lift (.store arg10 (Rect.unit (s := S4096x1024) (k0_off17 v1) S512x128.size (k0_off17_inb v1 v3 hw h)) (k0_pay7 v345 v347 v358 v366 v368 v381) Finset.univ (View.stores_vmem_bits_univ h_S512x128 rfl) (.inl rfl))
      k : Prog (TpuEff nD τ sig (Elt F) Λ₀ .tc) PUnit)
    = heads arg4 arg5 arg6 arg7 arg8 arg9 arg10 arg13 arg14 true v1 (slot_inb v1 (hw.2.2.2.2.2.2.2.2.2.2.1 h)) >>= fun _ => k := by
  simp only [k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, heads, head, Prog.bind_lift, bind_assoc, pure_bind, Prog.pure_eq_ret, Prog.bind_ret, Prog.bind_op]
  repeat' (refine op_congr rfl (fun _ => ?_))
  rfl

/-- Zero the gradient of the queries. -/
def zeroQ : Prog (TpuEff nD τ sig (Elt F) Λ₀ .tc) PUnit := do
  let _ : Vec F S4096x1024 .f32 ← Prog.lift (.load arg10 (Rect.unit (s := S4096x1024) ![0, 0] S4096x1024.size inb_S4096x1024_S4096x1024_0_0).toLoadRect (View.loadsAt_vmem h_S4096x1024))
  Prog.lift (.store arg10 (Rect.unit (s := S4096x1024) ![0, 0] S4096x1024.size inb_S4096x1024_S4096x1024_0_0) (k0_pay1 (F := F)) Finset.univ (View.stores_vmem_bits_univ h_S4096x1024 rfl) (.inl rfl))

/-- Zero the accumulators of a key block. -/
def zeroKV : Prog (TpuEff nD τ sig (Elt F) Λ₀ .tc) PUnit := do
  let _ : Vec F S512x1024 .f32 ← Prog.lift (.load arg13 (Rect.unit (s := S512x1024) ![0, 0] S512x1024.size inb_S512x1024_S512x1024_0_0).toLoadRect (View.loadsAt_vmem h_S512x1024))
  Prog.lift (.store arg13 (Rect.unit (s := S512x1024) ![0, 0] S512x1024.size inb_S512x1024_S512x1024_0_0) (k0_pay2 (F := F)) Finset.univ (View.stores_vmem_bits_univ h_S512x1024 rfl) (.inl rfl))
  let _ : Vec F S512x1024 .f32 ← Prog.lift (.load arg14 (Rect.unit (s := S512x1024) ![0, 0] S512x1024.size inb_S512x1024_S512x1024_0_0).toLoadRect (View.loadsAt_vmem h_S512x1024))
  Prog.lift (.store arg14 (Rect.unit (s := S512x1024) ![0, 0] S512x1024.size inb_S512x1024_S512x1024_0_0) (k0_pay3 (F := F)) Finset.univ (View.stores_vmem_bits_univ h_S512x1024 rfl) (.inl rfl))

/-- Write a key block's two gradients out. -/
def flushKV : Prog (TpuEff nD τ sig (Elt F) Λ₀ .tc) PUnit := do
  let a : Vec F S512x1024 .f32 ← Prog.lift (.load arg13 (Rect.unit (s := S512x1024) ![0, 0] S512x1024.size inb_S512x1024_S512x1024_0_0).toLoadRect (View.loadsAt_vmem h_S512x1024))
  let _ : Vec F S512x1024 .bf16 ← Prog.lift (.load arg11 (Rect.unit (s := S512x1024) ![0, 0] S512x1024.size inb_S512x1024_S512x1024_0_0).toLoadRect (View.loadsAt_vmem h_S512x1024))
  Prog.lift (.store arg11 (Rect.unit (s := S512x1024) ![0, 0] S512x1024.size inb_S512x1024_S512x1024_0_0) (k0_pay8 a) Finset.univ (View.stores_vmem h_S512x1024 (harg11.storeExact_slice rfl _ packedbf16_S512x1024_S512x1024_0_0) (fun _ => rfl)) (.inl rfl))
  let b : Vec F S512x1024 .f32 ← Prog.lift (.load arg14 (Rect.unit (s := S512x1024) ![0, 0] S512x1024.size inb_S512x1024_S512x1024_0_0).toLoadRect (View.loadsAt_vmem h_S512x1024))
  let _ : Vec F S512x1024 .bf16 ← Prog.lift (.load arg12 (Rect.unit (s := S512x1024) ![0, 0] S512x1024.size inb_S512x1024_S512x1024_0_0).toLoadRect (View.loadsAt_vmem h_S512x1024))
  Prog.lift (.store arg12 (Rect.unit (s := S512x1024) ![0, 0] S512x1024.size inb_S512x1024_S512x1024_0_0) (k0_pay9 b) Finset.univ (View.stores_vmem h_S512x1024 (harg12.storeExact_slice rfl _ packedbf16_S512x1024_S512x1024_0_0) (fun _ => rfl)) (.inl rfl))

theorem zeroQ_eq (k : Prog (TpuEff nD τ sig (Elt F) Λ₀ .tc) PUnit) :
    (do
      let _ : Vec F S4096x1024 .f32 ← Prog.lift (.load arg10 (Rect.unit (s := S4096x1024) ![0, 0] S4096x1024.size inb_S4096x1024_S4096x1024_0_0).toLoadRect (View.loadsAt_vmem h_S4096x1024))
      Prog.lift (.store arg10 (Rect.unit (s := S4096x1024) ![0, 0] S4096x1024.size inb_S4096x1024_S4096x1024_0_0) (k0_pay1 (F := F)) Finset.univ (View.stores_vmem_bits_univ h_S4096x1024 rfl) (.inl rfl))
      k : Prog (TpuEff nD τ sig (Elt F) Λ₀ .tc) PUnit) = zeroQ arg10 >>= fun _ => k := rfl

theorem zeroKV_eq (k : Prog (TpuEff nD τ sig (Elt F) Λ₀ .tc) PUnit) :
    (do
      let _ : Vec F S512x1024 .f32 ← Prog.lift (.load arg13 (Rect.unit (s := S512x1024) ![0, 0] S512x1024.size inb_S512x1024_S512x1024_0_0).toLoadRect (View.loadsAt_vmem h_S512x1024))
      Prog.lift (.store arg13 (Rect.unit (s := S512x1024) ![0, 0] S512x1024.size inb_S512x1024_S512x1024_0_0) (k0_pay2 (F := F)) Finset.univ (View.stores_vmem_bits_univ h_S512x1024 rfl) (.inl rfl))
      let _ : Vec F S512x1024 .f32 ← Prog.lift (.load arg14 (Rect.unit (s := S512x1024) ![0, 0] S512x1024.size inb_S512x1024_S512x1024_0_0).toLoadRect (View.loadsAt_vmem h_S512x1024))
      Prog.lift (.store arg14 (Rect.unit (s := S512x1024) ![0, 0] S512x1024.size inb_S512x1024_S512x1024_0_0) (k0_pay3 (F := F)) Finset.univ (View.stores_vmem_bits_univ h_S512x1024 rfl) (.inl rfl))
      k : Prog (TpuEff nD τ sig (Elt F) Λ₀ .tc) PUnit) = zeroKV arg13 arg14 >>= fun _ => k := rfl

/-- Everything the body does once it has its two words. -/
def rest (i : grid0.Coords) (v1 v3 : BitVec 32) (hw : k0_chk1 v1 v3) : Prog (TpuEff nD τ sig (Elt F) Λ₀ .tc) PUnit := do
  if h : k0_cond1 i = 1#1 then zeroQ arg10
  else pure ⟨⟩
  if Scalar.cmpi .ne (Scalar.extui (Scalar.cmpi .eq v1 v3)) 0#32 = 1#1 then zeroKV arg13 arg14
  else pure ⟨⟩
  if h : k0_cond3 v1 v3 = 1#1 then heads arg4 arg5 arg6 arg7 arg8 arg9 arg10 arg13 arg14 false v1 (slot_inb v1 (hw.2.1 h))
  else pure ⟨⟩
  if h : k0_cond4 v1 v3 = 1#1 then heads arg4 arg5 arg6 arg7 arg8 arg9 arg10 arg13 arg14 true v1 (slot_inb v1 (hw.2.2.2.2.2.2.2.2.2.2.1 h))
  else pure ⟨⟩
  if h : k0_cond5 v1 = 1#1 then flushKV arg11 harg11 arg12 harg12 arg13 arg14
  else pure ⟨⟩

/-- The body. -/
def body (i : grid0.Coords) : Prog (TpuEff nD τ sig (Elt F) Λ₀ .tc) PUnit := do
  let v1 : Elt F .i32 ← smemLoad arg2 (Rect.unit (s := S36) (k0_off1 i) S1.size (k0_off1_inb i)) numel1_S1 rfl
  let v3 : Elt F .i32 ← smemLoad arg3 (Rect.unit (s := S36) (k0_off1 i) S1.size (k0_off1_inb i)) numel1_S1 rfl
  have hw : k0_chk1 v1 v3 := (← Prog.lift (TpuEff.assume (k0_chk1 v1 v3) (k0_chk1.dec v1 v3))).down
  rest arg4 arg5 arg6 arg7 arg8 arg9 arg10 arg11 harg11 arg12 harg12 arg13 arg14 i v1 v3 hw

set_option maxHeartbeats 4000000 in
/-- The printed body is this one. -/
theorem body_eq (i : grid0.Coords) :
    cc0_attn_bwd (F := F) i arg2 harg2 arg3 harg3 arg4 harg4 arg5 harg5 arg6 harg6 arg7 harg7 arg8 harg8 arg9 harg9 arg10 harg10
      arg11 harg11 arg12 harg12 arg13 harg13 arg14 harg14
      = body arg2 arg3 arg4 arg5 arg6 arg7 arg8 arg9 arg10 arg11 harg11 arg12 harg12 arg13 arg14 i := by
  rw [cc0_attn_bwd_eq_skeleton]
  unfold cc0_attn_bwd_skel body rest
  refine bind_congr fun v1 => bind_congr fun v3 => bind_congr fun hw => ?_
  dsimp only
  refine dite_congr rfl (fun h1 => (zeroQ_eq _ _).trans (bind_congr fun _ => ?_)) (fun h1 => ?_) <;>
    refine ite_congr rfl (fun h2 => (zeroKV_eq _ _ _).trans (bind_congr fun _ => ?_)) (fun h2 => ?_) <;>
    refine dite_congr rfl (fun h3 => (off_eq _ harg2 _ harg3 _ harg4 _ harg5 _ harg6 _ harg7 _ harg8 _ harg9 _ harg10 _ harg11 _ harg12 _ harg13 _ harg14 i v1 v3 hw.down h3 _).trans (bind_congr fun _ => ?_)) (fun h3 => ?_) <;>
    refine dite_congr rfl (fun h4 => (diag_eq _ harg2 _ harg3 _ harg4 _ harg5 _ harg6 _ harg7 _ harg8 _ harg9 _ harg10 _ harg11 _ harg12 _ harg13 _ harg14 i v1 v3 hw.down h4 _).trans (bind_congr fun _ => ?_)) (fun h4 => ?_) <;>
    exact dite_congr rfl (fun h5 => rfl) (fun _ => rfl)

end Prog

end Cert.KernelIdeal.Bwd

end
-- ==== Proof.Steps.lean ====
/-
  What each stage of the backward body does to the memory it is handed: one head's share added to the three accumulators, the
  eight in a row, the zeroing at a key block's first point, and the writing out at its last.
-/
module

public import proofs.«01_k».proof.Proof.Body
public import proofs.«01_k».proof.Proof.Gen.KernelIdeal.Launch
public import Idealize.ShloMosaic.Lib.VecWindow
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Exec
public import Idealize.ShloMosaic.Lib.Tactic

@[expose] public section

set_option maxRecDepth 16384

noncomputable section

namespace Cert.KernelIdeal.Bwd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F] [Named F]

local notation "𝕄" => MT nD τ sig Unit (Elt F) ℕ (UR sig nD τ) ℕ

/-- The six blocks a point reads. -/
structure Ins (F : FTy → Type) where
  q : Vec F S512x1024 .bf16
  k : Vec F S512x1024 .bf16
  v : Vec F S512x1024 .bf16
  d : Vec F S512x1024 .bf16
  lse : Vec F S8x1x512 .f32
  dl : Vec F S8x1x512 .f32

/-- The three gradients as far as they are accumulated: of all the queries, and of one block of keys and values. -/
structure Acc (F : FTy → Type) where
  dq : Vec F S4096x1024 .f32
  dk : Vec F S512x1024 .f32
  dv : Vec F S512x1024 .f32

/-- Head `hh`'s lanes of a block, -/
abbrev part {e : EltTy} (x : Vec F S512x1024 e) (hh : Fin 8) : Vec F S512x128 e := window x (lane hh) S512x128.size (lane_inb hh)
/-- and its row of a table. -/
abbrev line {e : EltTy} (x : Vec F S8x1x512 e) (hh : Fin 8) : Vec F S1x1x512 e := window x (row hh) S1x1x512.size (row_inb hh)

/-- Head `hh`'s share added. -/
def upd (diag : Bool) (I : Ins F) (v1 : BitVec 32) (hh : Fin 8) (hb : ∀ a, slot v1 hh a + S512x128.size a ≤ S4096x1024.size a)
    (A : Acc F) : Acc F where
  dq := put A.dq (slot v1 hh) S512x128.size (newQ diag (part I.q hh) (part I.k hh) (part I.v hh) (part I.d hh) (line I.lse hh) (line I.dl hh)
    (window A.dq (slot v1 hh) S512x128.size hb))
  dk := put A.dk (lane hh) S512x128.size (newK diag (part I.q hh) (part I.k hh) (part I.v hh) (part I.d hh) (line I.lse hh) (line I.dl hh) (part A.dk hh))
  dv := put A.dv (lane hh) S512x128.size (newV diag (part I.q hh) (part I.k hh) (part I.d hh) (line I.lse hh) (part A.dv hh))

/-- All eight heads' shares added. -/
def upds (diag : Bool) (I : Ins F) (v1 : BitVec 32) (hb : ∀ hh a, slot v1 hh a + S512x128.size a ≤ S4096x1024.size a) (A : Acc F) : Acc F :=
  upd diag I v1 7 (hb 7) (upd diag I v1 6 (hb 6) (upd diag I v1 5 (hb 5) (upd diag I v1 4 (hb 4)
    (upd diag I v1 3 (hb 3) (upd diag I v1 2 (hb 2) (upd diag I v1 1 (hb 1) (upd diag I v1 0 (hb 0) A)))))))

/-- A memref held whole at contents `x`. -/
abbrev held {s : Shape} {e : EltTy} (c : Dev nD) (r : Memref sig .tc .vmem s e) (x : s.Idx → Elt F e) : sProp 𝕄 :=
  r.view.loc (c : Thread nD τ) ↦[r.view.set]{fullShare} r.view.rep x

theorem rd_part {e : EltTy} (v : View sig .tc .vmem S512x1024 e) (x : S512x1024.Idx → Elt F e) (hh : Fin 8) (inb) :
    v.readAt (Elt F) (Rect.unit (s := S512x1024) (lane hh) S512x128.size inb).toLoadRect (v.rep x) = part x hh := View.readAt_rep_unit (s := S512x1024) v x inb rfl (lane_inb hh)
theorem rd_line {e : EltTy} (v : View sig .tc .vmem S8x1x512 e) (x : S8x1x512.Idx → Elt F e) (hh : Fin 8) (inb) :
    v.readAt (Elt F) (Rect.unit (s := S8x1x512) (row hh) S1x1x512.size inb).toLoadRect (v.rep x) = line x hh := View.readAt_rep_unit (s := S8x1x512) v x inb rfl (row_inb hh)
theorem rd_slot {e : EltTy} (v : View sig .tc .vmem S4096x1024 e) (x : S4096x1024.Idx → Elt F e) (v1 : BitVec 32) (hh : Fin 8) (inb) :
    v.readAt (Elt F) (Rect.unit (s := S4096x1024) (slot v1 hh) S512x128.size inb).toLoadRect (v.rep x) = window (s := S4096x1024) x (slot v1 hh) S512x128.size inb :=
  View.readAt_rep_unit (s := S4096x1024) v x inb rfl inb

theorem rd_full {e : EltTy} (v : View sig .tc .vmem S512x1024 e) (x : S512x1024.Idx → Elt F e) (inb) :
    v.readAt (Elt F) (Rect.unit (s := S512x1024) ![0, 0] S512x1024.size inb).toLoadRect (v.rep x) = x := View.readAt_rep_full v x inb

theorem put_dq (w : View sig .tc .vmem S4096x1024 .f32) (diag : Bool) (I : Ins F) (v1 : BitVec 32) (hh : Fin 8) (hb : ∀ a, slot v1 hh a + S512x128.size a ≤ S4096x1024.size a) (A : Acc F)
    {q k v d : Vec F S512x128 .bf16} {lse dl : Vec F S1x1x512 .f32} {a : Vec F S512x128 .f32} (hq : q = part I.q hh) (hk : k = part I.k hh)
    (hv : v = part I.v hh) (hd : d = part I.d hh) (hl : lse = line I.lse hh) (hdl : dl = line I.dl hh)
    (ha : a = window (s := S4096x1024) A.dq (slot v1 hh) S512x128.size hb) :
    w.read (Elt F) (w.writes (Elt F) (w.rep A.dq) [⟨Rect.unit (s := S4096x1024) (slot v1 hh) S512x128.size hb, newQ diag q k v d lse dl a⟩])
      = (upd diag I v1 hh hb A).dq := by
  subst hq hk hv hd hl hdl ha
  exact View.read_writes_rep_unit w A.dq _ _ rfl
theorem put_dk (w : View sig .tc .vmem S512x1024 .f32) (diag : Bool) (I : Ins F) (v1 : BitVec 32) (hh : Fin 8) (hb : ∀ a, slot v1 hh a + S512x128.size a ≤ S4096x1024.size a) (A : Acc F)
    {q k v d : Vec F S512x128 .bf16} {lse dl : Vec F S1x1x512 .f32} {a : Vec F S512x128 .f32} (hq : q = part I.q hh) (hk : k = part I.k hh)
    (hv : v = part I.v hh) (hd : d = part I.d hh) (hl : lse = line I.lse hh) (hdl : dl = line I.dl hh) (ha : a = part A.dk hh) :
    w.read (Elt F) (w.writes (Elt F) (w.rep A.dk) [⟨Rect.unit (s := S512x1024) (lane hh) S512x128.size (lane_inb hh), newK diag q k v d lse dl a⟩])
      = (upd diag I v1 hh hb A).dk := by
  subst hq hk hv hd hl hdl ha
  exact View.read_writes_rep_unit w A.dk _ _ rfl
theorem put_dv (w : View sig .tc .vmem S512x1024 .f32) (diag : Bool) (I : Ins F) (v1 : BitVec 32) (hh : Fin 8) (hb : ∀ a, slot v1 hh a + S512x128.size a ≤ S4096x1024.size a) (A : Acc F)
    {q k d : Vec F S512x128 .bf16} {lse : Vec F S1x1x512 .f32} {a : Vec F S512x128 .f32} (hq : q = part I.q hh) (hk : k = part I.k hh)
    (hd : d = part I.d hh) (hl : lse = line I.lse hh) (ha : a = part A.dv hh) :
    w.read (Elt F) (w.writes (Elt F) (w.rep A.dv) [⟨Rect.unit (s := S512x1024) (lane hh) S512x128.size (lane_inb hh), newV diag q k d lse a⟩])
      = (upd diag I v1 hh hb A).dv := by
  subst hq hk hd hl ha
  exact View.read_writes_rep_unit w A.dv _ _ rfl

section Runs

variable (arg4 : Memref sig .tc .vmem S512x1024 .bf16) (arg5 : Memref sig .tc .vmem S512x1024 .bf16)
  (arg6 : Memref sig .tc .vmem S512x1024 .bf16) (arg7 : Memref sig .tc .vmem S512x1024 .bf16)
  (arg8 : Memref sig .tc .vmem S8x1x512 .f32) (arg9 : Memref sig .tc .vmem S8x1x512 .f32)
  (arg10 : Memref sig .tc .vmem S4096x1024 .f32)
  (arg13 : Memref sig .tc .vmem S512x1024 .f32) (arg14 : Memref sig .tc .vmem S512x1024 .f32)

/-- What the eight heads touch, with the inputs at `I` and the accumulators at `A`. -/
def world (c : Dev nD) (I : Ins F) (A : Acc F) : sProp 𝕄 :=
  iprop(held c arg4 I.q ∗ held c arg5 I.k ∗ held c arg6 I.v ∗ held c arg7 I.d ∗ held c arg8 I.lse ∗ held c arg9 I.dl
    ∗ held c arg10 A.dq ∗ held c arg13 A.dk ∗ held c arg14 A.dv)

set_option maxHeartbeats 4000000 in
/-- One head's run. -/
theorem head_run (c : Dev nD) (diag : Bool) (v1 : BitVec 32) (hh : Fin 8) (hb : ∀ a, slot v1 hh a + S512x128.size a ≤ S4096x1024.size a)
    (I : Ins F) (A : Acc F) (K : PUnit → sProp 𝕄) :
    iprop(world arg4 arg5 arg6 arg7 arg8 arg9 arg10 arg13 arg14 c I A
      ∗ (world arg4 arg5 arg6 arg7 arg8 arg9 arg10 arg13 arg14 c I (upd diag I v1 hh hb A) -∗ K ⟨⟩))
    ⊢ wp frame (wpE (defs₀ (F := F)) Variants.none c none) Set.univ (head arg4 arg5 arg6 arg7 arg8 arg9 arg10 arg13 arg14 diag v1 hh hb) K := by
  unfold world head
  iintro ⟨⟨H4, H5, H6, H7, H8, H9, H10, H13, H14⟩, Hk⟩
  sl_exec!
  sl_step
  iapply Hk
  isplitl [H4]; · iexact H4
  isplitl [H5]; · iexact H5
  isplitl [H6]; · iexact H6
  isplitl [H7]; · iexact H7
  isplitl [H8]; · iexact H8
  isplitl [H9]; · iexact H9
  isplitl [H10]
  · iapply (pointsTo_rep_of_read (c : Thread nD τ) arg10 _ fullShare _ (put_dq arg10.view diag I v1 hh hb A
      (rd_part arg4.view I.q hh _) (rd_part arg5.view I.k hh _) (rd_part arg6.view I.v hh _) (rd_part arg7.view I.d hh _)
      (rd_line arg8.view I.lse hh _) (rd_line arg9.view I.dl hh _) (rd_slot arg10.view A.dq v1 hh _)))
    iexact H10
  isplitl [H13]
  · iapply (pointsTo_rep_of_read (c : Thread nD τ) arg13 _ fullShare _ (put_dk arg13.view diag I v1 hh hb A
      (rd_part arg4.view I.q hh _) (rd_part arg5.view I.k hh _) (rd_part arg6.view I.v hh _) (rd_part arg7.view I.d hh _)
      (rd_line arg8.view I.lse hh _) (rd_line arg9.view I.dl hh _) (rd_part arg13.view A.dk hh _)))
    iexact H13
  iapply (pointsTo_rep_of_read (c : Thread nD τ) arg14 _ fullShare _ (put_dv arg14.view diag I v1 hh hb A
    (rd_part arg4.view I.q hh _) (rd_part arg5.view I.k hh _) (rd_part arg7.view I.d hh _)
    (rd_line arg8.view I.lse hh _) (rd_part arg14.view A.dv hh _)))
  iexact H14

/-- The eight heads' run. -/
theorem heads_run (c : Dev nD) (diag : Bool) (v1 : BitVec 32) (hb : ∀ hh a, slot v1 hh a + S512x128.size a ≤ S4096x1024.size a)
    (I : Ins F) (A : Acc F) (K : PUnit → sProp 𝕄) :
    iprop(world arg4 arg5 arg6 arg7 arg8 arg9 arg10 arg13 arg14 c I A
      ∗ (world arg4 arg5 arg6 arg7 arg8 arg9 arg10 arg13 arg14 c I (upds diag I v1 hb A) -∗ K ⟨⟩))
    ⊢ wp frame (wpE (defs₀ (F := F)) Variants.none c none) Set.univ (heads arg4 arg5 arg6 arg7 arg8 arg9 arg10 arg13 arg14 diag v1 hb) K := by
  unfold heads
  simp only [wp_bind]
  iintro ⟨HW, Hk⟩
  iapply (head_run arg4 arg5 arg6 arg7 arg8 arg9 arg10 arg13 arg14 c diag v1 0 (hb 0) I A)
  isplitl [HW]; · iexact HW
  iintro HW
  iapply (head_run arg4 arg5 arg6 arg7 arg8 arg9 arg10 arg13 arg14 c diag v1 1 (hb 1) I _)
  isplitl [HW]; · iexact HW
  iintro HW
  iapply (head_run arg4 arg5 arg6 arg7 arg8 arg9 arg10 arg13 arg14 c diag v1 2 (hb 2) I _)
  isplitl [HW]; · iexact HW
  iintro HW
  iapply (head_run arg4 arg5 arg6 arg7 arg8 arg9 arg10 arg13 arg14 c diag v1 3 (hb 3) I _)
  isplitl [HW]; · iexact HW
  iintro HW
  iapply (head_run arg4 arg5 arg6 arg7 arg8 arg9 arg10 arg13 arg14 c diag v1 4 (hb 4) I _)
  isplitl [HW]; · iexact HW
  iintro HW
  iapply (head_run arg4 arg5 arg6 arg7 arg8 arg9 arg10 arg13 arg14 c diag v1 5 (hb 5) I _)
  isplitl [HW]; · iexact HW
  iintro HW
  iapply (head_run arg4 arg5 arg6 arg7 arg8 arg9 arg10 arg13 arg14 c diag v1 6 (hb 6) I _)
  isplitl [HW]; · iexact HW
  iintro HW
  iapply (head_run arg4 arg5 arg6 arg7 arg8 arg9 arg10 arg13 arg14 c diag v1 7 (hb 7) I _)
  isplitl [HW]; · iexact HW
  iexact Hk

/-- Zeroing the gradient of the queries. -/
theorem zeroQ_run (c : Dev nD) (I : Ins F) (A : Acc F) (K : PUnit → sProp 𝕄) :
    iprop(world arg4 arg5 arg6 arg7 arg8 arg9 arg10 arg13 arg14 c I A
      ∗ (world arg4 arg5 arg6 arg7 arg8 arg9 arg10 arg13 arg14 c I ⟨k0_pay1, A.dk, A.dv⟩ -∗ K ⟨⟩))
    ⊢ wp frame (wpE (defs₀ (F := F)) Variants.none c none) Set.univ (zeroQ arg10) K := by
  unfold world zeroQ
  iintro ⟨⟨H4, H5, H6, H7, H8, H9, H10, H13, H14⟩, Hk⟩
  sl_exec!
  sl_step
  iapply Hk
  isplitl [H4]; · iexact H4
  isplitl [H5]; · iexact H5
  isplitl [H6]; · iexact H6
  isplitl [H7]; · iexact H7
  isplitl [H8]; · iexact H8
  isplitl [H9]; · iexact H9
  isplitl [H10]
  · iapply (pointsTo_rep_of_read (c : Thread nD τ) arg10 _ fullShare _ (View.read_writes_full _ _ _ _ _))
    iexact H10
  isplitl [H13]; · iexact H13
  iexact H14

/-- Zeroing a key block's accumulators. -/
theorem zeroKV_run (c : Dev nD) (I : Ins F) (A : Acc F) (K : PUnit → sProp 𝕄) :
    iprop(world arg4 arg5 arg6 arg7 arg8 arg9 arg10 arg13 arg14 c I A
      ∗ (world arg4 arg5 arg6 arg7 arg8 arg9 arg10 arg13 arg14 c I ⟨A.dq, k0_pay2, k0_pay3⟩ -∗ K ⟨⟩))
    ⊢ wp frame (wpE (defs₀ (F := F)) Variants.none c none) Set.univ (zeroKV arg13 arg14) K := by
  unfold world zeroKV
  iintro ⟨⟨H4, H5, H6, H7, H8, H9, H10, H13, H14⟩, Hk⟩
  sl_exec!
  sl_step
  iapply Hk
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H13]
  · iapply (pointsTo_rep_of_read (c : Thread nD τ) arg13 _ fullShare _ (View.read_writes_full _ _ _ _ _))
    iexact H13
  iapply (pointsTo_rep_of_read (c : Thread nD τ) arg14 _ fullShare _ (View.read_writes_full _ _ _ _ _))
  iexact H14

variable (arg11 : Memref sig .tc .vmem S512x1024 .bf16) (harg11 : arg11.IsWhole)
  (arg12 : Memref sig .tc .vmem S512x1024 .bf16) (harg12 : arg12.IsWhole)

/-- Writing a key block's gradients out. -/
theorem flushKV_run (c : Dev nD) (I : Ins F) (A : Acc F) (x y : Vec F S512x1024 .bf16) (K : PUnit → sProp 𝕄) :
    iprop(world arg4 arg5 arg6 arg7 arg8 arg9 arg10 arg13 arg14 c I A ∗ held c arg11 x ∗ held c arg12 y
      ∗ (iprop(world arg4 arg5 arg6 arg7 arg8 arg9 arg10 arg13 arg14 c I A ∗ held c arg11 (k0_pay8 A.dk) ∗ held c arg12 (k0_pay9 A.dv)) -∗ K ⟨⟩))
    ⊢ wp frame (wpE (defs₀ (F := F)) Variants.none c none) Set.univ (flushKV arg11 harg11 arg12 harg12 arg13 arg14) K := by
  unfold world flushKV
  iintro ⟨⟨H4, H5, H6, H7, H8, H9, H10, H13, H14⟩, H11, H12, Hk⟩
  sl_exec!
  sl_step
  iapply Hk
  isplitr [H11 H12]
  · isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H13]; · iexact H13
    iexact H14
  isplitl [H11]
  · iapply (pointsTo_rep_of_read (c : Thread nD τ) arg11 _ fullShare _ ((View.read_writes_full arg11.view _ _ _ _).trans (congrArg k0_pay8 (rd_full arg13.view A.dk _))))
    iexact H11
  iapply (pointsTo_rep_of_read (c : Thread nD τ) arg12 _ fullShare _ ((View.read_writes_full arg12.view _ _ _ _).trans (congrArg k0_pay9 (rd_full arg14.view A.dv _))))
  iexact H12

end Runs

end Cert.KernelIdeal.Bwd

end
-- ==== Proof.Run.lean ====
/-
  The body's whole run at a point: from the two words of the tables, the blocks read and the gradients accumulated so far.
-/
module

public import proofs.«01_k».proof.Proof.Steps

@[expose] public section

set_option maxRecDepth 16384

noncomputable section

namespace Cert.KernelIdeal.Bwd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F] [Named F]

local notation "𝕄" => MT nD τ sig Unit (Elt F) ℕ (UR sig nD τ) ℕ

/-- The condition under which a key block's accumulators are zeroed. -/
abbrev starts (v1 v3 : BitVec 32) : Prop := Scalar.cmpi .ne (Scalar.extui (Scalar.cmpi .eq v1 v3)) 0#32 = 1#1

/-- The accumulators once a point's zeroing is done, -/
def stage1 (i : grid0.Coords) (A : Acc F) : Acc F := if k0_cond1 i = 1#1 then ⟨k0_pay1, A.dk, A.dv⟩ else A
def stage2 (v1 v3 : BitVec 32) (A : Acc F) : Acc F := if starts v1 v3 then ⟨A.dq, k0_pay2, k0_pay3⟩ else A
/-- once the heads below the diagonal are, -/
def stage3 (I : Ins F) (v1 v3 : BitVec 32) (hw : k0_chk1 v1 v3) (A : Acc F) : Acc F :=
  if h : k0_cond3 v1 v3 = 1#1 then upds false I v1 (slot_inb v1 (hw.2.1 h)) A else A
/-- and those on it. -/
def stage4 (I : Ins F) (v1 v3 : BitVec 32) (hw : k0_chk1 v1 v3) (A : Acc F) : Acc F :=
  if h : k0_cond4 v1 v3 = 1#1 then upds true I v1 (slot_inb v1 (hw.2.2.2.2.2.2.2.2.2.2.1 h)) A else A

/-- The accumulators after a point. -/
def point (i : grid0.Coords) (I : Ins F) (v1 v3 : BitVec 32) (hw : k0_chk1 v1 v3) (A : Acc F) : Acc F :=
  stage4 I v1 v3 hw (stage3 I v1 v3 hw (stage2 v1 v3 (stage1 i A)))

section Runs

variable (arg4 : Memref sig .tc .vmem S512x1024 .bf16) (arg5 : Memref sig .tc .vmem S512x1024 .bf16)
  (arg6 : Memref sig .tc .vmem S512x1024 .bf16) (arg7 : Memref sig .tc .vmem S512x1024 .bf16)
  (arg8 : Memref sig .tc .vmem S8x1x512 .f32) (arg9 : Memref sig .tc .vmem S8x1x512 .f32)
  (arg10 : Memref sig .tc .vmem S4096x1024 .f32)
  (arg11 : Memref sig .tc .vmem S512x1024 .bf16) (harg11 : arg11.IsWhole)
  (arg12 : Memref sig .tc .vmem S512x1024 .bf16) (harg12 : arg12.IsWhole)
  (arg13 : Memref sig .tc .vmem S512x1024 .f32) (arg14 : Memref sig .tc .vmem S512x1024 .f32)

/-- The rest of the body, its five conditions in a row. -/
theorem rest_eq (i : grid0.Coords) (v1 v3 : BitVec 32) (hw : k0_chk1 v1 v3) :
    rest (F := F) arg4 arg5 arg6 arg7 arg8 arg9 arg10 arg11 harg11 arg12 harg12 arg13 arg14 i v1 v3 hw
      = (if k0_cond1 i = 1#1 then zeroQ arg10 else pure ⟨⟩) >>= fun _ =>
        (if starts v1 v3 then zeroKV arg13 arg14 else pure ⟨⟩) >>= fun _ =>
        (if h : k0_cond3 v1 v3 = 1#1 then heads arg4 arg5 arg6 arg7 arg8 arg9 arg10 arg13 arg14 false v1 (slot_inb v1 (hw.2.1 h)) else pure ⟨⟩) >>= fun _ =>
        (if h : k0_cond4 v1 v3 = 1#1 then heads arg4 arg5 arg6 arg7 arg8 arg9 arg10 arg13 arg14 true v1 (slot_inb v1 (hw.2.2.2.2.2.2.2.2.2.2.1 h)) else pure ⟨⟩) >>= fun _ =>
        (if k0_cond5 v1 = 1#1 then flushKV arg11 harg11 arg12 harg12 arg13 arg14 else pure ⟨⟩) := by
  unfold rest starts
  dsimp only
  by_cases h1 : k0_cond1 i = 1#1 <;> by_cases h2 : Scalar.cmpi .ne (Scalar.extui (Scalar.cmpi .eq v1 v3)) 0#32 = 1#1 <;> by_cases h3 : k0_cond3 v1 v3 = 1#1 <;>
    by_cases h4 : k0_cond4 v1 v3 = 1#1 <;> by_cases h5 : k0_cond5 v1 = 1#1 <;>
    simp only [dif_pos, dif_neg, if_pos, if_neg, h1, h2, h3, h4, h5, not_false_eq_true, pure_bind]

variable (c : Dev nD) (I : Ins F) (A : Acc F)

/-- The rest of the body's run. -/
theorem rest_run (i : grid0.Coords) (v1 v3 : BitVec 32) (hw : k0_chk1 v1 v3) (x y : Vec F S512x1024 .bf16) (K : PUnit → sProp 𝕄) :
    iprop(world arg4 arg5 arg6 arg7 arg8 arg9 arg10 arg13 arg14 c I A ∗ held c arg11 x ∗ held c arg12 y
      ∗ (iprop(world arg4 arg5 arg6 arg7 arg8 arg9 arg10 arg13 arg14 c I (point i I v1 v3 hw A)
        ∗ held c arg11 (if k0_cond5 v1 = 1#1 then k0_pay8 (point i I v1 v3 hw A).dk else x)
        ∗ held c arg12 (if k0_cond5 v1 = 1#1 then k0_pay9 (point i I v1 v3 hw A).dv else y)) -∗ K ⟨⟩))
    ⊢ wp frame (wpE (defs₀ (F := F)) Variants.none c none) Set.univ
        (rest arg4 arg5 arg6 arg7 arg8 arg9 arg10 arg11 harg11 arg12 harg12 arg13 arg14 i v1 v3 hw) K := by
  rw [rest_eq]
  simp only [wp_bind]
  unfold point
  iintro ⟨HW, H11, H12, Hk⟩
  -- the queries' gradient
  have r1 : ∀ K : PUnit → sProp 𝕄, iprop(world arg4 arg5 arg6 arg7 arg8 arg9 arg10 arg13 arg14 c I A
      ∗ (world arg4 arg5 arg6 arg7 arg8 arg9 arg10 arg13 arg14 c I (stage1 i A) -∗ K ⟨⟩))
      ⊢ wp frame (wpE (defs₀ (F := F)) Variants.none c none) Set.univ (if k0_cond1 i = 1#1 then zeroQ arg10 else pure ⟨⟩) K := by
    intro K
    unfold stage1
    split
    · exact zeroQ_run arg4 arg5 arg6 arg7 arg8 arg9 arg10 arg13 arg14 c I A K
    · iintro ⟨HW, Hk⟩
      sl_step
      iapply Hk
      iexact HW
  have r2 : ∀ (A : Acc F) (K : PUnit → sProp 𝕄), iprop(world arg4 arg5 arg6 arg7 arg8 arg9 arg10 arg13 arg14 c I A
      ∗ (world arg4 arg5 arg6 arg7 arg8 arg9 arg10 arg13 arg14 c I (stage2 v1 v3 A) -∗ K ⟨⟩))
      ⊢ wp frame (wpE (defs₀ (F := F)) Variants.none c none) Set.univ (if starts v1 v3 then zeroKV arg13 arg14 else pure ⟨⟩) K := by
    intro A K
    unfold stage2
    split
    · exact zeroKV_run arg4 arg5 arg6 arg7 arg8 arg9 arg10 arg13 arg14 c I A K
    · iintro ⟨HW, Hk⟩
      sl_step
      iapply Hk
      iexact HW
  have r3 : ∀ (A : Acc F) (K : PUnit → sProp 𝕄), iprop(world arg4 arg5 arg6 arg7 arg8 arg9 arg10 arg13 arg14 c I A
      ∗ (world arg4 arg5 arg6 arg7 arg8 arg9 arg10 arg13 arg14 c I (stage3 I v1 v3 hw A) -∗ K ⟨⟩))
      ⊢ wp frame (wpE (defs₀ (F := F)) Variants.none c none) Set.univ (if h : k0_cond3 v1 v3 = 1#1 then heads arg4 arg5 arg6 arg7 arg8 arg9 arg10 arg13 arg14 false v1 (slot_inb v1 (hw.2.1 h)) else pure ⟨⟩) K := by
    intro A K
    unfold stage3
    split
    · exact heads_run arg4 arg5 arg6 arg7 arg8 arg9 arg10 arg13 arg14 c false v1 _ I A K
    · iintro ⟨HW, Hk⟩
      sl_step
      iapply Hk
      iexact HW
  have r4 : ∀ (A : Acc F) (K : PUnit → sProp 𝕄), iprop(world arg4 arg5 arg6 arg7 arg8 arg9 arg10 arg13 arg14 c I A
      ∗ (world arg4 arg5 arg6 arg7 arg8 arg9 arg10 arg13 arg14 c I (stage4 I v1 v3 hw A) -∗ K ⟨⟩))
      ⊢ wp frame (wpE (defs₀ (F := F)) Variants.none c none) Set.univ (if h : k0_cond4 v1 v3 = 1#1 then heads arg4 arg5 arg6 arg7 arg8 arg9 arg10 arg13 arg14 true v1 (slot_inb v1 (hw.2.2.2.2.2.2.2.2.2.2.1 h)) else pure ⟨⟩) K := by
    intro A K
    unfold stage4
    split
    · exact heads_run arg4 arg5 arg6 arg7 arg8 arg9 arg10 arg13 arg14 c true v1 _ I A K
    · iintro ⟨HW, Hk⟩
      sl_step
      iapply Hk
      iexact HW
  iapply (r1 _)
  isplitl [HW]; · iexact HW
  iintro HW
  iapply (r2 _ _)
  isplitl [HW]; · iexact HW
  iintro HW
  iapply (r3 _ _)
  isplitl [HW]; · iexact HW
  iintro HW
  iapply (r4 _ _)
  isplitl [HW]; · iexact HW
  iintro HW
  split
  · iapply (flushKV_run arg4 arg5 arg6 arg7 arg8 arg9 arg10 arg13 arg14 arg11 harg11 arg12 harg12 c I _ x y K)
    isplitl [HW]; · iexact HW
    isplitl [H11]; · iexact H11
    isplitl [H12]; · iexact H12
    iexact Hk
  · sl_step
    iapply Hk
    isplitl [HW]; · iexact HW
    isplitl [H11]; · iexact H11
    iexact H12

end Runs

end Cert.KernelIdeal.Bwd

end
-- ==== Proof.Sched.lean ====
/-
  The schedule: the two tables the program writes (key block and query block of each of the 36 points), the pipeline at
  them, and what each point's words decide.
-/
module

public import proofs.«01_k».proof.Proof.Run

@[expose] public section

set_option maxRecDepth 16384
set_option Elab.async false

noncomputable section

namespace Cert.KernelIdeal.Bwd

open Cert.KernelIdeal Cert.KernelIdeal.Gen
open Idealize.ShloMosaic
open Idealize.ShloMosaic.TcCoe Idealize.ShloMosaic.Tactic
open Idealize.ShloMosaic.Pipeline (Dat Cfg Window)

/-- The tables' contents: the query block and the key block of each point. -/
def T0 : S36.Idx → BitVec 32 := fun i => lit0 (S36.rowMajor i)
def T1 : S36.Idx → BitVec 32 := fun i => lit1 (S36.rowMajor i)

abbrev tb0 : Memref sig .tc .smem S36 .i32 := Memref.whole main_c
abbrev tb1 : Memref sig .tc .smem S36 .i32 := Memref.whole main_c_0
abbrev sc0 : Memref sig .tc .vmem S512x1024 .f32 := Memref.whole cc0_scratch0
abbrev sc1 : Memref sig .tc .vmem S512x1024 .f32 := Memref.whole cc0_scratch1

set_option backward.proofsInPublic true in
def pf : pre0.Contents (Elt Ideal) := fun | ⟨0, _⟩ => T0 | ⟨1, _⟩ => T1 | ⟨_ + 2, h⟩ => absurd h (by simp)

theorem ok0_0 : ∀ i : grid0.Coords, ∃ h : (∀ a, (cc0_transform_0 k0_off1_inb numel1_S1 pf i a + 1) * S512x1024.size a ≤ S4096x1024.size a), EltTy.bits .bf16 = 32 ∨ (Rect.block (s := S4096x1024) S512x1024.size (cc0_transform_0 k0_off1_inb numel1_S1 pf i) h).WholeWords (EltTy.packing .bf16) := by decide +kernel
theorem ok0_1 : ∀ i : grid0.Coords, ∃ h : (∀ a, (cc0_transform_1 k0_off1_inb numel1_S1 pf i a + 1) * S512x1024.size a ≤ S4096x1024.size a), EltTy.bits .bf16 = 32 ∨ (Rect.block (s := S4096x1024) S512x1024.size (cc0_transform_1 k0_off1_inb numel1_S1 pf i) h).WholeWords (EltTy.packing .bf16) := by decide +kernel
theorem ok0_2 : ∀ i : grid0.Coords, ∃ h : (∀ a, (cc0_transform_2 k0_off1_inb numel1_S1 pf i a + 1) * S512x1024.size a ≤ S4096x1024.size a), EltTy.bits .bf16 = 32 ∨ (Rect.block (s := S4096x1024) S512x1024.size (cc0_transform_2 k0_off1_inb numel1_S1 pf i) h).WholeWords (EltTy.packing .bf16) := by decide +kernel
theorem ok0_3 : ∀ i : grid0.Coords, ∃ h : (∀ a, (cc0_transform_3 k0_off1_inb numel1_S1 pf i a + 1) * S512x1024.size a ≤ S4096x1024.size a), EltTy.bits .bf16 = 32 ∨ (Rect.block (s := S4096x1024) S512x1024.size (cc0_transform_3 k0_off1_inb numel1_S1 pf i) h).WholeWords (EltTy.packing .bf16) := by decide +kernel
theorem ok0_4 : ∀ i : grid0.Coords, ∃ h : (∀ a, (cc0_transform_4 k0_off1_inb numel1_S1 pf i a + 1) * S8x1x512.size a ≤ S8x1x4096.size a), EltTy.bits .f32 = 32 ∨ (Rect.block (s := S8x1x4096) S8x1x512.size (cc0_transform_4 k0_off1_inb numel1_S1 pf i) h).WholeWords (EltTy.packing .f32) := by decide +kernel
theorem ok0_5 : ∀ i : grid0.Coords, ∃ h : (∀ a, (cc0_transform_5 k0_off1_inb numel1_S1 pf i a + 1) * S8x1x512.size a ≤ S8x1x4096.size a), EltTy.bits .f32 = 32 ∨ (Rect.block (s := S8x1x4096) S8x1x512.size (cc0_transform_5 k0_off1_inb numel1_S1 pf i) h).WholeWords (EltTy.packing .f32) := by decide +kernel
theorem ok0_7 : ∀ i : grid0.Coords, ∃ h : (∀ a, (cc0_transform_7 k0_off1_inb numel1_S1 pf i a + 1) * S512x1024.size a ≤ S4096x1024.size a), EltTy.bits .bf16 = 32 ∨ (Rect.block (s := S4096x1024) S512x1024.size (cc0_transform_7 k0_off1_inb numel1_S1 pf i) h).WholeWords (EltTy.packing .bf16) := by decide +kernel
theorem ok0_8 : ∀ i : grid0.Coords, ∃ h : (∀ a, (cc0_transform_8 k0_off1_inb numel1_S1 pf i a + 1) * S512x1024.size a ≤ S4096x1024.size a), EltTy.bits .bf16 = 32 ∨ (Rect.block (s := S4096x1024) S512x1024.size (cc0_transform_8 k0_off1_inb numel1_S1 pf i) h).WholeWords (EltTy.packing .bf16) := by decide +kernel

theorem ok_pf : ok0 (F := Ideal) pf := ⟨ok0_0, ok0_1, ok0_2, ok0_3, ok0_4, ok0_5, ok0_7, ok0_8⟩

/-- The contents as the pipeline admits them, and the pipeline there. -/
def adm : (pcfg0 (F := Ideal)).Adm := ⟨pf, ok_pf⟩
abbrev cfgA : Pipeline.Cfg sig Λ₀ := cfg0 (F := Ideal) adm
abbrev pcs : Fin 1 → Pipeline.Cfg sig Λ₀ := Pipeline.pin (pcfgs (F := Ideal)) fun _ => adm

abbrev crd (t : Fin cfgA.N) : cfgA.grid.Coords := cfgA.grid.coords t

/-- The two words a point reads. -/
abbrev wq (t : Fin cfgA.N) : BitVec 32 :=
  View.readAt (Elt Ideal) tb0.view (Rect.unit (s := S36) (k0_off1 (crd t)) S1.size (k0_off1_inb (crd t))).toLoadRect T0 (Shape.Idx.first (numel1_S1.symm ▸ Nat.one_pos))
abbrev wk (t : Fin cfgA.N) : BitVec 32 :=
  View.readAt (Elt Ideal) tb1.view (Rect.unit (s := S36) (k0_off1 (crd t)) S1.size (k0_off1_inb (crd t))).toLoadRect T1 (Shape.Idx.first (numel1_S1.symm ▸ Nat.one_pos))

/-- The body's side condition holds at every point, -/
theorem chk : ∀ t : Fin cfgA.N, k0_chk1 (wq t) (wk t) := by decide +kernel
/-- the first point zeroes every accumulator, -/
theorem first_cond : ∀ t : Fin cfgA.N, t.val = 0 → k0_cond1 (crd t) = 1#1 ∧ starts (wq t) (wk t) := by decide +kernel
theorem later_cond : ∀ t : Fin cfgA.N, t.val ≠ 0 → ¬ k0_cond1 (crd t) = 1#1 := by decide +kernel
/-- the queries' gradient is stored at every point and written back after the last, -/
theorem idle6 : ∀ t : Fin cfgA.N, cfgA.idle (6 : Fin 9) (cfgA.grid.coords t) = false := by decide +kernel
theorem flush6 : ∀ t : Fin cfgA.N, (cfgA.win (6 : Fin 9)).flush t = decide (t.val = 35) := by decide +kernel
/-- the keys' and the values' at a key block's last point, where they are written back. -/
theorem idle7 : ∀ t : Fin cfgA.N, cfgA.idle (7 : Fin 9) (cfgA.grid.coords t) = !(k0_cond5 (wq t) == 1#1) := by decide +kernel
theorem idle8 : ∀ t : Fin cfgA.N, cfgA.idle (8 : Fin 9) (cfgA.grid.coords t) = !(k0_cond5 (wq t) == 1#1) := by decide +kernel
theorem flush7 : ∀ t : Fin cfgA.N, (cfgA.win (7 : Fin 9)).flush t = (k0_cond5 (wq t) == 1#1) := by decide +kernel
theorem flush8 : ∀ t : Fin cfgA.N, (cfgA.win (8 : Fin 9)).flush t = (k0_cond5 (wq t) == 1#1) := by decide +kernel

end Cert.KernelIdeal.Bwd

end
-- ==== Proof.Point.lean ====
/-
  One grid point's run: the two words read from the tables, then the rest of the body; and the accumulators point by point.
-/
module

public import proofs.«01_k».proof.Proof.Sched

@[expose] public section

set_option maxRecDepth 16384
set_option Elab.async false

noncomputable section

namespace Cert.KernelIdeal.Bwd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

local notation "𝕄" => MT nD τ sig Unit (Elt Ideal) ℕ (UR sig nD τ) ℕ

/-- The tables as the body holds them. -/
def tables (c : Dev nD) : sProp 𝕄 :=
  iprop((tb0.view.loc (c : Thread nD τ) ↦{fullShare.right} T0) ∗ (tb1.view.loc (c : Thread nD τ) ↦{fullShare.right} T1))

section Runs

variable (arg4 : Memref sig .tc .vmem S512x1024 .bf16) (arg5 : Memref sig .tc .vmem S512x1024 .bf16)
  (arg6 : Memref sig .tc .vmem S512x1024 .bf16) (arg7 : Memref sig .tc .vmem S512x1024 .bf16)
  (arg8 : Memref sig .tc .vmem S8x1x512 .f32) (arg9 : Memref sig .tc .vmem S8x1x512 .f32)
  (arg10 : Memref sig .tc .vmem S4096x1024 .f32)
  (arg11 : Memref sig .tc .vmem S512x1024 .bf16) (harg11 : arg11.IsWhole)
  (arg12 : Memref sig .tc .vmem S512x1024 .bf16) (harg12 : arg12.IsWhole)

set_option maxHeartbeats 1000000 in
theorem body_run (c : Dev nD) (I : Ins Ideal) (A : Acc Ideal) (t : Fin cfgA.N) (x y : Vec Ideal S512x1024 .bf16) (K : PUnit → sProp 𝕄) :
    iprop(tables c ∗ world arg4 arg5 arg6 arg7 arg8 arg9 arg10 sc0 sc1 c I A ∗ held c arg11 x ∗ held c arg12 y
      ∗ (iprop(tables c ∗ world arg4 arg5 arg6 arg7 arg8 arg9 arg10 sc0 sc1 c I (point (crd t) I (wq t) (wk t) (chk t) A)
        ∗ held c arg11 (if k0_cond5 (wq t) = 1#1 then k0_pay8 (point (crd t) I (wq t) (wk t) (chk t) A).dk else x)
        ∗ held c arg12 (if k0_cond5 (wq t) = 1#1 then k0_pay9 (point (crd t) I (wq t) (wk t) (chk t) A).dv else y)) -∗ K ⟨⟩))
    ⊢ wp frame (wpE (defs₀ (F := Ideal)) Variants.none c none) Set.univ
        (body tb0 tb1 arg4 arg5 arg6 arg7 arg8 arg9 arg10 arg11 harg11 arg12 harg12 sc0 sc1 (crd t)) K := by
  have hw := chk t
  unfold tables body
  iintro ⟨⟨HT0, HT1⟩, HW, H11, H12, Hk⟩
  sl_exec!
  iapply (rest_run arg4 arg5 arg6 arg7 arg8 arg9 arg10 arg11 harg11 arg12 harg12 sc0 sc1 c I A (crd t) (wq t) (wk t) hw x y K)
  isplitl [HW]; · iexact HW
  isplitl [H11]; · iexact H11
  isplitl [H12]; · iexact H12
  iintro ⟨HW, H11, H12⟩
  iapply Hk
  isplitl [HT0 HT1]
  · isplitl [HT0]; · iexact HT0
    iexact HT1
  isplitl [HW]; · iexact HW
  isplitl [H11]; · iexact H11
  iexact H12

end Runs

/-- At the first point nothing of what the accumulators held survives. -/
theorem point_first (i : grid0.Coords) (I : Ins Ideal) (v1 v3 : BitVec 32) (hw : k0_chk1 v1 v3) (A B : Acc Ideal)
    (h1 : k0_cond1 i = 1#1) (h2 : starts v1 v3) : point i I v1 v3 hw A = point i I v1 v3 hw B := by
  unfold point stage1 stage2
  simp only [h1, ↓reduceIte]
  rw [if_pos h2, if_pos h2]

end Cert.KernelIdeal.Bwd

end
-- ==== Proof.Data.lean ====
/-
  The accumulators point by point, and the pipeline's proof data.
-/
module

public import proofs.«01_k».proof.Proof.Point

@[expose] public section

set_option maxRecDepth 16384
set_option Elab.async false

noncomputable section

namespace Cert.KernelIdeal.Bwd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

local notation "𝕄" => MT nD τ sig Unit (Elt Ideal) ℕ (UR sig nD τ) ℕ

variable (V : (c : Dev nD) → (b : Ref sig .tc) → Buf (Elt Ideal) ((c.tc : Thread nD τ).loc b))

/-- A window's block at a point, read off its array at the region's entry. -/
def iblk (c : Dev nD) (w : Fin cfgA.W) (t : Fin cfgA.N) : ((cfgA.win w).xblock (crd t)).Idx → Elt Ideal (cfgA.win w).elt :=
  ((cfgA.win w).blk t).view.read (Elt Ideal) (V c (Pipeline.arrRef cfgA.spec w))

/-- The six blocks a point reads. -/
def ins (c : Dev nD) (t : Fin cfgA.N) : Ins Ideal :=
  ⟨iblk V c (0 : Fin 9) t, iblk V c (1 : Fin 9) t, iblk V c (2 : Fin 9) t, iblk V c (3 : Fin 9) t, iblk V c (4 : Fin 9) t, iblk V c (5 : Fin 9) t⟩

/-- The accumulators before point `n`. -/
def acc (c : Dev nD) : ℕ → Acc Ideal
  | 0 => ⟨k0_pay1 (F := Ideal), k0_pay2 (F := Ideal), k0_pay3 (F := Ideal)⟩
  | n + 1 => if h : n < cfgA.N then point (crd ⟨n, h⟩) (ins V c ⟨n, h⟩) (wq ⟨n, h⟩) (wk ⟨n, h⟩) (chk ⟨n, h⟩) (acc c n) else acc c n

theorem acc_succ (c : Dev nD) (t : Fin cfgA.N) :
    acc V c (t.val + 1) = point (crd t) (ins V c t) (wq t) (wk t) (chk t) (acc V c t.val) := by
  rw [acc, dif_pos t.isLt]

/-- The invariant before point `t`: the scratches hold the accumulators (anything before the first point), the tables are there. -/
def Phi (c : Dev nD) (n : ℕ) : sProp 𝕄 :=
  iprop((∃ x y, ⌜n ≠ 0 → x = (acc V c n).dk ∧ y = (acc V c n).dv⌝ ∗ held c sc0 x ∗ held c sc1 y) ∗ tables c ∗ ∃ r, prngReg c r)

/-- The proof data of the pipeline on core `c`. -/
def dats (_ : Fin 1) (c : Dev nD) : Dat τ (Elt Ideal) Unit ℕ (UR sig nD τ) ℕ cfgA c where
  A w := V c (Pipeline.arrRef cfgA.spec w)
  after w t := match w with
    | ⟨0, _⟩ => iblk V c (0 : Fin 9) t
    | ⟨1, _⟩ => iblk V c (1 : Fin 9) t
    | ⟨2, _⟩ => iblk V c (2 : Fin 9) t
    | ⟨3, _⟩ => iblk V c (3 : Fin 9) t
    | ⟨4, _⟩ => iblk V c (4 : Fin 9) t
    | ⟨5, _⟩ => iblk V c (5 : Fin 9) t
    | ⟨6, _⟩ => (acc V c (t.val + 1)).dq
    | ⟨7, _⟩ => k0_pay8 (acc V c (t.val + 1)).dk
    | ⟨8, _⟩ => k0_pay9 (acc V c (t.val + 1)).dv
  Φ t := Phi V c t.val
  q _ := fullShare
  owed _ := 0

theorem after0 (c : Dev nD) (t : Fin cfgA.N) : (dats V 0 c).after (0 : Fin 9) t = iblk V c (0 : Fin 9) t := rfl
theorem after1 (c : Dev nD) (t : Fin cfgA.N) : (dats V 0 c).after (1 : Fin 9) t = iblk V c (1 : Fin 9) t := rfl
theorem after2 (c : Dev nD) (t : Fin cfgA.N) : (dats V 0 c).after (2 : Fin 9) t = iblk V c (2 : Fin 9) t := rfl
theorem after3 (c : Dev nD) (t : Fin cfgA.N) : (dats V 0 c).after (3 : Fin 9) t = iblk V c (3 : Fin 9) t := rfl
theorem after4 (c : Dev nD) (t : Fin cfgA.N) : (dats V 0 c).after (4 : Fin 9) t = iblk V c (4 : Fin 9) t := rfl
theorem after5 (c : Dev nD) (t : Fin cfgA.N) : (dats V 0 c).after (5 : Fin 9) t = iblk V c (5 : Fin 9) t := rfl
theorem after6 (c : Dev nD) (t : Fin cfgA.N) : (dats V 0 c).after (6 : Fin 9) t = (acc V c (t.val + 1)).dq := rfl
theorem after7 (c : Dev nD) (t : Fin cfgA.N) : (dats V 0 c).after (7 : Fin 9) t = k0_pay8 (acc V c (t.val + 1)).dk := rfl
theorem after8 (c : Dev nD) (t : Fin cfgA.N) : (dats V 0 c).after (8 : Fin 9) t = k0_pay9 (acc V c (t.val + 1)).dv := rfl

end Cert.KernelIdeal.Bwd

end
-- ==== Proof.Before.lean ====
/-
  What each window's buffer holds when the body runs.
-/
module

public import proofs.«01_k».proof.Proof.Data

@[expose] public section

set_option maxRecDepth 16384
set_option Elab.async false

noncomputable section

namespace Cert.KernelIdeal.Bwd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

local notation "𝕄" => MT nD τ sig Unit (Elt Ideal) ℕ (UR sig nD τ) ℕ

variable (V : (c : Dev nD) → (b : Ref sig .tc) → Buf (Elt Ideal) ((c.tc : Thread nD τ).loc b))

theorem before0 (c : Dev nD) (t : Fin cfgA.N) (d) : (dats V 0 c).before (0 : Fin 9) t d = iblk V c (0 : Fin 9) t :=
  ((dats V 0 c).before_in_eq_fetched (0 : Fin 9) rfl (fun _ => rfl) (fun _ _ _ => rfl) (fun t => by rw [after0]; unfold Dat.blockOf iblk; rfl) t d).trans
    (by unfold Dat.fetched Dat.blockOf iblk; rfl)
theorem before1 (c : Dev nD) (t : Fin cfgA.N) (d) : (dats V 0 c).before (1 : Fin 9) t d = iblk V c (1 : Fin 9) t :=
  ((dats V 0 c).before_in_eq_fetched (1 : Fin 9) rfl (fun _ => rfl) (fun _ _ _ => rfl) (fun t => by rw [after1]; unfold Dat.blockOf iblk; rfl) t d).trans
    (by unfold Dat.fetched Dat.blockOf iblk; rfl)
theorem before2 (c : Dev nD) (t : Fin cfgA.N) (d) : (dats V 0 c).before (2 : Fin 9) t d = iblk V c (2 : Fin 9) t :=
  ((dats V 0 c).before_in_eq_fetched (2 : Fin 9) rfl (fun _ => rfl) (fun _ _ _ => rfl) (fun t => by rw [after2]; unfold Dat.blockOf iblk; rfl) t d).trans
    (by unfold Dat.fetched Dat.blockOf iblk; rfl)
theorem before3 (c : Dev nD) (t : Fin cfgA.N) (d) : (dats V 0 c).before (3 : Fin 9) t d = iblk V c (3 : Fin 9) t :=
  ((dats V 0 c).before_in_eq_fetched (3 : Fin 9) rfl (fun _ => rfl) (fun _ _ _ => rfl) (fun t => by rw [after3]; unfold Dat.blockOf iblk; rfl) t d).trans
    (by unfold Dat.fetched Dat.blockOf iblk; rfl)
theorem before4 (c : Dev nD) (t : Fin cfgA.N) (d) : (dats V 0 c).before (4 : Fin 9) t d = iblk V c (4 : Fin 9) t :=
  ((dats V 0 c).before_in_eq_fetched (4 : Fin 9) rfl (fun _ => rfl) (fun _ _ _ => rfl) (fun t => by rw [after4]; unfold Dat.blockOf iblk; rfl) t d).trans
    (by unfold Dat.fetched Dat.blockOf iblk; rfl)
theorem before5 (c : Dev nD) (t : Fin cfgA.N) (d) : (dats V 0 c).before (5 : Fin 9) t d = iblk V c (5 : Fin 9) t :=
  ((dats V 0 c).before_in_eq_fetched (5 : Fin 9) rfl (fun _ => rfl) (fun _ _ _ => rfl) (fun t => by rw [after5]; unfold Dat.blockOf iblk; rfl) t d).trans
    (by unfold Dat.fetched Dat.blockOf iblk; rfl)

/-- Whether the queries' gradient holds nothing stored, before each point. -/
def fr6 (n : ℕ) : Bool := decide (n = 0 ∨ n = 36)
theorem fr6_step : ∀ t : Fin cfgA.N, fr6 (t.val + 1) = ((cfgA.win (6 : Fin 9)).flush t || (cfgA.idle (6 : Fin 9) (cfgA.grid.coords t) && fr6 t.val)) := by decide +kernel
theorem fresh6 (t : Fin cfgA.N) : cfgA.fresh (6 : Fin 9) t.val = fr6 t.val :=
  Pipeline.Cfg.fresh_tab cfgA (6 : Fin 9) fr6 rfl fr6_step t.val (Nat.le_of_lt t.isLt)
theorem fresh7 (t : Fin cfgA.N) : cfgA.fresh (7 : Fin 9) t.val = true :=
  Pipeline.Cfg.fresh_tab cfgA (7 : Fin 9) (fun _ => true) rfl (by decide +kernel) t.val (Nat.le_of_lt t.isLt)
theorem fresh8 (t : Fin cfgA.N) : cfgA.fresh (8 : Fin 9) t.val = true :=
  Pipeline.Cfg.fresh_tab cfgA (8 : Fin 9) (fun _ => true) rfl (by decide +kernel) t.val (Nat.le_of_lt t.isLt)

theorem before6 (c : Dev nD) (t : Fin cfgA.N) (d) : (dats V 0 c).before (6 : Fin 9) t d = if t.val = 0 then d else (acc V c t.val).dq := by
  rw [(dats V 0 c).before_out_traj (6 : Fin 9) rfl (fun _ _ => rfl)
    (fun t _ hi => absurd hi (by rw [idle6]; exact Bool.false_ne_true)) t.val t rfl d, fresh6]
  have hN : t.val < 36 := lt_of_lt_of_eq t.isLt N_0
  by_cases h : t.val = 0
  · simp [h, fr6]
  · rw [if_neg h, if_neg (by simp [fr6]; omega), after6]
    congr 2; show t.val - 1 + 1 = t.val; omega
theorem before7 (c : Dev nD) (t : Fin cfgA.N) (d) : (dats V 0 c).before (7 : Fin 9) t d = d := by
  rw [(dats V 0 c).before_out_traj (7 : Fin 9) rfl (fun _ _ => rfl)
    (fun t _ _ hf => absurd hf (by rw [fresh7]; exact Bool.noConfusion)) t.val t rfl d, fresh7]
  exact if_pos rfl
theorem before8 (c : Dev nD) (t : Fin cfgA.N) (d) : (dats V 0 c).before (8 : Fin 9) t d = d := by
  rw [(dats V 0 c).before_out_traj (8 : Fin 9) rfl (fun _ _ => rfl)
    (fun t _ _ hf => absurd hf (by rw [fresh8]; exact Bool.noConfusion)) t.val t rfl d, fresh8]
  exact if_pos rfl

end Cert.KernelIdeal.Bwd

end
-- ==== Proof.Obl.lean ====
/-
  The body's obligation to the pipeline, at every point.
-/
module

public import proofs.«01_k».proof.Proof.Before

@[expose] public section

set_option maxRecDepth 16384
set_option Elab.async false

noncomputable section

namespace Cert.KernelIdeal.Bwd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

local notation "𝕄" => MT nD τ sig Unit (Elt Ideal) ℕ (UR sig nD τ) ℕ

variable (V : (c : Dev nD) → (b : Ref sig .tc) → Buf (Elt Ideal) ((c.tc : Thread nD τ).loc b))

abbrev ms0 (t : Fin cfgA.N) : Memref sig .tc .vmem S512x1024 .bf16 := spec0_0.stage (cfgA.slots t (0 : Fin 9))
abbrev ms1 (t : Fin cfgA.N) : Memref sig .tc .vmem S512x1024 .bf16 := spec0_1.stage (cfgA.slots t (1 : Fin 9))
abbrev ms2 (t : Fin cfgA.N) : Memref sig .tc .vmem S512x1024 .bf16 := spec0_2.stage (cfgA.slots t (2 : Fin 9))
abbrev ms3 (t : Fin cfgA.N) : Memref sig .tc .vmem S512x1024 .bf16 := spec0_3.stage (cfgA.slots t (3 : Fin 9))
abbrev ms4 (t : Fin cfgA.N) : Memref sig .tc .vmem S8x1x512 .f32 := spec0_4.stage (cfgA.slots t (4 : Fin 9))
abbrev ms5 (t : Fin cfgA.N) : Memref sig .tc .vmem S8x1x512 .f32 := spec0_5.stage (cfgA.slots t (5 : Fin 9))
abbrev ms6 (t : Fin cfgA.N) : Memref sig .tc .vmem S4096x1024 .f32 := spec0_6.stage (cfgA.slots t (6 : Fin 9))
abbrev ms7 (t : Fin cfgA.N) : Memref sig .tc .vmem S512x1024 .bf16 := spec0_7.stage (cfgA.slots t (7 : Fin 9))
abbrev ms8 (t : Fin cfgA.N) : Memref sig .tc .vmem S512x1024 .bf16 := spec0_8.stage (cfgA.slots t (8 : Fin 9))
abbrev hs0 (t : Fin cfgA.N) : (ms0 t).IsWhole := hstage0_0 ((cfgA.slots t (0 : Fin 9)).cast nbuf0_0)
abbrev hs1 (t : Fin cfgA.N) : (ms1 t).IsWhole := hstage0_1 ((cfgA.slots t (1 : Fin 9)).cast nbuf0_1)
abbrev hs2 (t : Fin cfgA.N) : (ms2 t).IsWhole := hstage0_2 ((cfgA.slots t (2 : Fin 9)).cast nbuf0_2)
abbrev hs3 (t : Fin cfgA.N) : (ms3 t).IsWhole := hstage0_3 ((cfgA.slots t (3 : Fin 9)).cast nbuf0_3)
abbrev hs4 (t : Fin cfgA.N) : (ms4 t).IsWhole := hstage0_4 ((cfgA.slots t (4 : Fin 9)).cast nbuf0_4)
abbrev hs5 (t : Fin cfgA.N) : (ms5 t).IsWhole := hstage0_5 ((cfgA.slots t (5 : Fin 9)).cast nbuf0_5)
abbrev hs6 (t : Fin cfgA.N) : (ms6 t).IsWhole := hstage0_6 ((cfgA.slots t (6 : Fin 9)).cast nbuf0_6)
abbrev hs7 (t : Fin cfgA.N) : (ms7 t).IsWhole := hstage0_7 ((cfgA.slots t (7 : Fin 9)).cast nbuf0_7)
abbrev hs8 (t : Fin cfgA.N) : (ms8 t).IsWhole := hstage0_8 ((cfgA.slots t (8 : Fin 9)).cast nbuf0_8)

/-- The body at point `t` on its staging buffers, as the pipeline calls it. -/
abbrev bodyAt (t : Fin cfgA.N) : Prog (TpuEff nD τ sig (Elt Ideal) Λ₀ .tc) PUnit :=
  cc0_attn_bwd (crd t) tb0 (Memref.isWhole_whole _) tb1 (Memref.isWhole_whole _) (ms0 t) (hs0 t) (ms1 t) (hs1 t) (ms2 t) (hs2 t) (ms3 t) (hs3 t)
    (ms4 t) (hs4 t) (ms5 t) (hs5 t) (ms6 t) (hs6 t) (ms7 t) (hs7 t) (ms8 t) (hs8 t) sc0 (Memref.isWhole_whole _) sc1 (Memref.isWhole_whole _)

/-- What the accumulators hold when a point begins does not matter at the first one. -/
theorem point_at (c : Dev nD) (t : Fin cfgA.N) (A : Acc Ideal) (hA : t.val ≠ 0 → A = acc V c t.val) :
    point (crd t) (ins V c t) (wq t) (wk t) (chk t) A = acc V c (t.val + 1) := by
  rw [acc_succ]
  by_cases h : t.val = 0
  · exact point_first _ _ _ _ _ _ _ (first_cond t h).1 (first_cond t h).2
  · rw [hA h]

set_option maxHeartbeats 2000000 in
theorem sound_body (c : Dev nD) (t : Fin cfgA.N) :
    iprop((dats V 0 c).Φ t.castSucc ∗ (dats V 0 c).owesAt () t.castSucc
        ∗ (∃ d, owns (c : Thread nD τ) (ms0 t) fullShare ((dats V 0 c).before (0 : Fin 9) t d))
        ∗ (∃ d, owns (c : Thread nD τ) (ms1 t) fullShare ((dats V 0 c).before (1 : Fin 9) t d))
        ∗ (∃ d, owns (c : Thread nD τ) (ms2 t) fullShare ((dats V 0 c).before (2 : Fin 9) t d))
        ∗ (∃ d, owns (c : Thread nD τ) (ms3 t) fullShare ((dats V 0 c).before (3 : Fin 9) t d))
        ∗ (∃ d, owns (c : Thread nD τ) (ms4 t) fullShare ((dats V 0 c).before (4 : Fin 9) t d))
        ∗ (∃ d, owns (c : Thread nD τ) (ms5 t) fullShare ((dats V 0 c).before (5 : Fin 9) t d))
        ∗ (∃ d, owns (c : Thread nD τ) (ms6 t) fullShare ((dats V 0 c).before (6 : Fin 9) t d))
        ∗ (∃ d, owns (c : Thread nD τ) (ms7 t) fullShare ((dats V 0 c).before (7 : Fin 9) t d))
        ∗ (∃ d, owns (c : Thread nD τ) (ms8 t) fullShare ((dats V 0 c).before (8 : Fin 9) t d)))
      ⊢ wp frame (wpE (defs₀ (F := Ideal)) Variants.none c none) Set.univ (bodyAt t) fun _ =>
          iprop((dats V 0 c).Φ t.succ ∗ (dats V 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats V 0 c).before w t d))
                  | true => owns (c : Thread nD τ) ((cfgA.win w).stage (cfgA.slots t w)) fullShare ((dats V 0 c).after w t)
                | false => owns (c : Thread nD τ) ((cfgA.win w).stage (cfgA.slots t w)) fullShare ((dats V 0 c).after w t)) := by
  rw [bigSep_W0]
  have i6 := idle6 t
  by_cases h5 : k0_cond5 (wq t) = 1#1
  · have i7 : cfgA.idle (7 : Fin 9) (cfgA.grid.coords t) = false := by rw [idle7]; simp [h5]
    have i8 : cfgA.idle (8 : Fin 9) (cfgA.grid.coords t) = false := by rw [idle8]; simp [h5]
    rewrite [i6, i7]
    simp only [before0, before1, before2, before3, before4, before5, before6, before7, before8, after0, after1, after2, after3, after4, after5, after6, after7, after8]
    rewrite [show (dats V 0 c).Φ t.succ = Phi V c (t.val + 1) from rfl, show (dats V 0 c).Φ t.castSucc = Phi V c t.val from rfl,
      show (dats V 0 c).owesAt () t.succ = (dats V 0 c).owesAt () t.castSucc from rfl]
    unfold bodyAt
    rw [body_eq]
    unfold Phi
    iintro ⟨⟨⟨%x, %y, %hxy, HS0, HS1⟩, HT, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hp : point (crd t) (ins V c t) (wq t) (wk t) (chk t) ⟨if t.val = 0 then d6 else (acc V c t.val).dq, x, y⟩ = acc V c (t.val + 1) :=
      point_at V c t _ (fun h => by rw [if_neg h, (hxy h).1, (hxy h).2])
    iapply (body_run (ms0 t) (ms1 t) (ms2 t) (ms3 t) (ms4 t) (ms5 t) (ms6 t) (ms7 t) (hs7 t) (ms8 t) (hs8 t) c (ins V c t)
      ⟨if t.val = 0 then d6 else (acc V c t.val).dq, x, y⟩ t d7 d8 _)
    rw [hp, if_pos h5, if_pos h5]
    isplitl [HT]; · iexact HT
    isplitl [H0 H1 H2 H3 H4 H5 H6 HS0 HS1]
    · unfold world
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [HS0]; · iexact HS0
      iexact HS1
    isplitl [H7]; · iapply rep_of_owns; iexact H7
    isplitl [H8]; · iapply rep_of_owns; iexact H8
    unfold world
    iintro ⟨HT, ⟨H0, H1, H2, H3, H4, H5, H6, HS0, HS1⟩, H7, H8⟩
    isplitl [HS0 HS1 HT HR]
    · isplitl [HS0 HS1]
      · iexists (acc V c (t.val + 1)).dk; iexists (acc V c (t.val + 1)).dv
        isplitr
        · ipureintro; exact fun _ => ⟨rfl, rfl⟩
        isplitl [HS0]; · iexact HS0
        iexact HS1
      isplitl [HT]; · iexact HT
      iexact HR
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [H7]; · iapply owns_of_rep; iexact H7
    iapply owns_of_rep; iexact H8
  · have i7 : cfgA.idle (7 : Fin 9) (cfgA.grid.coords t) = true := by rw [idle7]; simp [h5]
    have i8 : cfgA.idle (8 : Fin 9) (cfgA.grid.coords t) = true := by rw [idle8]; simp [h5]
    have f7 : (cfgA.win (7 : Fin 9)).flush t = false := by rw [flush7]; simp [h5]
    have f8 : (cfgA.win (8 : Fin 9)).flush t = false := by rw [flush8]; simp [h5]
    rewrite [i6, i7]
    simp only [before0, before1, before2, before3, before4, before5, before6, before7, before8, after0, after1, after2, after3, after4, after5, after6, after7, after8, f7, f8]
    rewrite [show (dats V 0 c).Φ t.succ = Phi V c (t.val + 1) from rfl, show (dats V 0 c).Φ t.castSucc = Phi V c t.val from rfl,
      show (dats V 0 c).owesAt () t.succ = (dats V 0 c).owesAt () t.castSucc from rfl]
    unfold bodyAt
    rw [body_eq]
    unfold Phi
    iintro ⟨⟨⟨%x, %y, %hxy, HS0, HS1⟩, HT, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hp : point (crd t) (ins V c t) (wq t) (wk t) (chk t) ⟨if t.val = 0 then d6 else (acc V c t.val).dq, x, y⟩ = acc V c (t.val + 1) :=
      point_at V c t _ (fun h => by rw [if_neg h, (hxy h).1, (hxy h).2])
    iapply (body_run (ms0 t) (ms1 t) (ms2 t) (ms3 t) (ms4 t) (ms5 t) (ms6 t) (ms7 t) (hs7 t) (ms8 t) (hs8 t) c (ins V c t)
      ⟨if t.val = 0 then d6 else (acc V c t.val).dq, x, y⟩ t d7 d8 _)
    rw [hp, if_neg h5, if_neg h5]
    isplitl [HT]; · iexact HT
    isplitl [H0 H1 H2 H3 H4 H5 H6 HS0 HS1]
    · unfold world
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [HS0]; · iexact HS0
      iexact HS1
    isplitl [H7]; · iapply rep_of_owns; iexact H7
    isplitl [H8]; · iapply rep_of_owns; iexact H8
    unfold world
    iintro ⟨HT, ⟨H0, H1, H2, H3, H4, H5, H6, HS0, HS1⟩, H7, H8⟩
    isplitl [HS0 HS1 HT HR]
    · isplitl [HS0 HS1]
      · iexists (acc V c (t.val + 1)).dk; iexists (acc V c (t.val + 1)).dv
        isplitr
        · ipureintro; exact fun _ => ⟨rfl, rfl⟩
        isplitl [HS0]; · iexact HS0
        iexact HS1
      isplitl [HT]; · iexact HT
      iexact HR
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [H7]; · iexists d7; iapply owns_of_rep; iexact H7
    iexists d8; iapply owns_of_rep; iexact H8

/-- The library's body obligation, at every point. -/
theorem body_obligation (c : Dev nD) : BodyObligation (dats V 0 c) (defs₀ (F := Ideal)) Variants.none () Set.univ := fun t => by
  rw [bigSep_W0]
  exact sound_body V c t

end Cert.KernelIdeal.Bwd

end
-- ==== Proof.Frame.lean ====
/-
  The launch: the host lines before the call, the call's tables and arrays there, and the run of the whole program.
-/
module

public import proofs.«01_k».proof.Proof.Obl
public import Idealize.ShloMosaic.Lib.StableHlo.RunRead

@[expose] public section

set_option maxRecDepth 16384
set_option Elab.async false

noncomputable section

namespace Cert.KernelIdeal.Bwd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

local notation "𝕄" => MT nD τ sig Unit (Elt Ideal) ℕ (UR sig nD τ) ℕ

/-- What the host lines before the call write, in order. -/
abbrev written : List (Ref sig .tc) := [main_c, main_c_0, main_v0, main_v1, main_v2, main_v3, main_v4, main_v5, main_v6, main_cst, main_v7, main_v8, main_v9, main_v10, main_v11, main_cst_1, main_v12, main_v13, main_cst_2, main_v14, main_v15, main_v16, main_v17, main_v18, main_cst_3, main_v19, main_v20, main_v21, main_v22, main_v23, main_v24, main_v25, main_v26, main_cst_4, main_v27, main_v28, main_v29, main_v30, main_v31, main_v32, main_cst_5, main_v33, main_v34, main_cst_6, main_v35, main_v36, main_v37, main_v38, main_v39]

theorem host_writes : (hostOps0 : List (HloOp τ sig (Elt Ideal))).map HloOp.writes = written.map fun w => {Proc.devRef (τ := τ) .tc w} := rfl

theorem host_fresh : (hostOps0 : List (HloOp τ sig (Elt Ideal))).Forall fun op => op.fresh = ∅ := by
  repeat' first | exact rfl | (refine And.intro rfl ?_)

variable (m : (ℓ : Loc nD τ sig) → Buf (Elt Ideal) ℓ) (ρ : Dev nD → PrngReg)

/-- The contents at the call. -/
def V0 (c : Dev nD) (b : Ref sig .tc) : Buf (Elt Ideal) ((c.tc : Thread nD τ).loc b) :=
  StableHlo.after hostOps0 (fun b => m (c, b)) b

theorem V0_kept (c : Dev nD) (b : Ref sig .tc) (hb : b ∉ written) : V0 m c b = m ((c.tc : Thread nD τ).loc b) :=
  StableHlo.after_unwritten written host_writes hb _

theorem V0_tab (c : Dev nD) (k : Fin 2) : V0 m c (pre0.ref k) = adm.1 k := by
  fin_cases k
  · exact (StableHlo.after_last_write (i := 0) (written.drop 1) rfl rfl (by decide) _).trans (StableHlo.nullary_result ..)
  · exact (StableHlo.after_last_write (i := 1) (written.drop 2) rfl rfl (by decide) _).trans (StableHlo.nullary_result ..)

theorem share_eq (V : (c : Dev nD) → (b : Ref sig .tc) → Buf (Elt Ideal) ((c.tc : Thread nD τ).loc b)) (c : Dev nD) (w : Fin cfgA.W) :
    (dats V 0 c).share w = fullShare := by unfold Dat.share; split <;> rfl

theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

theorem phi_in (V : (c : Dev nD) → (b : Ref sig .tc) → Buf (Elt Ideal) ((c.tc : Thread nD τ).loc b)) (c : Dev nD) :
    iprop(Pipeline.ΦA cfgA.spec c ∗ Pipeline.ΦT pre0 adm.1 c) ⊢ (dats V 0 c).Φ 0 := by
  rw [show (dats V 0 c).Φ 0 = Phi V c 0 from rfl]
  unfold Pipeline.ΦA Pipeline.ΦT Phi tables
  rw [prefHeld_eq, scopedRest0_eq]
  iintro ⟨⟨⟨⟨%f0, HS0⟩, ⟨%f1, HS1⟩⟩, HR⟩, HT0, HT1⟩
  isplitl [HS0 HS1]
  · iexists (sc0.view.read (Elt Ideal) f0); iexists (sc1.view.read (Elt Ideal) f1)
    isplitr
    · ipureintro; exact fun h => absurd rfl h
    isplitl [HS0]
    · iapply (rep_of_owns (c : Thread nD τ) sc0)
      unfold owns; iexists f0; isplitr
      · ipureintro; rfl
      · rw [View.set_whole]; iexact HS0
    · iapply (rep_of_owns (c : Thread nD τ) sc1)
      unfold owns; iexists f1; isplitr
      · ipureintro; rfl
      · rw [View.set_whole]; iexact HS1
  isplitl [HT0 HT1]
  · isplitl [HT0]; · iexact HT0
    iexact HT1
  iexact HR

theorem drop0 (c : Dev nD) (x : Vec Ideal S512x1024 .f32) :
    (held c sc0 x : sProp 𝕄) ⊢ iprop(∃ f : Buf (Elt Ideal) ((c : Thread nD τ).loc cc0_scratch0), ((c : Thread nD τ).loc cc0_scratch0) ↦{fullShare} f) := by
  unfold held
  generalize sc0.view.rep x = f
  rw [View.set_whole]
  iintro H; iexists f; iexact H
theorem drop1 (c : Dev nD) (x : Vec Ideal S512x1024 .f32) :
    (held c sc1 x : sProp 𝕄) ⊢ iprop(∃ f : Buf (Elt Ideal) ((c : Thread nD τ).loc cc0_scratch1), ((c : Thread nD τ).loc cc0_scratch1) ↦{fullShare} f) := by
  unfold held
  generalize sc1.view.rep x = f
  rw [View.set_whole]
  iintro H; iexists f; iexact H

theorem phi_out (V : (c : Dev nD) → (b : Ref sig .tc) → Buf (Elt Ideal) ((c.tc : Thread nD τ).loc b)) (c : Dev nD) :
    (dats V 0 c).Φ (Fin.last cfgA.N) ⊢ Pipeline.ΦA cfgA.spec c := by
  rw [show (dats V 0 c).Φ (Fin.last cfgA.N) = Phi V c cfgA.N from rfl]
  unfold Pipeline.ΦA Phi
  rw [scopedRest0_eq]
  iintro ⟨⟨%x, %y, -, HS0, HS1⟩, -, HR⟩
  isplitl [HS0 HS1]
  · isplitl [HS0]
    · iapply (drop0 c x); iexact HS0
    · iapply (drop1 c y); iexact HS1
  iexact HR

set_option backward.isDefEq.respectTransparency.types false in
set_option maxHeartbeats 2000000 in
/-- The whole program's run: every array of the call at what the pipeline computes, every other buffer as the host lines left it. -/
theorem run_main : θ_run (defs (F := Ideal)) (onTc (τ := τ) (main (F := Ideal))) ⟨m, fun _ => 0, ρ⟩
    (fun r => Pipeline.FramePost pcs (dats (V0 m)) 0 (V0 m) r ∧ r.2.sem = fun _ => 0) :=
  Pipeline.θ_run_frameP_track pcfgs (fun _ => adm) (dats (V0 m)) (0 : Fin 1) launch0 defs₀ Variants.none m ρ main
    (fun c => (body_obligation (V0 m) c).loose) (share_eq (V0 m)) (fun _ _ => rfl) (V0 m)
    (Pipeline.hmainP_prefix pcfgs 0 defs₀ Variants.none m main hostOps0 hostOps0_sub host_fresh main_chain)
    (fun _ _ => rfl) (V0_tab m) (phi_in (V0 m)) (phi_out (V0 m)) _ (fun _ h => h)

/-- The program runs, its arguments end unchanged, every counter reads zero again. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Pipeline.mem_restRefs_of main_arg0 (by decide) (by decide))).trans (V0_kept m c main_arg0 (by decide)),
     ((h.1 c).1 (1 : Fin 9)).trans (((dats (V0 m) 0 c).arrAt_in (1 : Fin 9) rfl _).trans (V0_kept m c main_arg1 (by decide))),
     ((h.1 c).1 (2 : Fin 9)).trans (((dats (V0 m) 0 c).arrAt_in (2 : Fin 9) rfl _).trans (V0_kept m c main_arg2 (by decide))),
     ((h.1 c).2 main_arg3 (Pipeline.mem_restRefs_of main_arg3 (by decide) (by decide))).trans (V0_kept m c main_arg3 (by decide))⟩, h.2⟩)
    (run_main m ρ)

end Cert.KernelIdeal.Bwd

end
-- ==== Proof.Math.lean ====
/-
  The gradients of causal softmax attention over the reals, one head per 128 lanes.
-/
module

public import Idealize.ShloMosaic.Lib.Pointwise
public import Idealize.ShloMosaic.Lib.IdealHost

@[expose] public section

noncomputable section

namespace Attn

open Idealize.ShloMosaic

/-- Sums of finite numbers are finite. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_coe (x : ℝ) {y : ℝ} (hy : y ≠ 0) : Ideal.div (x : EReal) (y : EReal) = ((x / y : ℝ) : EReal) := by
  have h : (y : EReal) ≠ 0 := by exact_mod_cast hy
  rw [Ideal.div, if_neg h, ← EReal.coe_inv, ← EReal.coe_mul, div_eq_mul_inv]

/-- The largest of each row, at an index. -/
theorem rowMax {a b c : ℕ} (s : FVec Ideal ⟨3, ![a, b, c]⟩ .f32) (u : FVec Ideal ⟨0, ![]⟩ .f32)
    (h : (⟨3, ![a, b, c]⟩ : Shape).ReducesTo [2] ⟨2, ![a, b]⟩) (hu : 0 < (⟨0, ![]⟩ : Shape).numel) (i : Fin a) (j : Fin b) :
    Host.reduce FloatOps.maximumf s u h hu (ix2 i j) = Finset.univ.fold max (u (Shape.Idx.first hu)) fun k => s (ix3 i j k) := by
  pointwise

theorem maxRows {a b : ℕ} (x y : FVec Ideal ⟨2, ![a, b]⟩ .f32) (i : Fin a) (j : Fin b) :
    maximumf x y (ix2 i j) = max (x (ix2 i j)) (y (ix2 i j)) := by
  pointwise

/-- The scale of the scores: the number that the word stands for. -/
def sc : ℝ := (Ideal.ofBits .f32 0x3DD105EC#32).toReal

theorem sc_eq : Ideal.ofBits .f32 0x3DD105EC#32 = ((sc : ℝ) : EReal) := by
  refine (EReal.coe_toReal ?_ ?_).symm
  · simp [Ideal.ofBits, Ideal.ieee, -EReal.coe_mul]
  · simp [Ideal.ofBits, Ideal.ieee, -EReal.coe_mul]

theorem ninf_eq : Ideal.ofBits .f32 0xFF800000#32 = (⊥ : EReal) := by
  simp [Ideal.ofBits, Ideal.ieee]

theorem inf_eq : Ideal.ofBits .f32 0x7F800000#32 = (⊤ : EReal) := by
  simp [Ideal.ofBits, Ideal.ieee]

theorem two_eq : Ideal.ofBits .f32 0x40000000#32 = ((2 : ℝ) : EReal) := by
  simp [Ideal.ofBits, Ideal.ieee, -EReal.coe_mul]; norm_num

/-- Head `h`'s lane `l`, -/
def hd (h : Fin 8) (l : Fin 128) : Fin 1024 := ⟨h.val * 128 + l.val, by omega⟩
/-- the head a lane belongs to, -/
def ho (x : Fin 1024) : Fin 8 := ⟨x.val / 128, by omega⟩
/-- and its place there. -/
def lo (x : Fin 1024) : Fin 128 := ⟨x.val % 128, by omega⟩

theorem hd_ho (x : Fin 1024) : hd (ho x) (lo x) = x := Fin.ext (Nat.div_add_mod' _ _)

variable (Q K V D : Fin 4096 → Fin 1024 → ℝ)

/-- Scores, -/
def S (h : Fin 8) (i j : Fin 4096) : ℝ := (∑ l, Q i (hd h l) * K j (hd h l)) * sc
/-- the largest a query sees, -/
def top (h : Fin 8) (i : Fin 4096) : EReal := Finset.univ.fold max ⊥ fun j => if j ≤ i then ((S Q K h i j : ℝ) : EReal) else ⊥
def M (h : Fin 8) (i : Fin 4096) : ℝ := (top Q K h i).toReal
/-- the exponentials, their sum, the weights, -/
def E (h : Fin 8) (i j : Fin 4096) : ℝ := if j ≤ i then Real.exp (S Q K h i j - M Q K h i) else 0
def Z (h : Fin 8) (i : Fin 4096) : ℝ := ∑ j, E Q K h i j
def P (h : Fin 8) (i j : Fin 4096) : ℝ := E Q K h i j / Z Q K h i
/-- the gradient of the weights, its mean under them, -/
def dP (h : Fin 8) (i j : Fin 4096) : ℝ := ∑ l, D i (hd h l) * V j (hd h l)
def dl (h : Fin 8) (i : Fin 4096) : ℝ := ∑ j, P Q K h i j * dP V D h i j
/-- the gradient of the scores, -/
def dS (h : Fin 8) (i j : Fin 4096) : ℝ := P Q K h i j * (dP V D h i j - dl Q K V D h i)
/-- and those of the queries, the keys and the values. -/
def gQ (i : Fin 4096) (x : Fin 1024) : ℝ := ∑ j, dS Q K V D (ho x) i j * sc * K j x
def gK (j : Fin 4096) (x : Fin 1024) : ℝ := ∑ i, dS Q K V D (ho x) i j * sc * Q i x
def gV (j : Fin 4096) (x : Fin 1024) : ℝ := ∑ i, P Q K (ho x) i j * D i x

theorem top_eq (h : Fin 8) (i : Fin 4096) : top Q K h i = ((M Q K h i : ℝ) : EReal) := by
  refine (EReal.coe_toReal ?_ ?_).symm
  · refine ne_of_lt ((Finset.fold_max_lt _).2 ⟨bot_lt_top, fun j _ => ?_⟩)
    split
    · exact EReal.coe_lt_top _
    · exact bot_lt_top
  · refine ne_of_gt ((Finset.lt_fold_max _).2 (Or.inr ⟨i, Finset.mem_univ _, ?_⟩))
    rw [if_pos le_rfl]
    exact EReal.bot_lt_coe _

theorem E_nonneg (h : Fin 8) (i j : Fin 4096) : 0 ≤ E Q K h i j := by
  unfold E; split
  · exact (Real.exp_pos _).le
  · exact le_rfl

theorem Z_pos (h : Fin 8) (i : Fin 4096) : 0 < Z Q K h i := by
  refine Finset.sum_pos' (fun j _ => E_nonneg Q K h i j) ⟨i, Finset.mem_univ _, ?_⟩
  unfold E; rw [if_pos le_rfl]; exact Real.exp_pos _

theorem P_zero {h : Fin 8} {i j : Fin 4096} (hij : i < j) : P Q K h i j = 0 := by
  rw [P, E, if_neg (not_le.2 hij), zero_div]

/-- A softmax's gradient as the quotient rule writes it. -/
theorem quotient (h : Fin 8) (i j : Fin 4096) :
    (if j ≤ i then (dP V D h i j / Z Q K h i + -(∑ j', dP V D h i j' * (1 / (Z Q K h i * Z Q K h i)) * E Q K h i j')) * E Q K h i j else 0)
      = dS Q K V D h i j := by
  have hz := (Z_pos Q K h i).ne'
  split
  · unfold dS dl P
    have : (∑ j', dP V D h i j' * (1 / (Z Q K h i * Z Q K h i)) * E Q K h i j') = (∑ j', E Q K h i j' / Z Q K h i * dP V D h i j') / Z Q K h i := by
      rw [Finset.sum_div]
      refine Finset.sum_congr rfl fun j' _ => ?_
      field_simp
    rw [this]
    field_simp
    ring
  · rename_i hn
    rw [dS, P_zero _ _ (not_le.1 hn), zero_mul]

/-- The weights as powers of two of what the forward pass saves. -/
theorem power (h : Fin 8) (i j : Fin 4096) (hij : j ≤ i) :
    Real.rpow 2 (∑ l, K j (hd h l) * (Q i (hd h l) * sc / Real.log 2) - (M Q K h i + Real.log (Z Q K h i)) / Real.log 2) = P Q K h i j := by
  have h2 : Real.log 2 ≠ 0 := (Real.log_pos one_lt_two).ne'
  have e : ∑ l, K j (hd h l) * (Q i (hd h l) * sc / Real.log 2) = S Q K h i j / Real.log 2 := by
    unfold S
    rw [Finset.sum_mul, Finset.sum_div]
    exact Finset.sum_congr rfl fun l _ => by ring
  rw [e, ← sub_div]
  rw [Real.rpow_eq_pow]
  rw [Real.rpow_def_of_pos two_pos, mul_div_cancel₀ _ h2, P, E, if_pos hij,
    show S Q K h i j - (M Q K h i + Real.log (Z Q K h i)) = (S Q K h i j - M Q K h i) - Real.log (Z Q K h i) from by ring,
    Real.exp_sub, Real.exp_log (Z_pos Q K h i)]

/-- The saved mean: the weighted values against the gradient. -/
theorem saved (h : Fin 8) (i : Fin 4096) :
    ∑ l, (∑ j, V j (hd h l) * P Q K h i j) * D i (hd h l) = dl Q K V D h i := by
  unfold dl dP
  simp_rw [Finset.sum_mul, Finset.mul_sum]
  rw [Finset.sum_comm]
  exact Finset.sum_congr rfl fun j _ => Finset.sum_congr rfl fun l _ => by ring

/-- The comparison of two positions, as words. -/
theorem pick {α : Type} {n : ℕ} (hn : n ≤ 4096) (i j : Fin n) (a b : α) :
    Scalar.select (IntOp.cmpi CmpIPredicate.sle (BitVec.ofNat 32 j.val) (BitVec.ofNat 32 i.val)) a b = if j ≤ i then a else b := by
  have hi := i.isLt
  have hj := j.isLt
  have e : ∀ m : ℕ, m < 4096 → (BitVec.ofNat 32 m).toInt = m := fun m hm => by
    have ht : (BitVec.ofNat 32 m).toNat = m := by rw [BitVec.toNat_ofNat, Nat.mod_eq_of_lt (by omega)]
    rw [BitVec.toInt_eq_toNat_of_lt (by rw [ht]; omega), ht]
  have : (BitVec.ofNat 32 j.val).sle (BitVec.ofNat 32 i.val) = decide (j ≤ i) := by
    rw [BitVec.sle_eq_decide, e _ (by omega), e _ (by omega)]
    exact decide_eq_decide.2 Int.ofNat_le
  show Scalar.select (BitVec.ofBool ((BitVec.ofNat 32 j.val).sle (BitVec.ofNat 32 i.val))) a b = _
  rw [this]
  by_cases h : j ≤ i <;> simp [h, Scalar.select]

end Attn

end
-- ==== Proof.Ref.lean ====
/-
  The reference's chain of host operations, named stage by stage, and its results as that chain.
-/
module

public import proofs.«01_k».proof.Proof.Gen.ReferenceIdeal.Run
public import proofs.«01_k».proof.Proof.Math

@[expose] public section

set_option maxRecDepth 16384

noncomputable section

namespace Cert.ReferenceIdeal.Grad

open Cert.ReferenceIdeal Cert.ReferenceIdeal.Gen Idealize.ShloMosaic Idealize.ShloMosaic.TcCoe Idealize.SL.Sem

abbrev Mat (φ : FTy) := FVec Ideal S4096x1024 φ
abbrev Heads := FVec Ideal S4096x8x128 .f32
abbrev Cube := FVec Ideal S8x4096x4096 .f32
abbrev Rows := FVec Ideal S8x4096 .f32

/-! ## The stages -/

/-- A matrix's lanes by heads. -/
def split (x : Mat .f32) : Heads := shapeCast S4096x8x128 x shapeCasts_S4096x1024_S4096x8x128
def wide (x : Mat .bf16) : Heads := shapeCast S4096x8x128 ((extf .f32 x bitsLt_bf16_f32 : FVec Ideal S4096x1024 .f32)) shapeCasts_S4096x1024_S4096x8x128
/-- Every head's scores before the mask, -/
def raw (q k : Heads) : Cube :=
  mulf (Host.dotGeneral dot_S4096x8x128_S4096x8x128_S8x4096x4096_2_2_0_0_1_1 none q k)
    (broadcastInDim S8x4096x4096 ![] bcast_S_S8x4096x4096 (constant S_ .f32 0x3DD105EC#32))
/-- the mask over queries and keys, -/
def causal : IVec S8x4096x4096 1 :=
  broadcastInDim S8x4096x4096 ![1, 2] bcast_S4096x4096_S8x4096x4096_1_2
    (cmpi .sle (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))
/-- a cube behind it, -/
def masked (b : BitVec 32) (s : Cube) : Cube :=
  select causal s (broadcastInDim S8x4096x4096 ![] bcast_S_S8x4096x4096 (constant S_ .f32 b))
/-- a row's largest, -/
def largest (s : Cube) : Rows :=
  maximumf (broadcastInDim S8x4096 ![] bcast_S_S8x4096 (constant S_ .f32 0xFF800000#32))
    (Host.reduce FloatOps.maximumf s (constant S_ .f32 0xFF800000#32) reducesTo_S8x4096x4096_S8x4096_d2 h_S_)
/-- one number per row as a column, and spread over the keys, -/
def col (r : Rows) : FVec Ideal S8x4096x1 .f32 := broadcastInDim S8x4096x1 ![0, 1] bcast_S8x4096_S8x4096x1_0_1 r
def over (r : FVec Ideal S8x4096x1 .f32) : Cube := broadcastInDim S8x4096x4096 ![0, 1, 2] bcast_S8x4096x1_S8x4096x4096_0_1_2 r
/-- the exponentials, -/
def expo (s : Cube) : Cube := Host.exp (subf s (over (col (largest s))))
/-- a row's sum, -/
def total (s : Cube) : Rows := Host.reduceAdd s (constant S_ .f32 0x00000000#32) reducesTo_S8x4096x4096_S8x4096_d2 h_S_
/-- the inverse square of the sums, -/
def isq (r : FVec Ideal S8x4096x1 .f32) : FVec Ideal S8x4096x1 .f32 :=
  Host.divf (broadcastInDim S8x4096x1 ![] bcast_S_S8x4096x1 (constant S_ .f32 0x3F800000#32)) (mulf r r)
/-- the output's gradient, head by head, its lanes before its rows, -/
def turned (d : Heads) : FVec Ideal S8x128x4096 .f32 := transpose S8x128x4096 [1, 2, 0] d transposes_S4096x8x128_S8x128x4096_1_2_0
/-- the weights' gradient, -/
def gradP (d v : Heads) : Cube := Host.dotGeneral dot_S8x128x4096_S4096x8x128_S8x4096x4096_1_2_2_0_0_1 none (turned d) v
/-- the scores' gradient, scaled, -/
def gradS (p e : Cube) (z : Rows) : Cube :=
  mulf (masked 0x00000000#32 (mulf (addf (Host.divf p (over (col z)))
      (broadcastInDim S8x4096x4096 ![0, 1] bcast_S8x4096_S8x4096x4096_0_1
        (Host.reduceAdd (Host.negf (shapeCast S8x4096x1 (total (mulf (mulf p (over (isq (col z)))) e)) shapeCasts_S8x4096_S8x4096x1))
          (constant S_ .f32 0x00000000#32) reducesTo_S8x4096x1_S8x4096_d2 h_S_))) e))
    (broadcastInDim S8x4096x4096 ![] bcast_S_S8x4096x4096 (constant S_ .f32 0x3DD105EC#32))
/-- and the three results. -/
def outQ (g : Cube) (k : Heads) : Mat .f32 :=
  shapeCast S4096x1024 (transpose S4096x8x128 [1, 0, 2] (Host.dotGeneral (F := Ideal) (φ₁ := .f32) (φ₂ := .f32) dot_S8x4096x4096_S4096x8x128_S8x4096x128_2_0_1_2_0_1 none g k : FVec Ideal S8x4096x128 .f32)
    transposes_S8x4096x128_S4096x8x128_1_0_2) shapeCasts_S4096x8x128_S4096x1024
def outK (g : Cube) (q : Heads) : Mat .bf16 :=
  truncf .bf16 (shapeCast S4096x1024 (transpose S4096x8x128 [1, 0, 2] (Host.dotGeneral (F := Ideal) (φ₁ := .f32) (φ₂ := .f32) dot_S8x4096x4096_S4096x8x128_S8x4096x128_1_0_2_2_0_1 none g q : FVec Ideal S8x4096x128 .f32)
    transposes_S8x4096x128_S4096x8x128_1_0_2) shapeCasts_S4096x8x128_S4096x1024 : FVec Ideal S4096x1024 .f32) bitsLt_bf16_f32
def outV (d : Heads) (e : Cube) (z : Rows) : Mat .bf16 :=
  truncf .bf16 (shapeCast S4096x1024 (transpose S4096x8x128 [2, 0, 1] (Host.dotGeneral (F := Ideal) (φ₁ := .f32) (φ₂ := .f32) dot_S8x128x4096_S8x4096x4096_S8x128x4096_2_1_1_2_0_0 none
    (turned d) (Host.divf e (over (col z))) : FVec Ideal S8x128x4096 .f32) transposes_S8x128x4096_S4096x8x128_2_0_1) shapeCasts_S4096x8x128_S4096x1024 : FVec Ideal S4096x1024 .f32) bitsLt_bf16_f32

def behind (q : Mat .f32) (k : Mat .bf16) : Cube := masked 0xFF800000#32 (raw (split q) (wide k))
def scaled (q : Mat .f32) (k v : Mat .bf16) (d : Mat .f32) : Cube :=
  gradS (gradP (split d) (wide v)) (expo (behind q k)) (total (expo (behind q k)))

theorem res_q (m : (ℓ : Loc nD τ sig) → Buf (Elt Ideal) ℓ) (c : Dev nD) : Value.res_main_v74 m c
    = outQ (scaled (m ((c.tc : Thread nD τ).loc main_arg0)) (m ((c.tc : Thread nD τ).loc main_arg1)) (m ((c.tc : Thread nD τ).loc main_arg2)) (m ((c.tc : Thread nD τ).loc main_arg3)))
      (wide (m ((c.tc : Thread nD τ).loc main_arg1))) := rfl
theorem res_k (m : (ℓ : Loc nD τ sig) → Buf (Elt Ideal) ℓ) (c : Dev nD) : Value.res_main_v73 m c
    = outK (scaled (m ((c.tc : Thread nD τ).loc main_arg0)) (m ((c.tc : Thread nD τ).loc main_arg1)) (m ((c.tc : Thread nD τ).loc main_arg2)) (m ((c.tc : Thread nD τ).loc main_arg3)))
      (split (m ((c.tc : Thread nD τ).loc main_arg0))) := rfl
theorem res_v (m : (ℓ : Loc nD τ sig) → Buf (Elt Ideal) ℓ) (c : Dev nD) : Value.res_main_v71 m c
    = outV (split (m ((c.tc : Thread nD τ).loc main_arg3))) (expo (behind (m ((c.tc : Thread nD τ).loc main_arg0)) (m ((c.tc : Thread nD τ).loc main_arg1))))
      (total (expo (behind (m ((c.tc : Thread nD τ).loc main_arg0)) (m ((c.tc : Thread nD τ).loc main_arg1))))) := rfl

end Cert.ReferenceIdeal.Grad

end
-- ==== Proof.RefVal.lean ====
/-
  The reference's stages at an index, on finite arguments.
-/
module

public import proofs.«01_k».proof.Proof.Ref

@[expose] public section

set_option maxRecDepth 16384

noncomputable section

namespace Cert.ReferenceIdeal.Grad

open Cert.ReferenceIdeal Cert.ReferenceIdeal.Gen Idealize.ShloMosaic Idealize.ShloMosaic.TcCoe Idealize.SL.Sem
open Attn

variable {q d : Mat .f32} {k v : Mat .bf16} {Q K V D : Fin 4096 → Fin 1024 → ℝ}

theorem split_apply (x : Mat .f32) (i : Fin 4096) (h : Fin 8) (l : Fin 128) : split x (ix3 i h l) = x (ix2 i (hd h l)) := by
  pointwise [split]
  rfl
theorem wide_apply (x : Mat .bf16) (i : Fin 4096) (h : Fin 8) (l : Fin 128) : wide x (ix3 i h l) = x (ix2 i (hd h l)) := by
  pointwise [wide]
  rfl
theorem raw_apply (q k : Heads) (h : Fin 8) (i j : Fin 4096) :
    raw q k (ix3 h i j) = (∑ l, q (ix3 i h l) * k (ix3 j h l)) * Ideal.ofBits .f32 0x3DD105EC#32 := by
  pointwise [raw]
theorem masked_apply (b : BitVec 32) (s : Cube) (h : Fin 8) (i j : Fin 4096) :
    masked b s (ix3 h i j) = if j ≤ i then s (ix3 h i j) else Ideal.ofBits .f32 b := by
  pointwise [masked, causal]
  exact pick le_rfl i j _ _
theorem largest_apply (s : Cube) (h : Fin 8) (i : Fin 4096) :
    largest s (ix2 h i) = max (Ideal.ofBits .f32 0xFF800000#32) (Finset.univ.fold max (Ideal.ofBits .f32 0xFF800000#32) fun j => s (ix3 h i j)) := by
  unfold largest
  refine (maxRows _ _ h i).trans (congrArg₂ max ?_ ((rowMax s _ _ _ h i).trans (congrArg (fun b => Finset.univ.fold max b fun j => s (ix3 h i j)) ?_)))
  · pointwise
  · rfl
theorem over_col_apply (r : Rows) (h : Fin 8) (i j : Fin 4096) : over (col r) (ix3 h i j) = r (ix2 h i) := by
  pointwise [over, col]
theorem expo_apply (s : Cube) (h : Fin 8) (i j : Fin 4096) : expo s (ix3 h i j) = Ideal.exp (s (ix3 h i j) - largest s (ix2 h i)) := by
  pointwise [expo, over_col_apply]
theorem total_apply (s : Cube) (h : Fin 8) (i : Fin 4096) : total s (ix2 h i) = ∑ j, s (ix3 h i j) := by
  pointwise [total]
theorem over_isq_apply (r : Rows) (h : Fin 8) (i j : Fin 4096) : over (isq (col r)) (ix3 h i j) = Ideal.div 1 (r (ix2 h i) * r (ix2 h i)) := by
  pointwise [over, isq, col]
theorem gradP_apply (d v : Heads) (h : Fin 8) (i j : Fin 4096) : gradP d v (ix3 h i j) = ∑ l, d (ix3 i h l) * v (ix3 j h l) := by
  pointwise [gradP, turned]
theorem gradS_apply (p e : Cube) (z : Rows) (h : Fin 8) (i j : Fin 4096) : gradS p e z (ix3 h i j)
    = (if j ≤ i then (Ideal.div (p (ix3 h i j)) (z (ix2 h i)) + -(∑ j', p (ix3 h i j') * Ideal.div 1 (z (ix2 h i) * z (ix2 h i)) * e (ix3 h i j'))) * e (ix3 h i j) else 0)
      * Ideal.ofBits .f32 0x3DD105EC#32 := by
  pointwise [gradS, masked_apply, over_col_apply, over_isq_apply, total_apply]
  rw [Fin.sum_univ_one]
theorem outQ_apply (g : Cube) (k : Heads) (i : Fin 4096) (x : Fin 1024) : outQ g k (ix2 i x) = ∑ j, g (ix3 (ho x) i j) * k (ix3 j (ho x) (lo x)) := by
  pointwise [outQ]
  rfl
theorem outK_apply (g : Cube) (k : Heads) (i : Fin 4096) (x : Fin 1024) : outK g k (ix2 i x) = ∑ j, g (ix3 (ho x) j i) * k (ix3 j (ho x) (lo x)) := by
  pointwise [outK]
  rfl
theorem outV_apply (d : Heads) (e : Cube) (z : Rows) (i : Fin 4096) (x : Fin 1024) : outV d e z (ix2 i x)
    = ∑ j, d (ix3 j (ho x) (lo x)) * Ideal.div (e (ix3 (ho x) j i)) (z (ix2 (ho x) j)) := by
  pointwise [outV, turned]
  simp only [over_col_apply]
  rfl

/-! ## On finite arguments -/

section

variable (hq : ∀ i x, q (ix2 i x) = ((Q i x : ℝ) : EReal)) (hk : ∀ i x, k (ix2 i x) = ((K i x : ℝ) : EReal))
  (hv : ∀ i x, v (ix2 i x) = ((V i x : ℝ) : EReal)) (hd' : ∀ i x, d (ix2 i x) = ((D i x : ℝ) : EReal))
include hq hk

theorem behind_real (h : Fin 8) (i j : Fin 4096) : behind q k (ix3 h i j) = if j ≤ i then ((S Q K h i j : ℝ) : EReal) else ⊥ := by
  rw [behind, masked_apply, raw_apply, ninf_eq, sc_eq]
  simp only [split_apply, wide_apply, hq, hk, S, EReal.coe_mul, coe_sum]

theorem largest_real (h : Fin 8) (i : Fin 4096) : largest (behind q k) (ix2 h i) = ((M Q K h i : ℝ) : EReal) := by
  rw [largest_apply, ninf_eq, max_eq_right bot_le, ← top_eq]
  simp only [behind_real hq hk]
  rfl

theorem expo_real (h : Fin 8) (i j : Fin 4096) : expo (behind q k) (ix3 h i j) = ((E Q K h i j : ℝ) : EReal) := by
  rw [expo_apply, behind_real hq hk, largest_real hq hk, E]
  split
  · rw [← EReal.coe_sub, Ideal.exp_coe]
  · rw [EReal.bot_sub, Ideal.exp_bot, EReal.coe_zero]

theorem total_real (h : Fin 8) (i : Fin 4096) : total (expo (behind q k)) (ix2 h i) = ((Z Q K h i : ℝ) : EReal) := by
  rw [total_apply, Z, coe_sum]
  simp only [expo_real hq hk]

include hv hd'

theorem scaled_real (h : Fin 8) (i j : Fin 4096) : scaled q k v d (ix3 h i j) = ((dS Q K V D h i j * sc : ℝ) : EReal) := by
  have hz := (Z_pos Q K h i).ne'
  have hp : ∀ j, gradP (split d) (wide v) (ix3 h i j) = ((dP V D h i j : ℝ) : EReal) := fun j => by
    rw [gradP_apply, dP, coe_sum]
    simp only [split_apply, wide_apply, hv, hd', EReal.coe_mul]
  rw [scaled, gradS_apply, sc_eq, EReal.coe_mul, ← quotient]
  congr 1
  simp only [hp, expo_real hq hk, total_real hq hk]
  rw [← EReal.coe_mul, ← EReal.coe_one, div_coe _ hz, div_coe _ (mul_ne_zero hz hz)]
  simp only [← EReal.coe_mul, ← coe_sum, ← EReal.coe_neg, ← EReal.coe_add]
  split
  · rfl
  · exact EReal.coe_zero.symm

theorem outQ_real (i : Fin 4096) (x : Fin 1024) : outQ (scaled q k v d) (wide k) (ix2 i x) = ((gQ Q K V D i x : ℝ) : EReal) := by
  rw [outQ_apply, gQ, coe_sum]
  simp only [scaled_real hq hk hv hd', wide_apply, hk, hd_ho, EReal.coe_mul]

theorem outK_real (i : Fin 4096) (x : Fin 1024) : outK (scaled q k v d) (split q) (ix2 i x) = ((gK Q K V D i x : ℝ) : EReal) := by
  rw [outK_apply, gK, coe_sum]
  simp only [scaled_real hq hk hv hd', split_apply, hq, hd_ho, EReal.coe_mul]

omit hv in
theorem outV_real (i : Fin 4096) (x : Fin 1024) : outV (split d) (expo (behind q k)) (total (expo (behind q k))) (ix2 i x) = ((gV Q K D i x : ℝ) : EReal) := by
  rw [outV_apply, gV, coe_sum]
  refine Finset.sum_congr rfl fun j _ => ?_
  rw [split_apply, hd_ho, hd', expo_real hq hk, total_real hq hk, div_coe _ (Z_pos Q K _ _).ne', ← EReal.coe_mul, mul_comm]
  rfl

end

end Cert.ReferenceIdeal.Grad

end
-- ==== Proof.Host.lean ====
/-
  What the host lines before the call leave in the call's arrays.
-/
module

public import proofs.«01_k».proof.Proof.Frame
public import proofs.«01_k».proof.Proof.RefVal

@[expose] public section

set_option maxRecDepth 16384
set_option Elab.async false

noncomputable section

namespace Cert.KernelIdeal.Bwd

open Cert.KernelIdeal Cert.KernelIdeal.Gen
open Idealize.ShloMosaic
open Idealize.ShloMosaic.TcCoe
open Idealize.SL.Sem
open Cert.ReferenceIdeal.Grad (Mat Heads Cube Rows split wide raw total split_apply wide_apply raw_apply total_apply)
open Attn

/-- The scores behind the mask, -/
def behind (q : Mat .f32) (k : Mat .bf16) : Cube :=
  select (cmpi .sle (iotaInDim S8x4096x4096 32 2) (iotaInDim S8x4096x4096 32 1)) (raw (split q) (wide k))
    (broadcastInDim S8x4096x4096 ![] bcast_S_S8x4096x4096 (constant S_ .f32 0xFF800000#32))
/-- a row's largest, -/
def most (s : Cube) : Rows := Host.reduce FloatOps.maximumf s (constant S_ .f32 0xFF800000#32) reducesTo_S8x4096x4096_S8x4096_d2 h_S_
/-- one number per row spread over the keys, -/
def over (r : Rows) : Cube :=
  broadcastInDim S8x4096x4096 ![0, 1, 2] bcast_S8x4096x1_S8x4096x4096_0_1_2 (broadcastInDim S8x4096x1 ![0, 1] bcast_S8x4096_S8x4096x1_0_1 r)
/-- the exponentials, -/
def expo (s : Cube) : Cube := Host.exp (subf s (over (most s)))
/-- the weighted values, -/
def mix (v : Heads) (p : Cube) : Heads :=
  transpose S4096x8x128 [2, 0, 1] (Host.dotGeneral (F := Ideal) (φ₁ := .f32) (φ₂ := .f32) dot_S4096x8x128_S8x4096x4096_S8x128x4096_0_2_2_1_1_0 none v p : FVec Ideal S8x128x4096 .f32)
    transposes_S8x128x4096_S4096x8x128_2_0_1
/-- and what the call takes: the logarithms of the sums, -/
def logs (a z : Rows) : FVec Ideal S8x1x4096 .f32 :=
  broadcastInDim S8x1x4096 ![0, 2] bcast_S8x4096_S8x1x4096_0_2 (Host.divf (addf a (Host.log z))
    (broadcastInDim S8x4096 ![] bcast_S_S8x4096 (Host.log (constant S_ .f32 0x40000000#32))))
def lse (s : Cube) : FVec Ideal S8x1x4096 .f32 := logs (most s) (total (expo s))
/-- the means of the weights' gradient, -/
def mean (q : Mat .f32) (k v : Mat .bf16) (d : Mat .f32) : FVec Ideal S8x1x4096 .f32 :=
  broadcastInDim S8x1x4096 ![0, 2] bcast_S8x4096_S8x1x4096_0_2 (Host.dotGeneral (F := Ideal) (φ₁ := .f32) (φ₂ := .f32) dot_S4096x8x128_S4096x8x128_S8x4096_2_2_n_n_10_10 none
    (mix (wide v) (Host.divf (expo (behind q k)) (over (total (expo (behind q k)))))) (split d) : FVec Ideal S8x4096 .f32)
/-- the queries, scaled, -/
def ready (q : Mat .f32) : Mat .bf16 :=
  truncf .bf16 (Host.divf (mulf q (broadcastInDim S4096x1024 ![] bcast_S_S4096x1024 (constant S_ .f32 0x3DD105EC#32)))
    (broadcastInDim S4096x1024 ![] bcast_S_S4096x1024 (Host.log (constant S_ .f32 0x40000000#32))) : FVec Ideal S4096x1024 .f32) bitsLt_bf16_f32

variable (m : (ℓ : Loc nD τ sig) → Buf (Elt Ideal) ℓ)

abbrev aq (c : Dev nD) : Mat .f32 := m ((c.tc : Thread nD τ).loc main_arg0)
abbrev ak (c : Dev nD) : Mat .bf16 := m ((c.tc : Thread nD τ).loc main_arg1)
abbrev av (c : Dev nD) : Mat .bf16 := m ((c.tc : Thread nD τ).loc main_arg2)
abbrev ad (c : Dev nD) : Mat .f32 := m ((c.tc : Thread nD τ).loc main_arg3)

theorem V0_q (c : Dev nD) : V0 m c main_v38 = ready (aq m c) := by
  unfold V0
  after_reads_simp
  rfl
theorem V0_d (c : Dev nD) : V0 m c main_v39 = (truncf .bf16 (ad m c) bitsLt_bf16_f32 : Mat .bf16) := by
  unfold V0
  after_reads_simp
theorem V0_lse (c : Dev nD) : V0 m c main_v31 = lse (behind (aq m c) (ak m c)) := by
  unfold V0
  after_reads_simp
  rfl
theorem V0_mean (c : Dev nD) : V0 m c main_v32 = mean (aq m c) (ak m c) (av m c) (ad m c) := by
  unfold V0
  after_reads_simp
  rfl

theorem behind_apply (q : Mat .f32) (k : Mat .bf16) (h : Fin 8) (i j : Fin 4096) :
    behind q k (ix3 h i j) = if j ≤ i then raw (split q) (wide k) (ix3 h i j) else Ideal.ofBits .f32 0xFF800000#32 := by
  pointwise [behind]
  exact pick le_rfl i j _ _
theorem most_apply (s : Cube) (h : Fin 8) (i : Fin 4096) : most s (ix2 h i) = Finset.univ.fold max (Ideal.ofBits .f32 0xFF800000#32) fun j => s (ix3 h i j) := by
  unfold most
  exact (rowMax s _ _ _ h i).trans (congrArg (fun b => Finset.univ.fold max b fun j => s (ix3 h i j)) rfl)
theorem over_apply (r : Rows) (h : Fin 8) (i j : Fin 4096) : over r (ix3 h i j) = r (ix2 h i) := by
  pointwise [over]
theorem expo_apply (s : Cube) (h : Fin 8) (i j : Fin 4096) : expo s (ix3 h i j) = Ideal.exp (s (ix3 h i j) - most s (ix2 h i)) := by
  pointwise [expo, over_apply]
theorem mix_apply (v : Heads) (p : Cube) (i : Fin 4096) (h : Fin 8) (l : Fin 128) : mix v p (ix3 i h l) = ∑ j, v (ix3 j h l) * p (ix3 h i j) := by
  pointwise [mix]
theorem logs_apply (a z : Rows) (h : Fin 8) (i : Fin 4096) : logs a z (ix3 h 0 i)
    = Ideal.div (a (ix2 h i) + Ideal.log (z (ix2 h i))) (Ideal.log (Ideal.ofBits .f32 0x40000000#32)) := by
  pointwise [logs]
theorem mean_apply (q : Mat .f32) (k v : Mat .bf16) (d : Mat .f32) (h : Fin 8) (i : Fin 4096) : mean q k v d (ix3 h 0 i)
    = ∑ l, (∑ j, wide v (ix3 j h l) * Ideal.div (expo (behind q k) (ix3 h i j)) (total (expo (behind q k)) (ix2 h i))) * split d (ix3 i h l) := by
  pointwise [mean, mix_apply, over_apply]
theorem ready_apply (q : Mat .f32) (i : Fin 4096) (x : Fin 1024) :
    ready q (ix2 i x) = Ideal.div (q (ix2 i x) * Ideal.ofBits .f32 0x3DD105EC#32) (Ideal.log (Ideal.ofBits .f32 0x40000000#32)) := by
  pointwise [ready]

/-! ## On finite arguments -/

theorem log_two : Ideal.log (Ideal.ofBits .f32 0x40000000#32) = ((Real.log 2 : ℝ) : EReal) := by
  rw [two_eq, Ideal.log_coe, if_neg (by norm_num)]
theorem log_two_ne : Real.log 2 ≠ 0 := (Real.log_pos one_lt_two).ne'

section

variable {q d : Mat .f32} {k v : Mat .bf16} {Q K V D : Fin 4096 → Fin 1024 → ℝ}
  (hq : ∀ i x, q (ix2 i x) = ((Q i x : ℝ) : EReal)) (hk : ∀ i x, k (ix2 i x) = ((K i x : ℝ) : EReal))
  (hv : ∀ i x, v (ix2 i x) = ((V i x : ℝ) : EReal)) (hd' : ∀ i x, d (ix2 i x) = ((D i x : ℝ) : EReal))
include hq

theorem ready_real (i : Fin 4096) (x : Fin 1024) : ready q (ix2 i x) = ((Q i x * sc / Real.log 2 : ℝ) : EReal) := by
  rw [ready_apply, hq, sc_eq, log_two, ← EReal.coe_mul, div_coe _ log_two_ne]

include hk

theorem behind_real (h : Fin 8) (i j : Fin 4096) : behind q k (ix3 h i j) = if j ≤ i then ((S Q K h i j : ℝ) : EReal) else ⊥ := by
  rw [behind_apply, raw_apply, ninf_eq, sc_eq]
  simp only [split_apply, wide_apply, hq, hk, S, EReal.coe_mul, coe_sum]

theorem most_real (h : Fin 8) (i : Fin 4096) : most (behind q k) (ix2 h i) = ((M Q K h i : ℝ) : EReal) := by
  rw [most_apply, ninf_eq, ← top_eq]
  simp only [behind_real hq hk]
  rfl

theorem expo_real (h : Fin 8) (i j : Fin 4096) : expo (behind q k) (ix3 h i j) = ((E Q K h i j : ℝ) : EReal) := by
  rw [expo_apply, behind_real hq hk, most_real hq hk, E]
  split
  · rw [← EReal.coe_sub, Ideal.exp_coe]
  · rw [EReal.bot_sub, Ideal.exp_bot, EReal.coe_zero]

theorem total_real (h : Fin 8) (i : Fin 4096) : total (expo (behind q k)) (ix2 h i) = ((Z Q K h i : ℝ) : EReal) := by
  rw [total_apply, Z, coe_sum]
  simp only [expo_real hq hk]

theorem lse_real (h : Fin 8) (i : Fin 4096) : lse (behind q k) (ix3 h 0 i) = (((M Q K h i + Real.log (Z Q K h i)) / Real.log 2 : ℝ) : EReal) := by
  rw [lse, logs_apply, most_real hq hk, total_real hq hk, Ideal.log_coe, if_neg (not_le.2 (Z_pos Q K h i)), log_two, ← EReal.coe_add, div_coe _ log_two_ne]

include hv hd'

theorem mean_real (h : Fin 8) (i : Fin 4096) : mean q k v d (ix3 h 0 i) = ((dl Q K V D h i : ℝ) : EReal) := by
  rw [mean_apply, ← saved]
  simp only [expo_real hq hk, total_real hq hk, wide_apply, split_apply, hv, hd', div_coe _ (Z_pos Q K h i).ne', ← EReal.coe_mul, ← coe_sum]
  rfl

end

end Cert.KernelIdeal.Bwd

end
-- ==== Proof.HeadVal.lean ====
/-
  One head's shares at an index, and the eight heads' together.
-/
module

public import proofs.«01_k».proof.Proof.Steps
public import proofs.«01_k».proof.Proof.Math

@[expose] public section

set_option maxRecDepth 16384

noncomputable section

namespace Cert.KernelIdeal.Bwd

open Cert.KernelIdeal Cert.KernelIdeal.Gen
open Idealize.ShloMosaic
open Idealize.SL.Sem
open VecWindow
open Attn (hd ho lo hd_ho)

/-! ## One head's values -/

theorem mask_bot : (Named.named κ "mask" (φ := .f32) 0xF149F2CA#32 : Ideal .f32) = (⊥ : EReal) := rfl

theorem scores_apply (diag : Bool) (q k : Vec Ideal S512x128 .bf16) (a b : Fin 512) :
    scores diag q k (ix2 a b) = if diag = true then (if a ≤ b then ∑ l, k (ix2 a l) * q (ix2 b l) else ⊥) else ∑ l, k (ix2 a l) * q (ix2 b l) := by
  unfold scores
  cases diag
  · simp only [Bool.false_eq_true, if_false]
    pointwise
  · simp only [if_true]
    pointwise [mask_bot]
    exact Attn.pick (by norm_num) b a _ _

theorem weights_apply (diag : Bool) (q k : Vec Ideal S512x128 .bf16) (lse : Vec Ideal S1x1x512 .f32) (a b : Fin 512) :
    weights diag q k lse (ix2 a b) = Ideal.exp2 (scores diag q k (ix2 a b) - lse (ix3 0 0 b)) := by
  pointwise [weights, spread]
  rfl

theorem dscores_apply (diag : Bool) (q k v d : Vec Ideal S512x128 .bf16) (lse dl : Vec Ideal S1x1x512 .f32) (a b : Fin 512) :
    dscores diag q k v d lse dl (ix2 a b) = weights diag q k lse (ix2 a b) * ((∑ l, v (ix2 a l) * d (ix2 b l)) - dl (ix3 0 0 b)) := by
  pointwise [dscores, spread]

theorem newV_apply (diag : Bool) (q k d : Vec Ideal S512x128 .bf16) (lse : Vec Ideal S1x1x512 .f32) (x : Vec Ideal S512x128 .f32) (a : Fin 512) (l : Fin 128) :
    newV diag q k d lse x (ix2 a l) = x (ix2 a l) + ∑ b, weights diag q k lse (ix2 a b) * d (ix2 b l) := by
  pointwise [newV]

theorem newK_apply (diag : Bool) (q k v d : Vec Ideal S512x128 .bf16) (lse dl : Vec Ideal S1x1x512 .f32) (x : Vec Ideal S512x128 .f32) (a : Fin 512) (l : Fin 128) :
    newK diag q k v d lse dl x (ix2 a l) = x (ix2 a l) + ∑ b, dscores diag q k v d lse dl (ix2 a b) * q (ix2 b l) := by
  pointwise [newK]

theorem newQ_apply (diag : Bool) (q k v d : Vec Ideal S512x128 .bf16) (lse dl : Vec Ideal S1x1x512 .f32) (x : Vec Ideal S512x128 .f32) (b : Fin 512) (l : Fin 128) :
    newQ diag q k v d lse dl x (ix2 b l)
      = x (ix2 b l) + Ideal.ofBits .f32 0x3DD105EC#32 * ∑ a, dscores diag q k v d lse dl (ix2 a b) * k (ix2 a l) := by
  pointwise [newQ]

/-! ## Windows -/

theorem part_apply {e : EltTy} (x : Vec Ideal S512x1024 e) (hh : Fin 8) (a : Fin 512) (l : Fin 128) : part x hh (ix2 a l) = x (ix2 a (hd hh l)) := by
  refine congrArg x (funext fun c => Fin.ext ?_)
  match c with
  | ⟨0, _⟩ => show 0 + 1 * a.val = a.val; omega
  | ⟨1, _⟩ => show 128 * hh.val + 1 * l.val = hh.val * 128 + l.val; omega

theorem line_apply {e : EltTy} (x : Vec Ideal S8x1x512 e) (hh : Fin 8) (b : Fin 512) : line x hh (ix3 0 0 b) = x (ix3 hh 0 b) := by
  refine congrArg x (funext fun c => Fin.ext ?_)
  match c with
  | ⟨0, _⟩ => show hh.val + 1 * 0 = hh.val; omega
  | ⟨1, _⟩ => rfl
  | ⟨2, _⟩ => show 0 + 1 * b.val = b.val; omega

theorem put_lane {e : EltTy} (x : Vec Ideal S512x1024 e) (hh : Fin 8) (w : Vec Ideal S512x128 e) (a : Fin 512) (y : Fin 1024) :
    put x (lane hh) S512x128.size w (ix2 a y) = if ho y = hh then w (ix2 a (lo y)) else x (ix2 a y) := by
  have hy := y.isLt
  have hhl := hh.isLt
  unfold put
  by_cases h : ho y = hh
  · have h' : y.val / 128 = hh.val := congrArg Fin.val h
    rw [if_pos h, dif_pos (fun c => by
      match c with
      | ⟨0, _⟩ => exact ⟨Nat.zero_le _, by show a.val < 0 + 512; omega⟩
      | ⟨1, _⟩ => exact ⟨by show 128 * hh.val ≤ y.val; omega, by show y.val < 128 * hh.val + 128; omega⟩)]
    refine congrArg w (funext fun c => Fin.ext ?_)
    match c with
    | ⟨0, _⟩ => rfl
    | ⟨1, _⟩ => show y.val - 128 * hh.val = y.val % 128; omega
  · have h' : ¬ y.val / 128 = hh.val := fun e => h (Fin.ext e)
    rw [if_neg h, dif_neg (fun g => ?_)]
    have g1 : 128 * hh.val ≤ y.val ∧ y.val < 128 * hh.val + 128 := g 1
    omega

theorem put_slot (x : Vec Ideal S4096x1024 .f32) (v1 : BitVec 32) (n : ℕ) (hn : (Scalar.indexCast (Scalar.muli v1 512#32)).toNat = 512 * n)
    (hh : Fin 8) (w : Vec Ideal S512x128 .f32) (i : Fin 4096) (y : Fin 1024) :
    put x (slot v1 hh) S512x128.size w (ix2 i y)
      = if ho y = hh then (if i.val / 512 = n then w (ix2 (⟨i.val % 512, Nat.mod_lt _ (by norm_num)⟩ : Fin 512) (lo y)) else x (ix2 i y)) else x (ix2 i y) := by
  have hy := y.isLt
  have hi := i.isLt
  have hhl := hh.isLt
  have s0 : slot v1 hh 0 = 512 * n := hn
  have s1 : slot v1 hh 1 = 128 * hh.val := rfl
  unfold put
  by_cases h : ho y = hh ∧ i.val / 512 = n
  · have h' : y.val / 128 = hh.val := congrArg Fin.val h.1
    have h2 := h.2
    rw [if_pos h.1, if_pos h.2, dif_pos (fun c => by
      match c with
      | ⟨0, _⟩ => exact ⟨by show slot v1 hh 0 ≤ i.val; omega, by show i.val < slot v1 hh 0 + 512; omega⟩
      | ⟨1, _⟩ => exact ⟨by show 128 * hh.val ≤ y.val; omega, by show y.val < 128 * hh.val + 128; omega⟩)]
    refine congrArg w (funext fun c => Fin.ext ?_)
    match c with
    | ⟨0, _⟩ => show i.val - slot v1 hh 0 = i.val % 512; omega
    | ⟨1, _⟩ => show y.val - 128 * hh.val = y.val % 128; omega
  · rw [dif_neg (fun g => ?_)]
    · by_cases h1 : ho y = hh
      · rw [if_pos h1, if_neg (fun h2 => h ⟨h1, h2⟩)]
      · rw [if_neg h1]
    have g0 : slot v1 hh 0 ≤ i.val ∧ i.val < slot v1 hh 0 + 512 := g 0
    have g1 : 128 * hh.val ≤ y.val ∧ y.val < 128 * hh.val + 128 := g 1
    exact h ⟨Fin.ext (by show y.val / 128 = hh.val; omega), by omega⟩

theorem window_slot (x : Vec Ideal S4096x1024 .f32) (v1 : BitVec 32) (n : ℕ) (hn : (Scalar.indexCast (Scalar.muli v1 512#32)).toNat = 512 * n)
    (hh : Fin 8) (hb : ∀ a, slot v1 hh a + S512x128.size a ≤ S4096x1024.size a) (i : Fin 4096) (y : Fin 1024) (hy : ho y = hh) (hi : i.val / 512 = n) :
    window x (slot v1 hh) S512x128.size hb (ix2 (⟨i.val % 512, Nat.mod_lt _ (by norm_num)⟩ : Fin 512) (lo y)) = x (ix2 i y) := by
  have h' : y.val / 128 = hh.val := congrArg Fin.val hy
  have s0 : slot v1 hh 0 = 512 * n := hn
  refine congrArg x (funext fun c => Fin.ext ?_)
  match c with
  | ⟨0, _⟩ => show slot v1 hh 0 + 1 * (i.val % 512) = i.val; omega
  | ⟨1, _⟩ => show 128 * hh.val + 1 * (y.val % 128) = y.val; omega

/-! ## One head's shares, and all eight -/

variable (diag : Bool) (I : Ins Ideal)

def shareV (h : Fin 8) (a : Fin 512) (l : Fin 128) : EReal :=
  ∑ b, weights diag (part I.q h) (part I.k h) (line I.lse h) (ix2 a b) * part I.d h (ix2 b l)
def shareK (h : Fin 8) (a : Fin 512) (l : Fin 128) : EReal :=
  ∑ b, dscores diag (part I.q h) (part I.k h) (part I.v h) (part I.d h) (line I.lse h) (line I.dl h) (ix2 a b) * part I.q h (ix2 b l)
def shareQ (h : Fin 8) (b : Fin 512) (l : Fin 128) : EReal :=
  Ideal.ofBits .f32 0x3DD105EC#32 * ∑ a, dscores diag (part I.q h) (part I.k h) (part I.v h) (part I.d h) (line I.lse h) (line I.dl h) (ix2 a b) * part I.k h (ix2 a l)

variable (v1 : BitVec 32) (A : Acc Ideal)

theorem upd_dv (hh : Fin 8) (hb) (a : Fin 512) (y : Fin 1024) :
    (upd diag I v1 hh hb A).dv (ix2 a y) = if ho y = hh then A.dv (ix2 a y) + shareV diag I hh a (lo y) else A.dv (ix2 a y) := by
  refine (put_lane A.dv hh _ a y).trans ?_
  split
  · rename_i h
    rw [newV_apply, part_apply, ← h, hd_ho]; rfl
  · rfl

theorem upd_dk (hh : Fin 8) (hb) (a : Fin 512) (y : Fin 1024) :
    (upd diag I v1 hh hb A).dk (ix2 a y) = if ho y = hh then A.dk (ix2 a y) + shareK diag I hh a (lo y) else A.dk (ix2 a y) := by
  refine (put_lane A.dk hh _ a y).trans ?_
  split
  · rename_i h
    rw [newK_apply, part_apply, ← h, hd_ho]; rfl
  · rfl

theorem upd_dq (n : ℕ) (hn : (Scalar.indexCast (Scalar.muli v1 512#32)).toNat = 512 * n) (hh : Fin 8) (hb) (i : Fin 4096) (y : Fin 1024) :
    (upd diag I v1 hh hb A).dq (ix2 i y) = if ho y = hh then
      (if i.val / 512 = n then A.dq (ix2 i y) + shareQ diag I hh ⟨i.val % 512, Nat.mod_lt _ (by norm_num)⟩ (lo y) else A.dq (ix2 i y)) else A.dq (ix2 i y) := by
  refine (put_slot A.dq v1 n hn hh _ i y).trans ?_
  split
  · rename_i h
    split
    · rename_i h2
      rw [newQ_apply, window_slot A.dq v1 n hn hh hb i y h h2]; rfl
    · rfl
  · rfl

theorem upds_dv (hb) (a : Fin 512) (y : Fin 1024) :
    (upds diag I v1 hb A).dv (ix2 a y) = A.dv (ix2 a y) + shareV diag I (ho y) a (lo y) := by
  unfold upds
  rw [upd_dv, upd_dv, upd_dv, upd_dv, upd_dv, upd_dv, upd_dv, upd_dv]
  generalize ho y = h
  fin_cases h <;> rfl

theorem upds_dk (hb) (a : Fin 512) (y : Fin 1024) :
    (upds diag I v1 hb A).dk (ix2 a y) = A.dk (ix2 a y) + shareK diag I (ho y) a (lo y) := by
  unfold upds
  rw [upd_dk, upd_dk, upd_dk, upd_dk, upd_dk, upd_dk, upd_dk, upd_dk]
  generalize ho y = h
  fin_cases h <;> rfl

theorem upds_dq (n : ℕ) (hn : (Scalar.indexCast (Scalar.muli v1 512#32)).toNat = 512 * n) (hb) (i : Fin 4096) (y : Fin 1024) :
    (upds diag I v1 hb A).dq (ix2 i y)
      = if i.val / 512 = n then A.dq (ix2 i y) + shareQ diag I (ho y) ⟨i.val % 512, Nat.mod_lt _ (by norm_num)⟩ (lo y) else A.dq (ix2 i y) := by
  unfold upds
  rw [upd_dq _ _ _ _ n hn, upd_dq _ _ _ _ n hn, upd_dq _ _ _ _ n hn, upd_dq _ _ _ _ n hn, upd_dq _ _ _ _ n hn, upd_dq _ _ _ _ n hn, upd_dq _ _ _ _ n hn, upd_dq _ _ _ _ n hn]
  generalize ho y = h
  fin_cases h <;> rfl

end Cert.KernelIdeal.Bwd

end
-- ==== Proof.Shares.lean ====
/-
  The shares of a block of keys and a block of queries, on finite arguments.
-/
module

public import proofs.«01_k».proof.Proof.HeadVal

@[expose] public section

set_option maxRecDepth 16384

noncomputable section

namespace Cert.KernelIdeal.Bwd

open Cert.KernelIdeal Cert.KernelIdeal.Gen
open Idealize.ShloMosaic
open Attn

/-- Row `a` of block `n`. -/
def at512 (n : Fin 8) (a : Fin 512) : Fin 4096 := ⟨512 * n.val + a.val, by omega⟩

/-- A sum over all the rows, block by block. -/
theorem sum_blocks (f : Fin 4096 → ℝ) : ∑ j, f j = ∑ n, ∑ a, f (at512 n a) := by
  rw [← Fintype.sum_prod_type']
  refine (Fintype.sum_equiv (finProdFinEquiv (m := 8) (n := 512)) _ _ fun x => congrArg f (Fin.ext ?_)).symm
  show 512 * x.1.val + x.2.val = x.2.val + 512 * x.1.val
  omega

variable {Q K V D : Fin 4096 → Fin 1024 → ℝ}

/-- The blocks a point reads, as numbers: queries of block `n`, keys of block `n'`. -/
structure Reads (Q K V D : Fin 4096 → Fin 1024 → ℝ) (I : Ins Ideal) (n n' : Fin 8) : Prop where
  q : ∀ b x, I.q (ix2 b x) = ((Q (at512 n b) x * sc / Real.log 2 : ℝ) : EReal)
  k : ∀ a x, I.k (ix2 a x) = ((K (at512 n' a) x : ℝ) : EReal)
  v : ∀ a x, I.v (ix2 a x) = ((V (at512 n' a) x : ℝ) : EReal)
  d : ∀ b x, I.d (ix2 b x) = ((D (at512 n b) x : ℝ) : EReal)
  lse : ∀ h b, I.lse (ix3 h 0 b) = (((M Q K h (at512 n b) + Real.log (Z Q K h (at512 n b))) / Real.log 2 : ℝ) : EReal)
  dl : ∀ h b, I.dl (ix3 h 0 b) = ((dl Q K V D h (at512 n b) : ℝ) : EReal)

section

variable {I : Ins Ideal} {n n' : Fin 8} (R : Reads Q K V D I n n') {diag : Bool} (hcase : (diag = false ∧ n' < n) ∨ (diag = true ∧ n' = n))
include R hcase

theorem weights_real (h : Fin 8) (a b : Fin 512) :
    weights diag (part I.q h) (part I.k h) (line I.lse h) (ix2 a b) = ((P Q K h (at512 n b) (at512 n' a) : ℝ) : EReal) := by
  have e : ∑ l, part I.k h (ix2 a l) * part I.q h (ix2 b l)
      = ((∑ l, K (at512 n' a) (hd h l) * (Q (at512 n b) (hd h l) * sc / Real.log 2) : ℝ) : EReal) := by
    rw [coe_sum]
    exact Finset.sum_congr rfl fun l _ => by rw [part_apply, R.k, part_apply, R.q, ← EReal.coe_mul]
  have g : at512 n' a ≤ at512 n b → Ideal.exp2 (((∑ l, K (at512 n' a) (hd h l) * (Q (at512 n b) (hd h l) * sc / Real.log 2) : ℝ) : EReal)
      - (((M Q K h (at512 n b) + Real.log (Z Q K h (at512 n b))) / Real.log 2 : ℝ) : EReal)) = ((P Q K h (at512 n b) (at512 n' a) : ℝ) : EReal) := fun hle => by
    rw [← EReal.coe_sub, Ideal.exp2_coe, power Q K h _ _ hle]
  rw [weights_apply, scores_apply, line_apply, R.lse, e]
  rcases hcase with ⟨hd, hn⟩ | ⟨hd, hn⟩
  · rw [hd, if_neg (by decide)]
    exact g (by show 512 * n'.val + a.val ≤ 512 * n.val + b.val; have := a.isLt; have : n'.val < n.val := hn; omega)
  · rw [hd, if_pos rfl]
    by_cases hab : a ≤ b
    · rw [if_pos hab]
      exact g (by show 512 * n'.val + a.val ≤ 512 * n.val + b.val; have : a.val ≤ b.val := hab; rw [hn]; omega)
    · rw [if_neg hab, P_zero Q K (by show 512 * n.val + b.val < 512 * n'.val + a.val; have : ¬ a.val ≤ b.val := hab; rw [hn]; omega),
        EReal.bot_sub, Ideal.exp2_bot, EReal.coe_zero]

theorem dscores_real (h : Fin 8) (a b : Fin 512) :
    dscores diag (part I.q h) (part I.k h) (part I.v h) (part I.d h) (line I.lse h) (line I.dl h) (ix2 a b)
      = ((dS Q K V D h (at512 n b) (at512 n' a) : ℝ) : EReal) := by
  have e : ∑ l, part I.v h (ix2 a l) * part I.d h (ix2 b l) = ((dP V D h (at512 n b) (at512 n' a) : ℝ) : EReal) := by
    rw [dP, coe_sum]
    exact Finset.sum_congr rfl fun l _ => by rw [part_apply, R.v, part_apply, R.d, ← EReal.coe_mul, mul_comm]
  rw [dscores_apply, weights_real R hcase, line_apply, R.dl, e, ← EReal.coe_sub, ← EReal.coe_mul]
  rfl

theorem shareV_real (a : Fin 512) (y : Fin 1024) :
    shareV diag I (ho y) a (lo y) = ((∑ b, P Q K (ho y) (at512 n b) (at512 n' a) * D (at512 n b) y : ℝ) : EReal) := by
  rw [shareV, coe_sum]
  exact Finset.sum_congr rfl fun b _ => by rw [weights_real R hcase, part_apply, hd_ho, R.d, ← EReal.coe_mul]

theorem shareK_real (a : Fin 512) (y : Fin 1024) :
    shareK diag I (ho y) a (lo y) = ((∑ b, dS Q K V D (ho y) (at512 n b) (at512 n' a) * (Q (at512 n b) y * sc / Real.log 2) : ℝ) : EReal) := by
  rw [shareK, coe_sum]
  exact Finset.sum_congr rfl fun b _ => by rw [dscores_real R hcase, part_apply, hd_ho, R.q, ← EReal.coe_mul]

theorem shareQ_real (b : Fin 512) (y : Fin 1024) :
    shareQ diag I (ho y) b (lo y) = ((∑ a, dS Q K V D (ho y) (at512 n b) (at512 n' a) * sc * K (at512 n' a) y : ℝ) : EReal) := by
  have e : ∑ a, dscores diag (part I.q (ho y)) (part I.k (ho y)) (part I.v (ho y)) (part I.d (ho y)) (line I.lse (ho y)) (line I.dl (ho y)) (ix2 a b) * part I.k (ho y) (ix2 a (lo y))
      = ((∑ a, dS Q K V D (ho y) (at512 n b) (at512 n' a) * K (at512 n' a) y : ℝ) : EReal) := by
    rw [coe_sum]
    exact Finset.sum_congr rfl fun a _ => by rw [dscores_real R hcase, part_apply, hd_ho, R.k, ← EReal.coe_mul]
  rw [shareQ, e, sc_eq, ← EReal.coe_mul, Finset.mul_sum]
  exact congrArg _ (Finset.sum_congr rfl fun a _ => by ring)

end

/-! ## The blocks that are left out add nothing -/

theorem sumV (n' : Fin 8) (a : Fin 512) (y : Fin 1024) :
    ∑ n ∈ Finset.univ.filter (n' ≤ ·), ∑ b, P Q K (ho y) (at512 n b) (at512 n' a) * D (at512 n b) y = gV Q K D (at512 n' a) y := by
  unfold gV
  rw [sum_blocks]
  refine Finset.sum_subset (Finset.subset_univ _) fun n _ hn => Finset.sum_eq_zero fun b _ => ?_
  have hn : n.val < n'.val := by simpa using hn
  rw [P_zero Q K (by show 512 * n.val + b.val < 512 * n'.val + a.val; omega), zero_mul]

theorem sumK (n' : Fin 8) (a : Fin 512) (y : Fin 1024) :
    (∑ n ∈ Finset.univ.filter (n' ≤ ·), ∑ b, dS Q K V D (ho y) (at512 n b) (at512 n' a) * (Q (at512 n b) y * sc / Real.log 2)) * Real.log 2
      = gK Q K V D (at512 n' a) y := by
  have h2 : Real.log 2 ≠ 0 := (Real.log_pos one_lt_two).ne'
  unfold gK
  rw [sum_blocks, Finset.sum_mul]
  refine (Finset.sum_congr rfl fun n _ => ?_).trans (Finset.sum_subset (Finset.subset_univ (Finset.univ.filter (n' ≤ ·))) fun n _ hn => Finset.sum_eq_zero fun b _ => ?_)
  · rw [Finset.sum_mul]
    refine Finset.sum_congr rfl fun b _ => ?_
    field_simp
  · have hn : n.val < n'.val := by simpa using hn
    rw [dS, P_zero Q K (by show 512 * n.val + b.val < 512 * n'.val + a.val; omega), zero_mul, zero_mul, zero_mul]

theorem sumQ (n : Fin 8) (b : Fin 512) (y : Fin 1024) :
    ∑ n' ∈ Finset.univ.filter (· ≤ n), ∑ a, dS Q K V D (ho y) (at512 n b) (at512 n' a) * sc * K (at512 n' a) y = gQ Q K V D (at512 n b) y := by
  unfold gQ
  rw [sum_blocks]
  refine Finset.sum_subset (Finset.subset_univ _) fun n' _ hn => Finset.sum_eq_zero fun a _ => ?_
  have hn : n.val < n'.val := by simpa using hn
  rw [dS, P_zero Q K (by show 512 * n.val + b.val < 512 * n'.val + a.val; omega), zero_mul, zero_mul, zero_mul]

end Cert.KernelIdeal.Bwd

end
-- ==== Proof.Sums.lean ====
/-
  The schedule's order: what a key block and a query block have gathered after each point.
-/
module

public import proofs.«01_k».proof.Proof.Math

@[expose] public section

set_option maxRecDepth 16384
set_option Elab.async false

noncomputable section

namespace Cert.KernelIdeal.Bwd

/-- The query block and the key block of point `t`. -/
def qn (t : ℕ) : Fin 8 := [0, 1, 2, 3, 4, 5, 6, 7, 1, 2, 3, 4, 5, 6, 7, 2, 3, 4, 5, 6, 7, 3, 4, 5, 6, 7, 4, 5, 6, 7, 5, 6, 7, 6, 7, 7].getD t 0
def kn (t : ℕ) : Fin 8 := [0, 0, 0, 0, 0, 0, 0, 0, 1, 1, 1, 1, 1, 1, 1, 2, 2, 2, 2, 2, 2, 3, 3, 3, 3, 3, 4, 4, 4, 4, 5, 5, 5, 6, 6, 7].getD t 0

/-- The query blocks from `k` to `q`. -/
def span (k q : Fin 8) : Finset (Fin 8) := Finset.univ.filter fun r => k ≤ r ∧ r ≤ q
/-- The point of key block `k` and query block `q`, -/
def place (k q : Fin 8) : ℕ := 8 * k.val - k.val * (k.val - 1) / 2 + (q.val - k.val)
/-- and the key blocks query block `q` has met before point `n`. -/
def met (n : ℕ) (q : Fin 8) : Finset (Fin 8) := Finset.univ.filter fun k => k ≤ q ∧ place k q < n

/-- A key block's points follow one another, query blocks ascending. -/
theorem follows : ∀ t : Fin 35, kn (t.val + 1) ≠ qn (t.val + 1) → kn (t.val + 1) = kn t.val
    ∧ span (kn t.val) (qn (t.val + 1)) = insert (qn (t.val + 1)) (span (kn t.val) (qn t.val)) ∧ qn (t.val + 1) ∉ span (kn t.val) (qn t.val) := by decide +kernel
theorem span_one : ∀ k : Fin 8, span k k = {k} := by decide +kernel
theorem span_all : ∀ k : Fin 8, span k 7 = Finset.univ.filter (k ≤ ·) := by decide +kernel
theorem met_same : ∀ t : Fin 36, met (t.val + 1) (qn t.val) = insert (kn t.val) (met t.val (qn t.val)) ∧ kn t.val ∉ met t.val (qn t.val) := by decide +kernel
theorem met_other : ∀ (t : Fin 36) (b : Fin 8), qn t.val ≠ b → met (t.val + 1) b = met t.val b := by decide +kernel
theorem met_first : ∀ b : Fin 8, met 0 b = ∅ := by decide +kernel
theorem met_all : ∀ b : Fin 8, met 36 b = Finset.univ.filter (· ≤ b) := by decide +kernel

/-- What restarts at each key block's first point and gains a number at every point. -/
theorem fold_keys (f : ℕ → EReal) (g : Fin 8 → Fin 8 → ℝ)
    (hf : ∀ t, t < 36 → f (t + 1) = (if kn t = qn t then 0 else f t) + ((g (kn t) (qn t) : ℝ) : EReal)) :
    ∀ n, n < 36 → f (n + 1) = ((∑ q ∈ span (kn n) (qn n), g (kn n) q : ℝ) : EReal)
  | 0, h => by
    rw [hf 0 h, if_pos (by decide), zero_add, show qn 0 = kn 0 from by decide, span_one, Finset.sum_singleton]
  | n + 1, h => by
    rw [hf (n + 1) h]
    by_cases e : kn (n + 1) = qn (n + 1)
    · rw [if_pos e, zero_add, e, span_one, Finset.sum_singleton]
    · obtain ⟨h1, h2, h3⟩ := follows ⟨n, by omega⟩ e
      simp only at h1 h2 h3
      rw [if_neg e, fold_keys f g hf n (by omega), h1, h2, Finset.sum_insert h3, ← EReal.coe_add, add_comm]

/-- What gains a number at each point of query block `b`. -/
theorem fold_queries (f : ℕ → EReal) (b : Fin 8) (g : Fin 8 → ℝ)
    (hf : ∀ t, t < 36 → f (t + 1) = (if t = 0 then 0 else f t) + (if qn t = b then ((g (kn t) : ℝ) : EReal) else 0)) :
    ∀ n, n < 36 → f (n + 1) = ((∑ k ∈ met (n + 1) b, g k : ℝ) : EReal) := by
  have step : ∀ t, t < 36 → ∑ k ∈ met (t + 1) b, g k = (∑ k ∈ met t b, g k) + if qn t = b then g (kn t) else 0 := fun t ht => by
    by_cases e : qn t = b
    · obtain ⟨h1, h2⟩ := met_same ⟨t, ht⟩
      simp only at h1 h2
      rw [if_pos e, ← e, h1, Finset.sum_insert h2, add_comm]
    · have h1 := met_other ⟨t, ht⟩ b e
      simp only at h1
      rw [if_neg e, add_zero, h1]
  have gain : ∀ t, (if qn t = b then ((g (kn t) : ℝ) : EReal) else 0) = (((if qn t = b then g (kn t) else 0 : ℝ)) : EReal) := fun t => by
    split
    · rfl
    · exact EReal.coe_zero.symm
  intro n
  induction n with
  | zero =>
    intro h
    rw [hf 0 h, if_pos rfl, zero_add, gain, step 0 h, met_first, Finset.sum_empty, zero_add]
  | succ n ih =>
    intro h
    rw [hf (n + 1) h, if_neg (Nat.succ_ne_zero n), ih (by omega), gain, step (n + 1) h, EReal.coe_add]

end Cert.KernelIdeal.Bwd

end
-- ==== Proof.Blocks.lean ====
/-
  The schedule as numbers, and the blocks a point reads at an index.
-/
module

public import proofs.«01_k».proof.Proof.Host
public import proofs.«01_k».proof.Proof.Shares
public import proofs.«01_k».proof.Proof.Sums
public import Idealize.ShloMosaic.Lib.Pipeline.ValueKit

@[expose] public section

set_option maxRecDepth 16384
set_option Elab.async false

noncomputable section

namespace Cert.KernelIdeal.Bwd

open Cert.KernelIdeal Cert.KernelIdeal.Gen
open Idealize.ShloMosaic
open Idealize.ShloMosaic.TcCoe
open Idealize.SL.Sem
open Idealize.ShloMosaic.Pipeline (Dat Cfg Window)
open Attn (hd ho lo hd_ho)

theorem slot_row : ∀ t : Fin cfgA.N, (Scalar.indexCast (Scalar.muli (wq t) 512#32)).toNat = 512 * (qn t.val).val := by decide +kernel
theorem below : ∀ t : Fin cfgA.N, k0_cond3 (wq t) (wk t) = 1#1 ↔ kn t.val < qn t.val := by decide +kernel
theorem onto : ∀ t : Fin cfgA.N, k0_cond4 (wq t) (wk t) = 1#1 ↔ kn t.val = qn t.val := by decide +kernel
theorem begins : ∀ t : Fin cfgA.N, starts (wq t) (wk t) ↔ kn t.val = qn t.val := by decide +kernel
theorem ends : ∀ t : Fin cfgA.N, k0_cond5 (wq t) = 1#1 ↔ qn t.val = 7 := by decide +kernel

theorem at_q : ∀ t : Fin cfgA.N, (cfgA.win (0 : Fin 9)).index t = (![(qn t.val).val, 0] : Fin 2 → ℕ) := by decide +kernel
theorem at_k : ∀ t : Fin cfgA.N, (cfgA.win (1 : Fin 9)).index t = (![(kn t.val).val, 0] : Fin 2 → ℕ) := by decide +kernel
theorem at_v : ∀ t : Fin cfgA.N, (cfgA.win (2 : Fin 9)).index t = (![(kn t.val).val, 0] : Fin 2 → ℕ) := by decide +kernel
theorem at_d : ∀ t : Fin cfgA.N, (cfgA.win (3 : Fin 9)).index t = (![(qn t.val).val, 0] : Fin 2 → ℕ) := by decide +kernel
theorem at_lse : ∀ t : Fin cfgA.N, (cfgA.win (4 : Fin 9)).index t = (![0, 0, (qn t.val).val] : Fin 3 → ℕ) := by decide +kernel
theorem at_dl : ∀ t : Fin cfgA.N, (cfgA.win (5 : Fin 9)).index t = (![0, 0, (qn t.val).val] : Fin 3 → ℕ) := by decide +kernel
theorem at_gk : ∀ t : Fin cfgA.N, (cfgA.win (7 : Fin 9)).index t = (![(kn t.val).val, 0] : Fin 2 → ℕ) := by decide +kernel
theorem at_gv : ∀ t : Fin cfgA.N, (cfgA.win (8 : Fin 9)).index t = (![(kn t.val).val, 0] : Fin 2 → ℕ) := by decide +kernel

variable (V : (c : Dev nD) → (b : Ref sig .tc) → Buf (Elt Ideal) ((c.tc : Thread nD τ).loc b)) (c : Dev nD) (t : Fin cfgA.N)

theorem read_q (b : Fin 512) (x : Fin 1024) : (ins V c t).q (ix2 b x) = V c main_v38 (ix2 (at512 (qn t.val) b) x) := by
  refine congrArg (V c main_v38) (funext fun a => Fin.ext ?_)
  refine (((cfgA.win (0 : Fin 9))).rect_emb_val t (ix2 b x) a).trans ?_
  rw [at_q]
  match a with
  | ⟨0, _⟩ => show (qn t.val).val * 512 + b.val = 512 * (qn t.val).val + b.val; omega
  | ⟨1, _⟩ => show 0 * 1024 + x.val = x.val; omega
theorem read_k (b : Fin 512) (x : Fin 1024) : (ins V c t).k (ix2 b x) = V c main_arg1 (ix2 (at512 (kn t.val) b) x) := by
  refine congrArg (V c main_arg1) (funext fun a => Fin.ext ?_)
  refine (((cfgA.win (1 : Fin 9))).rect_emb_val t (ix2 b x) a).trans ?_
  rw [at_k]
  match a with
  | ⟨0, _⟩ => show (kn t.val).val * 512 + b.val = 512 * (kn t.val).val + b.val; omega
  | ⟨1, _⟩ => show 0 * 1024 + x.val = x.val; omega
theorem read_v (b : Fin 512) (x : Fin 1024) : (ins V c t).v (ix2 b x) = V c main_arg2 (ix2 (at512 (kn t.val) b) x) := by
  refine congrArg (V c main_arg2) (funext fun a => Fin.ext ?_)
  refine (((cfgA.win (2 : Fin 9))).rect_emb_val t (ix2 b x) a).trans ?_
  rw [at_v]
  match a with
  | ⟨0, _⟩ => show (kn t.val).val * 512 + b.val = 512 * (kn t.val).val + b.val; omega
  | ⟨1, _⟩ => show 0 * 1024 + x.val = x.val; omega
theorem read_d (b : Fin 512) (x : Fin 1024) : (ins V c t).d (ix2 b x) = V c main_v39 (ix2 (at512 (qn t.val) b) x) := by
  refine congrArg (V c main_v39) (funext fun a => Fin.ext ?_)
  refine (((cfgA.win (3 : Fin 9))).rect_emb_val t (ix2 b x) a).trans ?_
  rw [at_d]
  match a with
  | ⟨0, _⟩ => show (qn t.val).val * 512 + b.val = 512 * (qn t.val).val + b.val; omega
  | ⟨1, _⟩ => show 0 * 1024 + x.val = x.val; omega
theorem read_lse (h : Fin 8) (b : Fin 512) : (ins V c t).lse (ix3 h 0 b) = V c main_v31 (ix3 h 0 (at512 (qn t.val) b)) := by
  refine congrArg (V c main_v31) (funext fun a => Fin.ext ?_)
  refine (((cfgA.win (4 : Fin 9))).rect_emb_val t (ix3 h 0 b) a).trans ?_
  rw [at_lse]
  match a with
  | ⟨0, _⟩ => show 0 * 8 + h.val = h.val; omega
  | ⟨1, _⟩ => rfl
  | ⟨2, _⟩ => show (qn t.val).val * 512 + b.val = 512 * (qn t.val).val + b.val; omega
theorem read_dl (h : Fin 8) (b : Fin 512) : (ins V c t).dl (ix3 h 0 b) = V c main_v32 (ix3 h 0 (at512 (qn t.val) b)) := by
  refine congrArg (V c main_v32) (funext fun a => Fin.ext ?_)
  refine (((cfgA.win (5 : Fin 9))).rect_emb_val t (ix3 h 0 b) a).trans ?_
  rw [at_dl]
  match a with
  | ⟨0, _⟩ => show 0 * 8 + h.val = h.val; omega
  | ⟨1, _⟩ => rfl
  | ⟨2, _⟩ => show (qn t.val).val * 512 + b.val = 512 * (qn t.val).val + b.val; omega

/-- On finite arguments the blocks are numbers. -/
theorem reads (m : (ℓ : Loc nD τ sig) → Buf (Elt Ideal) ℓ) {Q K V D : Fin 4096 → Fin 1024 → ℝ}
    (hq : ∀ i x, aq m c (ix2 i x) = ((Q i x : ℝ) : EReal)) (hk : ∀ i x, ak m c (ix2 i x) = ((K i x : ℝ) : EReal))
    (hv : ∀ i x, av m c (ix2 i x) = ((V i x : ℝ) : EReal)) (hd' : ∀ i x, ad m c (ix2 i x) = ((D i x : ℝ) : EReal)) :
    Reads Q K V D (ins (V0 m) c t) (qn t.val) (kn t.val) where
  q b x := by rw [read_q, V0_q, ready_real hq]
  k a x := by rw [read_k, V0_kept m c main_arg1 (by decide)]; exact hk _ _
  v a x := by rw [read_v, V0_kept m c main_arg2 (by decide)]; exact hv _ _
  d b x := by rw [read_d, V0_d]; exact hd' _ _
  lse h b := by rw [read_lse, V0_lse, lse_real hq hk]
  dl h b := by rw [read_dl, V0_mean, mean_real hq hk hv hd']

end Cert.KernelIdeal.Bwd

end
-- ==== Proof.Fold.lean ====
/-
  The three accumulators after each point, on finite arguments.
-/
module

public import proofs.«01_k».proof.Proof.Blocks

@[expose] public section

set_option maxRecDepth 16384
set_option Elab.async false

noncomputable section

namespace Cert.KernelIdeal.Bwd

open Cert.KernelIdeal Cert.KernelIdeal.Gen
open Idealize.ShloMosaic
open Idealize.ShloMosaic.TcCoe
open Idealize.SL.Sem
open Idealize.ShloMosaic.Pipeline (Dat Cfg Window)
open Attn

/-! ## One point -/

theorem zero_word : Ideal.ofBits .f32 0x00000000#32 = (0 : EReal) := by simp [Ideal.ofBits, Ideal.ieee]
theorem pay1_apply (i : Fin 4096) (y : Fin 1024) : k0_pay1 (F := Ideal) (ix2 i y) = 0 := by pointwise [k0_pay1]
theorem pay2_apply (a : Fin 512) (y : Fin 1024) : k0_pay2 (F := Ideal) (ix2 a y) = 0 := by pointwise [k0_pay2]
theorem pay3_apply (a : Fin 512) (y : Fin 1024) : k0_pay3 (F := Ideal) (ix2 a y) = 0 := by pointwise [k0_pay3]

/-- The grid has 36 points. -/
theorem lt_N {t : ℕ} (h : t < 36) : t < cfgA.N := lt_of_lt_of_eq h N_0.symm
theorem le_block : ∀ t : Fin cfgA.N, kn t.val ≤ qn t.val := by decide +kernel

/-- Whether the point's block lies on the diagonal. -/
def onDiag (t : Fin cfgA.N) : Bool := decide (kn t.val = qn t.val)

theorem onDiag_cases (t : Fin cfgA.N) : (onDiag t = false ∧ kn t.val < qn t.val) ∨ (onDiag t = true ∧ kn t.val = qn t.val) := by
  rcases (le_block t).lt_or_eq with h | h
  · exact Or.inl ⟨decide_eq_false h.ne, h⟩
  · exact Or.inr ⟨decide_eq_true h, h⟩

variable (V : (c : Dev nD) → (b : Ref sig .tc) → Buf (Elt Ideal) ((c.tc : Thread nD τ).loc b)) (c : Dev nD) (t : Fin cfgA.N)

/-- A point adds its shares once the zeroing is done. -/
theorem point_upds : ∃ hb, point (crd t) (ins V c t) (wq t) (wk t) (chk t) (acc V c t.val)
    = upds (onDiag t) (ins V c t) (wq t) hb (stage2 (wq t) (wk t) (stage1 (crd t) (acc V c t.val))) := by
  unfold point stage3 stage4
  rcases onDiag_cases t with ⟨h, h'⟩ | ⟨h, h'⟩
  · rw [dif_neg (fun g => h'.ne ((onto t).1 g)), dif_pos ((below t).2 h'), h]
    exact ⟨_, rfl⟩
  · rw [dif_pos ((onto t).2 h'), dif_neg (fun g => ((below t).1 g).ne h'), h]
    exact ⟨_, rfl⟩

theorem acc_dv (a : Fin 512) (y : Fin 1024) : (acc V c (t.val + 1)).dv (ix2 a y)
    = (if kn t.val = qn t.val then 0 else (acc V c t.val).dv (ix2 a y)) + shareV (onDiag t) (ins V c t) (ho y) a (lo y) := by
  obtain ⟨hb, e⟩ := point_upds V c t
  rw [acc_succ, e, upds_dv]
  refine congrArg (· + _) ?_
  unfold stage2
  by_cases h : kn t.val = qn t.val
  · rw [if_pos ((begins t).2 h), if_pos h]; exact pay3_apply a y
  · rw [if_neg (fun g => h ((begins t).1 g)), if_neg h]; unfold stage1; split <;> rfl

theorem acc_dk (a : Fin 512) (y : Fin 1024) : (acc V c (t.val + 1)).dk (ix2 a y)
    = (if kn t.val = qn t.val then 0 else (acc V c t.val).dk (ix2 a y)) + shareK (onDiag t) (ins V c t) (ho y) a (lo y) := by
  obtain ⟨hb, e⟩ := point_upds V c t
  rw [acc_succ, e, upds_dk]
  refine congrArg (· + _) ?_
  unfold stage2
  by_cases h : kn t.val = qn t.val
  · rw [if_pos ((begins t).2 h), if_pos h]; exact pay2_apply a y
  · rw [if_neg (fun g => h ((begins t).1 g)), if_neg h]; unfold stage1; split <;> rfl

theorem acc_dq (n : Fin 8) (b : Fin 512) (y : Fin 1024) : (acc V c (t.val + 1)).dq (ix2 (at512 n b) y)
    = (if t.val = 0 then 0 else (acc V c t.val).dq (ix2 (at512 n b) y))
      + if qn t.val = n then shareQ (onDiag t) (ins V c t) (ho y) b (lo y) else 0 := by
  have hbv := b.isLt
  have e0 : (stage2 (wq t) (wk t) (stage1 (crd t) (acc V c t.val))).dq (ix2 (at512 n b) y)
      = if t.val = 0 then 0 else (acc V c t.val).dq (ix2 (at512 n b) y) := by
    by_cases h : t.val = 0
    · rw [if_pos h]
      unfold stage2 stage1
      rw [if_pos (first_cond t h).2, if_pos (first_cond t h).1]
      exact pay1_apply (at512 n b) y
    · rw [if_neg h]
      unfold stage2 stage1
      rw [if_neg (later_cond t h)]
      split <;> rfl
  obtain ⟨hb, e⟩ := point_upds V c t
  rw [acc_succ, e, upds_dq _ _ _ _ _ (slot_row t), e0]
  have d : (at512 n b).val / 512 = n.val := by show (512 * n.val + b.val) / 512 = n.val; omega
  have r : (⟨(at512 n b).val % 512, Nat.mod_lt _ (by norm_num)⟩ : Fin 512) = b := Fin.ext (by show (512 * n.val + b.val) % 512 = b.val; omega)
  rw [d, r]
  by_cases h : qn t.val = n
  · rw [if_pos (congrArg Fin.val h).symm, if_pos h]
  · rw [if_neg (fun g => h (Fin.ext g.symm)), if_neg h, add_zero]

/-! ## All the points so far -/

attribute [local irreducible] acc

section

variable (m : (ℓ : Loc nD τ sig) → Buf (Elt Ideal) ℓ) {Q K V D : Fin 4096 → Fin 1024 → ℝ} {c : Dev nD}
  (hR : ∀ t : Fin cfgA.N, Reads Q K V D (ins (V0 m) c t) (qn t.val) (kn t.val))
include hR

theorem dv_real (a : Fin 512) (y : Fin 1024) (n : ℕ) (h : n < 36) : (acc (V0 m) c (n + 1)).dv (ix2 a y)
    = ((∑ q ∈ span (kn n) (qn n), ∑ b, P Q K (ho y) (at512 q b) (at512 (kn n) a) * D (at512 q b) y : ℝ) : EReal) :=
  fold_keys (fun n => (acc (V0 m) c n).dv (ix2 a y)) (fun k q => ∑ b, P Q K (ho y) (at512 q b) (at512 k a) * D (at512 q b) y)
    (fun t ht => (acc_dv (V0 m) c ⟨t, lt_N ht⟩ a y).trans (congrArg (_ + ·) (shareV_real (hR ⟨t, lt_N ht⟩) (onDiag_cases _) a y))) n h

theorem dk_real (a : Fin 512) (y : Fin 1024) (n : ℕ) (h : n < 36) : (acc (V0 m) c (n + 1)).dk (ix2 a y)
    = ((∑ q ∈ span (kn n) (qn n), ∑ b, dS Q K V D (ho y) (at512 q b) (at512 (kn n) a) * (Q (at512 q b) y * sc / Real.log 2) : ℝ) : EReal) :=
  fold_keys (fun n => (acc (V0 m) c n).dk (ix2 a y)) (fun k q => ∑ b, dS Q K V D (ho y) (at512 q b) (at512 k a) * (Q (at512 q b) y * sc / Real.log 2))
    (fun t ht => (acc_dk (V0 m) c ⟨t, lt_N ht⟩ a y).trans (congrArg (_ + ·) (shareK_real (hR ⟨t, lt_N ht⟩) (onDiag_cases _) a y))) n h

theorem dq_real (q : Fin 8) (b : Fin 512) (y : Fin 1024) : (acc (V0 m) c 36).dq (ix2 (at512 q b) y) = ((gQ Q K V D (at512 q b) y : ℝ) : EReal) := by
  refine (fold_queries (fun n => (acc (V0 m) c n).dq (ix2 (at512 q b) y)) q
    (fun k => ∑ a, dS Q K V D (ho y) (at512 q b) (at512 k a) * sc * K (at512 k a) y)
    (fun t ht => (acc_dq (V0 m) c ⟨t, lt_N ht⟩ q b y).trans (congrArg (fun z : EReal => (if t = 0 then 0 else (acc (V0 m) c t).dq (ix2 (at512 q b) y) : EReal) + z) ?_)) 35 (by norm_num)).trans ?_
  · by_cases h : qn t = q
    · rw [if_pos h, if_pos h]
      subst h
      exact shareQ_real (hR ⟨t, lt_N ht⟩) (onDiag_cases _) b y
    · rw [if_neg h, if_neg h]
  · rw [met_all, sumQ]

end

end Cert.KernelIdeal.Bwd

end
-- ==== Proof.Final.lean ====
/-
  The call's three results as numbers.
-/
module

public import proofs.«01_k».proof.Proof.Fold

@[expose] public section

set_option maxRecDepth 16384
set_option Elab.async false

noncomputable section

namespace Cert.KernelIdeal.Bwd

open Cert.KernelIdeal Cert.KernelIdeal.Gen
open Idealize.ShloMosaic
open Idealize.ShloMosaic.TcCoe
open Idealize.SL.Sem
open Idealize.ShloMosaic.Pipeline (Dat Cfg Window)
open Attn

theorem ln2_real : (Named.named κ "ln2" (φ := .f32) 0x3F317218#32 : Ideal .f32) = ((Real.log 2 : ℝ) : EReal) := rfl

theorem pay8_apply (x : Vec Ideal S512x1024 .f32) (a : Fin 512) (y : Fin 1024) :
    k0_pay8 (F := Ideal) x (ix2 a y) = x (ix2 a y) * ((Real.log 2 : ℝ) : EReal) := by
  pointwise [k0_pay8, ln2_real]
theorem pay9_apply (x : Vec Ideal S512x1024 .f32) (a : Fin 512) (y : Fin 1024) : k0_pay9 (F := Ideal) x (ix2 a y) = x (ix2 a y) := by
  pointwise [k0_pay9]

/-- Which block and which row of it. -/
theorem at512_div (i : Fin 4096) : at512 ⟨i.val / 512, by omega⟩ ⟨i.val % 512, by omega⟩ = i := Fin.ext (by show 512 * (i.val / 512) + i.val % 512 = i.val; omega)

theorem whole6 : ∀ t : Fin cfgA.N, (cfgA.win (6 : Fin 9)).index t = (![0, 0] : Fin 2 → ℕ) := by decide +kernel
theorem covers6 : (cfgA.win (6 : Fin 9)).Covers := by decide +kernel
theorem covers7 : (cfgA.win (7 : Fin 9)).Covers := by decide +kernel
theorem covers8 : (cfgA.win (8 : Fin 9)).Covers := by decide +kernel

attribute [local irreducible] acc

section

variable (m : (ℓ : Loc nD τ sig) → Buf (Elt Ideal) ℓ) {Q K V D : Fin 4096 → Fin 1024 → ℝ} {c : Dev nD}
  (hR : ∀ t : Fin cfgA.N, Reads Q K V D (ins (V0 m) c t) (qn t.val) (kn t.val))
include hR

theorem final_q (G : Vec Ideal S4096x1024 .f32) (hG : ∀ i x, G (ix2 i x) = ((gQ Q K V D i x : ℝ) : EReal)) :
    (dats (V0 m) 0 c).arrAt (6 : Fin 9) cfgA.N = G := by
  refine (dats (V0 m) 0 c).arrAt_eq_of_covers (6 : Fin 9) G covers6 fun t hf y => ?_
  obtain ⟨i, x, rfl⟩ : ∃ (i : Fin 4096) (x : Fin 1024), y = ix2 i x := ⟨y 0, y 1, eq_ix2 y⟩
  have ht : t.val = 35 := by
    rw [flush6] at hf
    exact of_decide_eq_true hf
  have e : ((cfgA.win (6 : Fin 9)).blk t).view.emb (ix2 i x) = ix2 i x := funext fun d => Fin.ext (by
    refine (((cfgA.win (6 : Fin 9))).rect_emb_val t (ix2 i x) d).trans ?_
    rw [whole6]
    match d with
    | ⟨0, _⟩ => show 0 * 4096 + i.val = i.val; omega
    | ⟨1, _⟩ => show 0 * 1024 + x.val = x.val; omega)
  refine Eq.trans ?_ (congrArg G e).symm
  rw [hG]
  show (acc (V0 m) c (t.val + 1)).dq (ix2 i x) = _
  rw [ht, ← at512_div i]
  exact dq_real m hR _ _ x

theorem final_k (G : Vec Ideal S4096x1024 .bf16) (hG : ∀ i x, G (ix2 i x) = ((gK Q K V D i x : ℝ) : EReal)) :
    (dats (V0 m) 0 c).arrAt (7 : Fin 9) cfgA.N = G := by
  refine (dats (V0 m) 0 c).arrAt_eq_of_covers (7 : Fin 9) G covers7 fun t hf y => ?_
  obtain ⟨a, x, rfl⟩ : ∃ (a : Fin 512) (x : Fin 1024), y = ix2 a x := ⟨y 0, y 1, eq_ix2 y⟩
  have ht : t.val < 36 := lt_of_lt_of_eq t.isLt N_0
  have h7 : qn t.val = 7 := by
    rw [flush7] at hf
    exact (ends t).1 (eq_of_beq hf)
  have e : ((cfgA.win (7 : Fin 9)).blk t).view.emb (ix2 a x) = ix2 (at512 (kn t.val) a) x := funext fun d => Fin.ext (by
    refine (((cfgA.win (7 : Fin 9))).rect_emb_val t (ix2 a x) d).trans ?_
    rw [at_gk]
    match d with
    | ⟨0, _⟩ => show (kn t.val).val * 512 + a.val = 512 * (kn t.val).val + a.val; omega
    | ⟨1, _⟩ => show 0 * 1024 + x.val = x.val; omega)
  refine Eq.trans ?_ (congrArg G e).symm
  rw [hG]
  refine (pay8_apply _ a x).trans ?_
  rw [dk_real m hR a x t.val ht, h7, span_all, ← EReal.coe_mul, sumK]

theorem final_v (G : Vec Ideal S4096x1024 .bf16) (hG : ∀ i x, G (ix2 i x) = ((gV Q K D i x : ℝ) : EReal)) :
    (dats (V0 m) 0 c).arrAt (8 : Fin 9) cfgA.N = G := by
  refine (dats (V0 m) 0 c).arrAt_eq_of_covers (8 : Fin 9) G covers8 fun t hf y => ?_
  obtain ⟨a, x, rfl⟩ : ∃ (a : Fin 512) (x : Fin 1024), y = ix2 a x := ⟨y 0, y 1, eq_ix2 y⟩
  have ht : t.val < 36 := lt_of_lt_of_eq t.isLt N_0
  have h7 : qn t.val = 7 := by
    rw [flush8] at hf
    exact (ends t).1 (eq_of_beq hf)
  have e : ((cfgA.win (8 : Fin 9)).blk t).view.emb (ix2 a x) = ix2 (at512 (kn t.val) a) x := funext fun d => Fin.ext (by
    refine (((cfgA.win (8 : Fin 9))).rect_emb_val t (ix2 a x) d).trans ?_
    rw [at_gv]
    match d with
    | ⟨0, _⟩ => show (kn t.val).val * 512 + a.val = 512 * (kn t.val).val + a.val; omega
    | ⟨1, _⟩ => show 0 * 1024 + x.val = x.val; omega)
  refine Eq.trans ?_ (congrArg G e).symm
  rw [hG]
  refine (pay9_apply _ a x).trans ?_
  rw [dv_real m hR a x t.val ht, h7, span_all, sumV]

end

section

variable (m : (ℓ : Loc nD τ sig) → Buf (Elt Ideal) ℓ) (ρ : Dev nD → PrngReg)

set_option maxHeartbeats 1000000 in
/-- The kernel's run, its three results named. -/
theorem run_results (G0 : (c : Dev nD) → Buf (Elt Ideal) ((c.tc : Thread nD τ).loc main_v40_0))
    (G1 : (c : Dev nD) → Buf (Elt Ideal) ((c.tc : Thread nD τ).loc main_v40_1)) (G2 : (c : Dev nD) → Buf (Elt Ideal) ((c.tc : Thread nD τ).loc main_v40_2))
    (h0 : ∀ c, (dats (V0 m) 0 c).arrAt (6 : Fin 9) cfgA.N = G0 c) (h1 : ∀ c, (dats (V0 m) 0 c).arrAt (7 : Fin 9) cfgA.N = G1 c)
    (h2 : ∀ c, (dats (V0 m) 0 c).arrAt (8 : Fin 9) cfgA.N = G2 c) :
    θ_run (defs (F := Ideal)) (onTc (τ := τ) (main (F := Ideal))) ⟨m, fun _ => 0, ρ⟩ (fun r => ∀ c : Dev nD,
      r.2.mem ((c.tc : Thread nD τ).loc main_v40_0) = G0 c
      ∧ r.2.mem ((c.tc : Thread nD τ).loc main_v40_1) = G1 c
      ∧ r.2.mem ((c.tc : Thread nD τ).loc main_v40_2) = G2 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h.1 c).1 (6 : Fin 9)).trans (h0 c), ((h.1 c).1 (7 : Fin 9)).trans (h1 c), ((h.1 c).1 (8 : Fin 9)).trans (h2 c),
     ((h.1 c).2 main_arg0 (Pipeline.mem_restRefs_of main_arg0 (by decide) (by decide))).trans (V0_kept m c main_arg0 (by decide)),
     ((h.1 c).1 (1 : Fin 9)).trans (((dats (V0 m) 0 c).arrAt_in (1 : Fin 9) rfl _).trans (V0_kept m c main_arg1 (by decide))),
     ((h.1 c).1 (2 : Fin 9)).trans (((dats (V0 m) 0 c).arrAt_in (2 : Fin 9) rfl _).trans (V0_kept m c main_arg2 (by decide))),
     ((h.1 c).2 main_arg3 (Pipeline.mem_restRefs_of main_arg3 (by decide) (by decide))).trans (V0_kept m c main_arg3 (by decide))⟩)
    (run_main m ρ)

end

end Cert.KernelIdeal.Bwd

end
-- ==== Proof.Pre.lean ====
/-
  The precondition read back: every argument is finite.
-/
module

public import proofs.«01_k».proof.Defs
public import proofs.«01_k».proof.Proof.Math
public import Idealize.ShloMosaic.Lib.ReduceAll

@[expose] public section

set_option maxRecDepth 16384

noncomputable section

namespace Cert.Pre_finite

open Idealize.ShloMosaic

theorem facts : Facts where
  bcast_S_S4096x1024 := by decide
  reducesTo_S4096x1024_S_d0_1 := by decide
  h_S_ := by decide
  bitsLt_bf16_f32 := by decide

/-- A number below infinity in size is real. -/
theorem real_of_word {a : EReal} (h : Ideal.cmp .olt (max a (-a)) (Ideal.ofBits .f32 0x7F800000#32) = 1#1) : a = ((a.toReal : ℝ) : EReal) := by
  rw [Attn.inf_eq] at h
  have lt : max a (-a) < ⊤ := by
    by_contra g
    simp [Ideal.cmp, g] at h
  refine (EReal.coe_toReal (fun e => ?_) (fun e => ?_)).symm
  · rw [e] at lt; simp at lt
  · rw [e] at lt; simp at lt

variable [Facts]

instance : Subsingleton S_.Idx := ⟨fun _ _ => funext fun k => k.elim0⟩

/-- Every element in every argument is real. -/
theorem real_of_fn (q : FVec Ideal S4096x1024 .f32) (k v : FVec Ideal S4096x1024 .bf16) (d : FVec Ideal S4096x1024 .f32)
    (h : fn (F := Ideal) q k v d = fun _ => 1#1) :
    (∀ i, q i = (((q i : EReal).toReal : ℝ) : EReal)) ∧ (∀ i, k i = (((k i : EReal).toReal : ℝ) : EReal))
      ∧ (∀ i, v i = (((v i : EReal).toReal : ℝ) : EReal)) ∧ ∀ i, d i = (((d i : EReal).toReal : ℝ) : EReal) := by
  have h0 := congrFun h (fun a => a.elim0)
  obtain ⟨h1, hd⟩ := IntOp.andi_eq_one.1 h0
  obtain ⟨h2, hv⟩ := IntOp.andi_eq_one.1 h1
  obtain ⟨hq, hk⟩ := IntOp.andi_eq_one.1 h2
  exact ⟨fun i => real_of_word (Host.reduce_andi_all _ _ _ _ _ hq i), fun i => real_of_word (Host.reduce_andi_all _ _ _ _ _ hk i),
    fun i => real_of_word (Host.reduce_andi_all _ _ _ _ _ hv i), fun i => real_of_word (Host.reduce_andi_all _ _ _ _ _ hd i)⟩

end Cert.Pre_finite

end
-- ==== Proof.Bits.Sched.lean ====
/-
  The schedule: the two tables the program writes (key block and query block of each of the 36 points), the pipeline at
  them, and what each point's words decide.
-/
module

public import Idealize.ShloMosaic.PureOps.BitExact
public import proofs.«01_k».proof.Proof.Bits.Run

@[expose] public section

set_option maxRecDepth 16384
set_option Elab.async false

noncomputable section

namespace Cert.Kernel.Bwd

open Cert.Kernel Cert.Kernel.Gen
open Idealize.ShloMosaic
open Idealize.ShloMosaic.TcCoe Idealize.ShloMosaic.Tactic
open Idealize.ShloMosaic.Pipeline (Dat Cfg Window)

/-- The tables' contents: the query block and the key block of each point. -/
def T0 : S36.Idx → BitVec 32 := fun i => lit0 (S36.rowMajor i)
def T1 : S36.Idx → BitVec 32 := fun i => lit1 (S36.rowMajor i)

abbrev tb0 : Memref sig .tc .smem S36 .i32 := Memref.whole main_c
abbrev tb1 : Memref sig .tc .smem S36 .i32 := Memref.whole main_c_0
abbrev sc0 : Memref sig .tc .vmem S512x1024 .f32 := Memref.whole cc0_scratch0
abbrev sc1 : Memref sig .tc .vmem S512x1024 .f32 := Memref.whole cc0_scratch1

set_option backward.proofsInPublic true in
def pf : pre0.Contents (Elt Bits) := fun | ⟨0, _⟩ => T0 | ⟨1, _⟩ => T1 | ⟨_ + 2, h⟩ => absurd h (by simp)

theorem ok0_0 : ∀ i : grid0.Coords, ∃ h : (∀ a, (cc0_transform_0 k0_off1_inb numel1_S1 pf i a + 1) * S512x1024.size a ≤ S4096x1024.size a), EltTy.bits .bf16 = 32 ∨ (Rect.block (s := S4096x1024) S512x1024.size (cc0_transform_0 k0_off1_inb numel1_S1 pf i) h).WholeWords (EltTy.packing .bf16) := by decide +kernel
theorem ok0_1 : ∀ i : grid0.Coords, ∃ h : (∀ a, (cc0_transform_1 k0_off1_inb numel1_S1 pf i a + 1) * S512x1024.size a ≤ S4096x1024.size a), EltTy.bits .bf16 = 32 ∨ (Rect.block (s := S4096x1024) S512x1024.size (cc0_transform_1 k0_off1_inb numel1_S1 pf i) h).WholeWords (EltTy.packing .bf16) := by decide +kernel
theorem ok0_2 : ∀ i : grid0.Coords, ∃ h : (∀ a, (cc0_transform_2 k0_off1_inb numel1_S1 pf i a + 1) * S512x1024.size a ≤ S4096x1024.size a), EltTy.bits .bf16 = 32 ∨ (Rect.block (s := S4096x1024) S512x1024.size (cc0_transform_2 k0_off1_inb numel1_S1 pf i) h).WholeWords (EltTy.packing .bf16) := by decide +kernel
theorem ok0_3 : ∀ i : grid0.Coords, ∃ h : (∀ a, (cc0_transform_3 k0_off1_inb numel1_S1 pf i a + 1) * S512x1024.size a ≤ S4096x1024.size a), EltTy.bits .bf16 = 32 ∨ (Rect.block (s := S4096x1024) S512x1024.size (cc0_transform_3 k0_off1_inb numel1_S1 pf i) h).WholeWords (EltTy.packing .bf16) := by decide +kernel
theorem ok0_4 : ∀ i : grid0.Coords, ∃ h : (∀ a, (cc0_transform_4 k0_off1_inb numel1_S1 pf i a + 1) * S8x1x512.size a ≤ S8x1x4096.size a), EltTy.bits .f32 = 32 ∨ (Rect.block (s := S8x1x4096) S8x1x512.size (cc0_transform_4 k0_off1_inb numel1_S1 pf i) h).WholeWords (EltTy.packing .f32) := by decide +kernel
theorem ok0_5 : ∀ i : grid0.Coords, ∃ h : (∀ a, (cc0_transform_5 k0_off1_inb numel1_S1 pf i a + 1) * S8x1x512.size a ≤ S8x1x4096.size a), EltTy.bits .f32 = 32 ∨ (Rect.block (s := S8x1x4096) S8x1x512.size (cc0_transform_5 k0_off1_inb numel1_S1 pf i) h).WholeWords (EltTy.packing .f32) := by decide +kernel
theorem ok0_7 : ∀ i : grid0.Coords, ∃ h : (∀ a, (cc0_transform_7 k0_off1_inb numel1_S1 pf i a + 1) * S512x1024.size a ≤ S4096x1024.size a), EltTy.bits .bf16 = 32 ∨ (Rect.block (s := S4096x1024) S512x1024.size (cc0_transform_7 k0_off1_inb numel1_S1 pf i) h).WholeWords (EltTy.packing .bf16) := by decide +kernel
theorem ok0_8 : ∀ i : grid0.Coords, ∃ h : (∀ a, (cc0_transform_8 k0_off1_inb numel1_S1 pf i a + 1) * S512x1024.size a ≤ S4096x1024.size a), EltTy.bits .bf16 = 32 ∨ (Rect.block (s := S4096x1024) S512x1024.size (cc0_transform_8 k0_off1_inb numel1_S1 pf i) h).WholeWords (EltTy.packing .bf16) := by decide +kernel

theorem ok_pf : ok0 (F := Bits) pf := ⟨ok0_0, ok0_1, ok0_2, ok0_3, ok0_4, ok0_5, ok0_7, ok0_8⟩

/-- The contents as the pipeline admits them, and the pipeline there. -/
def adm : (pcfg0 (F := Bits)).Adm := ⟨pf, ok_pf⟩
abbrev cfgA : Pipeline.Cfg sig Λ₀ := cfg0 (F := Bits) adm
abbrev pcs : Fin 1 → Pipeline.Cfg sig Λ₀ := Pipeline.pin (pcfgs (F := Bits)) fun _ => adm

abbrev crd (t : Fin cfgA.N) : cfgA.grid.Coords := cfgA.grid.coords t

/-- The two words a point reads. -/
abbrev wq (t : Fin cfgA.N) : BitVec 32 :=
  View.readAt (Elt Bits) tb0.view (Rect.unit (s := S36) (k0_off1 (crd t)) S1.size (k0_off1_inb (crd t))).toLoadRect T0 (Shape.Idx.first (numel1_S1.symm ▸ Nat.one_pos))
abbrev wk (t : Fin cfgA.N) : BitVec 32 :=
  View.readAt (Elt Bits) tb1.view (Rect.unit (s := S36) (k0_off1 (crd t)) S1.size (k0_off1_inb (crd t))).toLoadRect T1 (Shape.Idx.first (numel1_S1.symm ▸ Nat.one_pos))

/-- The body's side condition holds at every point, -/
theorem chk : ∀ t : Fin cfgA.N, k0_chk1 (wq t) (wk t) := by decide +kernel
/-- the first point zeroes every accumulator, -/
theorem first_cond : ∀ t : Fin cfgA.N, t.val = 0 → k0_cond1 (crd t) = 1#1 ∧ starts (wq t) (wk t) := by decide +kernel
theorem later_cond : ∀ t : Fin cfgA.N, t.val ≠ 0 → ¬ k0_cond1 (crd t) = 1#1 := by decide +kernel
/-- the queries' gradient is stored at every point and written back after the last, -/
theorem idle6 : ∀ t : Fin cfgA.N, cfgA.idle (6 : Fin 9) (cfgA.grid.coords t) = false := by decide +kernel
theorem flush6 : ∀ t : Fin cfgA.N, (cfgA.win (6 : Fin 9)).flush t = decide (t.val = 35) := by decide +kernel
/-- the keys' and the values' at a key block's last point, where they are written back. -/
theorem idle7 : ∀ t : Fin cfgA.N, cfgA.idle (7 : Fin 9) (cfgA.grid.coords t) = !(k0_cond5 (wq t) == 1#1) := by decide +kernel
theorem idle8 : ∀ t : Fin cfgA.N, cfgA.idle (8 : Fin 9) (cfgA.grid.coords t) = !(k0_cond5 (wq t) == 1#1) := by decide +kernel
theorem flush7 : ∀ t : Fin cfgA.N, (cfgA.win (7 : Fin 9)).flush t = (k0_cond5 (wq t) == 1#1) := by decide +kernel
theorem flush8 : ∀ t : Fin cfgA.N, (cfgA.win (8 : Fin 9)).flush t = (k0_cond5 (wq t) == 1#1) := by decide +kernel

end Cert.Kernel.Bwd

end
-- ==== Proof.Bits.Point.lean ====
/-
  One grid point's run: the two words read from the tables, then the rest of the body; and the accumulators point by point.
-/
module

public import proofs.«01_k».proof.Proof.Bits.Sched

@[expose] public section

set_option maxRecDepth 16384
set_option Elab.async false

noncomputable section

namespace Cert.Kernel.Bwd

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

local notation "𝕄" => MT nD τ sig Unit (Elt Bits) ℕ (UR sig nD τ) ℕ

/-- The tables as the body holds them. -/
def tables (c : Dev nD) : sProp 𝕄 :=
  iprop((tb0.view.loc (c : Thread nD τ) ↦{fullShare.right} T0) ∗ (tb1.view.loc (c : Thread nD τ) ↦{fullShare.right} T1))

section Runs

variable (arg4 : Memref sig .tc .vmem S512x1024 .bf16) (arg5 : Memref sig .tc .vmem S512x1024 .bf16)
  (arg6 : Memref sig .tc .vmem S512x1024 .bf16) (arg7 : Memref sig .tc .vmem S512x1024 .bf16)
  (arg8 : Memref sig .tc .vmem S8x1x512 .f32) (arg9 : Memref sig .tc .vmem S8x1x512 .f32)
  (arg10 : Memref sig .tc .vmem S4096x1024 .f32)
  (arg11 : Memref sig .tc .vmem S512x1024 .bf16) (harg11 : arg11.IsWhole)
  (arg12 : Memref sig .tc .vmem S512x1024 .bf16) (harg12 : arg12.IsWhole)

set_option maxHeartbeats 1000000 in
theorem body_run (c : Dev nD) (I : Ins Bits) (A : Acc Bits) (t : Fin cfgA.N) (x y : Vec Bits S512x1024 .bf16) (K : PUnit → sProp 𝕄) :
    iprop(tables c ∗ world arg4 arg5 arg6 arg7 arg8 arg9 arg10 sc0 sc1 c I A ∗ held c arg11 x ∗ held c arg12 y
      ∗ (iprop(tables c ∗ world arg4 arg5 arg6 arg7 arg8 arg9 arg10 sc0 sc1 c I (point (crd t) I (wq t) (wk t) (chk t) A)
        ∗ held c arg11 (if k0_cond5 (wq t) = 1#1 then k0_pay8 (point (crd t) I (wq t) (wk t) (chk t) A).dk else x)
        ∗ held c arg12 (if k0_cond5 (wq t) = 1#1 then k0_pay9 (point (crd t) I (wq t) (wk t) (chk t) A).dv else y)) -∗ K ⟨⟩))
    ⊢ wp frame (wpE (defs₀ (F := Bits)) Variants.none c none) Set.univ
        (body tb0 tb1 arg4 arg5 arg6 arg7 arg8 arg9 arg10 arg11 harg11 arg12 harg12 sc0 sc1 (crd t)) K := by
  have hw := chk t
  unfold tables body
  iintro ⟨⟨HT0, HT1⟩, HW, H11, H12, Hk⟩
  sl_exec!
  iapply (rest_run arg4 arg5 arg6 arg7 arg8 arg9 arg10 arg11 harg11 arg12 harg12 sc0 sc1 c I A (crd t) (wq t) (wk t) hw x y K)
  isplitl [HW]; · iexact HW
  isplitl [H11]; · iexact H11
  isplitl [H12]; · iexact H12
  iintro ⟨HW, H11, H12⟩
  iapply Hk
  isplitl [HT0 HT1]
  · isplitl [HT0]; · iexact HT0
    iexact HT1
  isplitl [HW]; · iexact HW
  isplitl [H11]; · iexact H11
  iexact H12

end Runs

/-- At the first point nothing of what the accumulators held survives. -/
theorem point_first (i : grid0.Coords) (I : Ins Bits) (v1 v3 : BitVec 32) (hw : k0_chk1 v1 v3) (A B : Acc Bits)
    (h1 : k0_cond1 i = 1#1) (h2 : starts v1 v3) : point i I v1 v3 hw A = point i I v1 v3 hw B := by
  unfold point stage1 stage2
  simp only [h1, ↓reduceIte]
  rw [if_pos h2, if_pos h2]

end Cert.Kernel.Bwd

end
-- ==== Proof.Bits.Data.lean ====
/-
  The accumulators point by point, and the pipeline's proof data.
-/
module

public import proofs.«01_k».proof.Proof.Bits.Point

@[expose] public section

set_option maxRecDepth 16384
set_option Elab.async false

noncomputable section

namespace Cert.Kernel.Bwd

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

local notation "𝕄" => MT nD τ sig Unit (Elt Bits) ℕ (UR sig nD τ) ℕ

variable (V : (c : Dev nD) → (b : Ref sig .tc) → Buf (Elt Bits) ((c.tc : Thread nD τ).loc b))

/-- A window's block at a point, read off its array at the region's entry. -/
def iblk (c : Dev nD) (w : Fin cfgA.W) (t : Fin cfgA.N) : ((cfgA.win w).xblock (crd t)).Idx → Elt Bits (cfgA.win w).elt :=
  ((cfgA.win w).blk t).view.read (Elt Bits) (V c (Pipeline.arrRef cfgA.spec w))

/-- The six blocks a point reads. -/
def ins (c : Dev nD) (t : Fin cfgA.N) : Ins Bits :=
  ⟨iblk V c (0 : Fin 9) t, iblk V c (1 : Fin 9) t, iblk V c (2 : Fin 9) t, iblk V c (3 : Fin 9) t, iblk V c (4 : Fin 9) t, iblk V c (5 : Fin 9) t⟩

/-- The accumulators before point `n`. -/
def acc (c : Dev nD) : ℕ → Acc Bits
  | 0 => ⟨k0_pay1 (F := Bits), k0_pay2 (F := Bits), k0_pay3 (F := Bits)⟩
  | n + 1 => if h : n < cfgA.N then point (crd ⟨n, h⟩) (ins V c ⟨n, h⟩) (wq ⟨n, h⟩) (wk ⟨n, h⟩) (chk ⟨n, h⟩) (acc c n) else acc c n

theorem acc_succ (c : Dev nD) (t : Fin cfgA.N) :
    acc V c (t.val + 1) = point (crd t) (ins V c t) (wq t) (wk t) (chk t) (acc V c t.val) := by
  rw [acc, dif_pos t.isLt]

/-- The invariant before point `t`: the scratches hold the accumulators (anything before the first point), the tables are there. -/
def Phi (c : Dev nD) (n : ℕ) : sProp 𝕄 :=
  iprop((∃ x y, ⌜n ≠ 0 → x = (acc V c n).dk ∧ y = (acc V c n).dv⌝ ∗ held c sc0 x ∗ held c sc1 y) ∗ tables c ∗ ∃ r, prngReg c r)

/-- The proof data of the pipeline on core `c`. -/
def dats (_ : Fin 1) (c : Dev nD) : Dat τ (Elt Bits) Unit ℕ (UR sig nD τ) ℕ cfgA c where
  A w := V c (Pipeline.arrRef cfgA.spec w)
  after w t := match w with
    | ⟨0, _⟩ => iblk V c (0 : Fin 9) t
    | ⟨1, _⟩ => iblk V c (1 : Fin 9) t
    | ⟨2, _⟩ => iblk V c (2 : Fin 9) t
    | ⟨3, _⟩ => iblk V c (3 : Fin 9) t
    | ⟨4, _⟩ => iblk V c (4 : Fin 9) t
    | ⟨5, _⟩ => iblk V c (5 : Fin 9) t
    | ⟨6, _⟩ => (acc V c (t.val + 1)).dq
    | ⟨7, _⟩ => k0_pay8 (acc V c (t.val + 1)).dk
    | ⟨8, _⟩ => k0_pay9 (acc V c (t.val + 1)).dv
  Φ t := Phi V c t.val
  q _ := fullShare
  owed _ := 0

theorem after0 (c : Dev nD) (t : Fin cfgA.N) : (dats V 0 c).after (0 : Fin 9) t = iblk V c (0 : Fin 9) t := rfl
theorem after1 (c : Dev nD) (t : Fin cfgA.N) : (dats V 0 c).after (1 : Fin 9) t = iblk V c (1 : Fin 9) t := rfl
theorem after2 (c : Dev nD) (t : Fin cfgA.N) : (dats V 0 c).after (2 : Fin 9) t = iblk V c (2 : Fin 9) t := rfl
theorem after3 (c : Dev nD) (t : Fin cfgA.N) : (dats V 0 c).after (3 : Fin 9) t = iblk V c (3 : Fin 9) t := rfl
theorem after4 (c : Dev nD) (t : Fin cfgA.N) : (dats V 0 c).after (4 : Fin 9) t = iblk V c (4 : Fin 9) t := rfl
theorem after5 (c : Dev nD) (t : Fin cfgA.N) : (dats V 0 c).after (5 : Fin 9) t = iblk V c (5 : Fin 9) t := rfl
theorem after6 (c : Dev nD) (t : Fin cfgA.N) : (dats V 0 c).after (6 : Fin 9) t = (acc V c (t.val + 1)).dq := rfl
theorem after7 (c : Dev nD) (t : Fin cfgA.N) : (dats V 0 c).after (7 : Fin 9) t = k0_pay8 (acc V c (t.val + 1)).dk := rfl
theorem after8 (c : Dev nD) (t : Fin cfgA.N) : (dats V 0 c).after (8 : Fin 9) t = k0_pay9 (acc V c (t.val + 1)).dv := rfl

end Cert.Kernel.Bwd

end
-- ==== Proof.Bits.Frame.lean ====
/-
  The launch: the host lines before the call, the call's tables and arrays there, and the run of the whole program.
-/
module

public import proofs.«01_k».proof.Proof.Bits.Obl
public import Idealize.ShloMosaic.Lib.StableHlo.RunRead

@[expose] public section

set_option maxRecDepth 16384
set_option Elab.async false

noncomputable section

namespace Cert.Kernel.Bwd

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

local notation "𝕄" => MT nD τ sig Unit (Elt Bits) ℕ (UR sig nD τ) ℕ

/-- What the host lines before the call write, in order. -/
abbrev written : List (Ref sig .tc) := [main_c, main_c_0, main_v0, main_v1, main_v2, main_v3, main_v4, main_v5, main_v6, main_cst, main_v7, main_v8, main_v9, main_v10, main_v11, main_cst_1, main_v12, main_v13, main_cst_2, main_v14, main_v15, main_v16, main_v17, main_v18, main_cst_3, main_v19, main_v20, main_v21, main_v22, main_v23, main_v24, main_v25, main_v26, main_cst_4, main_v27, main_v28, main_v29, main_v30, main_v31, main_v32, main_cst_5, main_v33, main_v34, main_cst_6, main_v35, main_v36, main_v37, main_v38, main_v39]

theorem host_writes : (hostOps0 : List (HloOp τ sig (Elt Bits))).map HloOp.writes = written.map fun w => {Proc.devRef (τ := τ) .tc w} := rfl

theorem host_fresh : (hostOps0 : List (HloOp τ sig (Elt Bits))).Forall fun op => op.fresh = ∅ := by
  repeat' first | exact rfl | (refine And.intro rfl ?_)

variable (m : (ℓ : Loc nD τ sig) → Buf (Elt Bits) ℓ) (ρ : Dev nD → PrngReg)

/-- The contents at the call. -/
def V0 (c : Dev nD) (b : Ref sig .tc) : Buf (Elt Bits) ((c.tc : Thread nD τ).loc b) :=
  StableHlo.after hostOps0 (fun b => m (c, b)) b

theorem V0_kept (c : Dev nD) (b : Ref sig .tc) (hb : b ∉ written) : V0 m c b = m ((c.tc : Thread nD τ).loc b) :=
  StableHlo.after_unwritten written host_writes hb _

theorem V0_tab (c : Dev nD) (k : Fin 2) : V0 m c (pre0.ref k) = adm.1 k := by
  fin_cases k
  · exact (StableHlo.after_last_write (i := 0) (written.drop 1) rfl rfl (by decide) _).trans (StableHlo.nullary_result ..)
  · exact (StableHlo.after_last_write (i := 1) (written.drop 2) rfl rfl (by decide) _).trans (StableHlo.nullary_result ..)

theorem share_eq (V : (c : Dev nD) → (b : Ref sig .tc) → Buf (Elt Bits) ((c.tc : Thread nD τ).loc b)) (c : Dev nD) (w : Fin cfgA.W) :
    (dats V 0 c).share w = fullShare := by unfold Dat.share; split <;> rfl

theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

theorem phi_in (V : (c : Dev nD) → (b : Ref sig .tc) → Buf (Elt Bits) ((c.tc : Thread nD τ).loc b)) (c : Dev nD) :
    iprop(Pipeline.ΦA cfgA.spec c ∗ Pipeline.ΦT pre0 adm.1 c) ⊢ (dats V 0 c).Φ 0 := by
  rw [show (dats V 0 c).Φ 0 = Phi V c 0 from rfl]
  unfold Pipeline.ΦA Pipeline.ΦT Phi tables
  rw [prefHeld_eq, scopedRest0_eq]
  iintro ⟨⟨⟨⟨%f0, HS0⟩, ⟨%f1, HS1⟩⟩, HR⟩, HT0, HT1⟩
  isplitl [HS0 HS1]
  · iexists (sc0.view.read (Elt Bits) f0); iexists (sc1.view.read (Elt Bits) f1)
    isplitr
    · ipureintro; exact fun h => absurd rfl h
    isplitl [HS0]
    · iapply (rep_of_owns (c : Thread nD τ) sc0)
      unfold owns; iexists f0; isplitr
      · ipureintro; rfl
      · rw [View.set_whole]; iexact HS0
    · iapply (rep_of_owns (c : Thread nD τ) sc1)
      unfold owns; iexists f1; isplitr
      · ipureintro; rfl
      · rw [View.set_whole]; iexact HS1
  isplitl [HT0 HT1]
  · isplitl [HT0]; · iexact HT0
    iexact HT1
  iexact HR

theorem drop0 (c : Dev nD) (x : Vec Bits S512x1024 .f32) :
    (held c sc0 x : sProp 𝕄) ⊢ iprop(∃ f : Buf (Elt Bits) ((c : Thread nD τ).loc cc0_scratch0), ((c : Thread nD τ).loc cc0_scratch0) ↦{fullShare} f) := by
  unfold held
  generalize sc0.view.rep x = f
  rw [View.set_whole]
  iintro H; iexists f; iexact H
theorem drop1 (c : Dev nD) (x : Vec Bits S512x1024 .f32) :
    (held c sc1 x : sProp 𝕄) ⊢ iprop(∃ f : Buf (Elt Bits) ((c : Thread nD τ).loc cc0_scratch1), ((c : Thread nD τ).loc cc0_scratch1) ↦{fullShare} f) := by
  unfold held
  generalize sc1.view.rep x = f
  rw [View.set_whole]
  iintro H; iexists f; iexact H

theorem phi_out (V : (c : Dev nD) → (b : Ref sig .tc) → Buf (Elt Bits) ((c.tc : Thread nD τ).loc b)) (c : Dev nD) :
    (dats V 0 c).Φ (Fin.last cfgA.N) ⊢ Pipeline.ΦA cfgA.spec c := by
  rw [show (dats V 0 c).Φ (Fin.last cfgA.N) = Phi V c cfgA.N from rfl]
  unfold Pipeline.ΦA Phi
  rw [scopedRest0_eq]
  iintro ⟨⟨%x, %y, -, HS0, HS1⟩, -, HR⟩
  isplitl [HS0 HS1]
  · isplitl [HS0]
    · iapply (drop0 c x); iexact HS0
    · iapply (drop1 c y); iexact HS1
  iexact HR

set_option backward.isDefEq.respectTransparency.types false in
set_option maxHeartbeats 2000000 in
/-- The whole program's run: every array of the call at what the pipeline computes, every other buffer as the host lines left it. -/
theorem run_main : θ_run (defs (F := Bits)) (onTc (τ := τ) (main (F := Bits))) ⟨m, fun _ => 0, ρ⟩
    (fun r => Pipeline.FramePost pcs (dats (V0 m)) 0 (V0 m) r ∧ r.2.sem = fun _ => 0) :=
  Pipeline.θ_run_frameP_track pcfgs (fun _ => adm) (dats (V0 m)) (0 : Fin 1) launch0 defs₀ Variants.none m ρ main
    (fun c => (body_obligation (V0 m) c).loose) (share_eq (V0 m)) (fun _ _ => rfl) (V0 m)
    (Pipeline.hmainP_prefix pcfgs 0 defs₀ Variants.none m main hostOps0 hostOps0_sub host_fresh main_chain)
    (fun _ _ => rfl) (V0_tab m) (phi_in (V0 m)) (phi_out (V0 m)) _ (fun _ h => h)

/-- The program runs, its arguments end unchanged, every counter reads zero again. -/
theorem frame : θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Pipeline.mem_restRefs_of main_arg0 (by decide) (by decide))).trans (V0_kept m c main_arg0 (by decide)),
     ((h.1 c).1 (1 : Fin 9)).trans (((dats (V0 m) 0 c).arrAt_in (1 : Fin 9) rfl _).trans (V0_kept m c main_arg1 (by decide))),
     ((h.1 c).1 (2 : Fin 9)).trans (((dats (V0 m) 0 c).arrAt_in (2 : Fin 9) rfl _).trans (V0_kept m c main_arg2 (by decide))),
     ((h.1 c).2 main_arg3 (Pipeline.mem_restRefs_of main_arg3 (by decide) (by decide))).trans (V0_kept m c main_arg3 (by decide))⟩, h.2⟩)
    (run_main m ρ)

end Cert.Kernel.Bwd

end
-- ==== Proof.Products.Sums.lean ====
/-
  Sums over a product's contracted axis, cut in two.
-/
module

public import Idealize.ShloMosaic.Lib.Pipeline.ValueKit

@[expose] public section

set_option maxRecDepth 16384
set_option Elab.async false

noncomputable section

namespace Cert.Products

open Idealize.ShloMosaic

/-- An element as an extended real. -/
abbrev num (x : EReal) : EReal := x

/-- The sum over an axis is the sum over its first half and its second half. -/
theorem sum_two {n N : ℕ} (h : N = 2 * n) (f : Fin N → EReal) :
    ∑ k : Fin N, f k = ∑ k : Fin n, f ⟨k.val, by have := k.isLt; omega⟩ + ∑ k : Fin n, f ⟨n + k.val, by have := k.isLt; omega⟩ := by
  have h' : n + n = N := by omega
  rw [← Equiv.sum_comp (finCongr h') f, Fin.sum_univ_add]
  rfl

end Cert.Products

end
-- ==== Proof.Products.Up.lean ====
/-
  The up projection: one point per block of the result.
-/
module

public import proofs.«01_k».proof.Defs
public import proofs.«01_k».proof.Proof.Gen.Up.Frame
public import proofs.«01_k».proof.Proof.Gen.UpIdeal.Value
public import proofs.«01_k».proof.Proof.Gen.UpRefIdeal.Read
public import proofs.«01_k».proof.Proof.Products.Sums

@[expose] public section

set_option maxRecDepth 16384
set_option Elab.async false

noncomputable section

namespace Cert.UpIdeal.Own

open Cert.UpIdeal Cert.UpIdeal.Gen
open Idealize.ShloMosaic
open Idealize.ShloMosaic.TcCoe
open Idealize.SL.Sem
open Idealize.ShloMosaic.Pipeline (Dat Cfg Window)

theorem pay_apply (x : Vec Ideal S2048x1024 .bf16) (y : Vec Ideal S1024x1408 .bf16) (a : Fin 2048) (b : Fin 1408) :
    k0_pay1 (F := Ideal) x y (ix2 a b) = ∑ k : Fin 1024, (x (ix2 a k) : EReal) * y (ix2 k b) := by pointwise [k0_pay1]

theorem out_apply (x : Vec Ideal S2048x1024 .bf16) (y : Vec Ideal S1024x1408 .bf16) : out0_2 x y = k0_pay1 x y := by
  have hz : (![0, 0] : Fin 2 → ℕ) = fun _ => 0 := by decide
  unfold out0_2
  refine (View.canon_unit_zero hz _ _).trans ?_
  exact congrArg₂ k0_pay1 (View.ld_unit_zero hz _ x) (View.ld_unit_zero hz _ y)

theorem at_x : ∀ t : Fin cfg0.N, (cfg0.win (0 : Fin 3)).index t = (![t.val % 2, 0] : Fin 2 → ℕ) := by decide +kernel
theorem at_w : ∀ t : Fin cfg0.N, (cfg0.win (1 : Fin 3)).index t = (![0, t.val / 2] : Fin 2 → ℕ) := by decide +kernel
theorem at_o : ∀ t : Fin cfg0.N, (cfg0.win (2 : Fin 3)).index t = (![t.val % 2, t.val / 2] : Fin 2 → ℕ) := by decide +kernel
theorem flush_o : ∀ t : Fin cfg0.N, (cfg0.win (2 : Fin 3)).flush t = true := by decide +kernel

variable (m : (ℓ : Loc nD τ sig) → Buf (Elt Ideal) ℓ) (c : Dev nD)

theorem read_x (t : Fin cfg0.N) (k : Fin 2048) (a : Fin 1024) (K : Fin 4096) (A : Fin 1024) (hK : K.val = t.val % 2 * 2048 + k.val) (hA : A.val = 0 * 1024 + a.val) :
    iblk m c 0 t (ix2 k a) = m ((c.tc : Thread nD τ).loc main_arg0) (ix2 K A) := by
  refine Eq.trans (congrArg (V m c main_arg0) (funext fun z => Fin.ext ?_)) (congrFun (V_main_arg0 m c) _)
  refine ((cfg0.win (0 : Fin 3)).rect_emb_val t (ix2 k a) z).trans ?_
  rw [at_x]
  match z with
  | ⟨0, _⟩ => show t.val % 2 * 2048 + k.val = K.val; omega
  | ⟨1, _⟩ => show 0 * 1024 + a.val = A.val; omega

theorem read_w (t : Fin cfg0.N) (k : Fin 1024) (a : Fin 1408) (K : Fin 1024) (A : Fin 5632) (hK : K.val = 0 * 1024 + k.val) (hA : A.val = t.val / 2 * 1408 + a.val) :
    iblk m c 1 t (ix2 k a) = m ((c.tc : Thread nD τ).loc main_arg1) (ix2 K A) := by
  refine Eq.trans (congrArg (V m c main_arg1) (funext fun z => Fin.ext ?_)) (congrFun (V_main_arg1 m c) _)
  refine ((cfg0.win (1 : Fin 3)).rect_emb_val t (ix2 k a) z).trans ?_
  rw [at_w]
  match z with
  | ⟨0, _⟩ => show 0 * 1024 + k.val = K.val; omega
  | ⟨1, _⟩ => show t.val / 2 * 1408 + a.val = A.val; omega

/-- The result at an index: its block's point multiplies the row by the column. -/
theorem value (p : Fin 4096) (q : Fin 5632) :
    ((dats m 0 c).arrAt 2 cfg0.N (ix2 p q) : EReal) = ∑ l : Fin 1024, Cert.Products.num (m ((c.tc : Thread nD τ).loc main_arg0) (ix2 p l)) * Cert.Products.num (m ((c.tc : Thread nD τ).loc main_arg1) (ix2 l q)) := by
  have hp := p.isLt
  have hq := q.isLt
  have hN : cfg0.N = 8 := N_0
  obtain ⟨t, ht⟩ : ∃ t : Fin cfg0.N, t.val = q.val / 1408 * 2 + p.val / 2048 := ⟨⟨q.val / 1408 * 2 + p.val / 2048, by rw [hN]; omega⟩, rfl⟩
  have he : ((cfg0.win 2).blk t).view.emb (ix2 (⟨p.val % 2048, Nat.mod_lt _ (by decide)⟩ : Fin 2048) (⟨q.val % 1408, Nat.mod_lt _ (by decide)⟩ : Fin 1408)) = ix2 p q := by
    refine funext fun z => Fin.ext ?_
    refine ((cfg0.win (2 : Fin 3)).rect_emb_val t _ z).trans ?_
    rw [at_o]
    match z with
    | ⟨0, _⟩ => show t.val % 2 * 2048 + p.val % 2048 = p.val; omega
    | ⟨1, _⟩ => show t.val / 2 * 1408 + q.val % 1408 = q.val; omega
  have h := congrFun (Value.blocks2 m c t (flush_o t)) (ix2 (⟨p.val % 2048, Nat.mod_lt _ (by decide)⟩ : Fin 2048) (⟨q.val % 1408, Nat.mod_lt _ (by decide)⟩ : Fin 1408))
  rw [View.read_apply, he, Value.flushed2, out_apply] at h
  refine Eq.trans (α := EReal) h ?_
  refine Eq.trans (α := EReal) (pay_apply _ _ (⟨p.val % 2048, Nat.mod_lt _ (by decide)⟩ : Fin 2048) (⟨q.val % 1408, Nat.mod_lt _ (by decide)⟩ : Fin 1408)) ?_
  exact Finset.sum_congr rfl fun l _ => congrArg₂ (fun a b : EReal => a * b)
    (read_x m c t (⟨p.val % 2048, Nat.mod_lt _ (by decide)⟩ : Fin 2048) l p l (by dsimp only; omega) (by omega)) (read_w m c t l (⟨q.val % 1408, Nat.mod_lt _ (by decide)⟩ : Fin 1408) l q (by omega) (by dsimp only; omega))

/-- The reference at an index: the same sum. -/
theorem wanted (x : (⟨Cert.UpRefIdeal.S4096x1024, .bf16⟩ : BufTy).Contents (Elt Ideal)) (w : (⟨Cert.UpRefIdeal.S1024x5632, .bf16⟩ : BufTy).Contents (Elt Ideal)) (p : Fin 4096) (q : Fin 5632) :
    (Cert.UpRefIdeal.Read.val_main_v2 (F := Ideal) x w (ix2 p q) : EReal) = ∑ l : Fin 1024, Cert.Products.num (x (ix2 p l)) * Cert.Products.num (w (ix2 l q)) := by
  rw [Cert.UpRefIdeal.Read.val_main_v2_apply]
  refine Finset.sum_congr rfl fun l _ => congrArg₂ (fun a b : EReal => a * b) ?_ ?_
  · refine (Cert.UpRefIdeal.Read.val_main_v0_apply (F := Ideal) x _).trans (congrArg x (funext fun z => ?_))
    match z with
    | ⟨0, _⟩ => rfl
    | ⟨1, _⟩ => rfl
  · refine (Cert.UpRefIdeal.Read.val_main_v1_apply (F := Ideal) w _).trans (congrArg w (funext fun z => ?_))
    match z with
    | ⟨0, _⟩ => rfl
    | ⟨1, _⟩ => rfl

/-- Kernel and reference end with the same array. -/
theorem algebraic : Cert.algebraic_UpIdeal_UpRefIdeal := by
  intro m g m' g' _ hag
  refine ⟨fun c => (dats m 0 c).arrAt 2 cfg0.N, Value.run_blocks m g, (θ_run _ _ _).mono (fun r h c => ?_) (Cert.UpRefIdeal.Value.run (F := Ideal) m' g')⟩
  refine ⟨((h c).1.trans (Cert.UpRefIdeal.Read.val_main_v2_eq (m' ((c.tc : Thread Cert.UpRefIdeal.nD Cert.UpRefIdeal.τ).loc Cert.UpRefIdeal.main_arg0)) (m' ((c.tc : Thread Cert.UpRefIdeal.nD Cert.UpRefIdeal.τ).loc Cert.UpRefIdeal.main_arg1)))).trans ?_, (h c).2⟩
  rw [(hag c).1, (hag c).2]
  funext i
  rw [eq_ix2 i]
  exact (wanted (m ((c.tc : Thread nD τ).loc main_arg0)) (m ((c.tc : Thread nD τ).loc main_arg1)) _ _).trans (value m c _ _).symm

/-- The kernel's run, as printed. -/
theorem frame : Cert.quiescent_Up := fun m ρ _ => Cert.Up.Gen.frame m ρ
/-- The idealized kernel's run. -/
theorem frame_ideal : Cert.quiescent_UpIdeal := fun m ρ _ => Cert.UpIdeal.Gen.frame m ρ
/-- The reference's run. -/
theorem frame_ref : Cert.quiescent_UpRefIdeal := fun m g _ =>
  (θ_run Cert.UpRefIdeal.defs _ _).mono
    (fun r h => ⟨fun c => (h c).2, sem_eq_zero_of_no_sems (by decide) r.2⟩) (Cert.UpRefIdeal.Value.run (F := Ideal) m g)
theorem preserves : Cert.preserves_Up_UpIdeal := trivial

end Cert.UpIdeal.Own

end
-- ==== Proof.Products.Down.lean ====
/-
  The down projection: one point per block of the result.
-/
module

public import proofs.«01_k».proof.Defs
public import proofs.«01_k».proof.Proof.Gen.Down.Frame
public import proofs.«01_k».proof.Proof.Gen.DownIdeal.Value
public import proofs.«01_k».proof.Proof.Gen.DownRefIdeal.Read
public import proofs.«01_k».proof.Proof.Products.Sums

@[expose] public section

set_option maxRecDepth 16384
set_option Elab.async false

noncomputable section

namespace Cert.DownIdeal.Own

open Cert.DownIdeal Cert.DownIdeal.Gen
open Idealize.ShloMosaic
open Idealize.ShloMosaic.TcCoe
open Idealize.SL.Sem
open Idealize.ShloMosaic.Pipeline (Dat Cfg Window)

theorem pay_apply (x : Vec Ideal S1024x2816 .bf16) (y : Vec Ideal S2816x1024 .bf16) (a : Fin 1024) (b : Fin 1024) :
    k0_pay1 (F := Ideal) x y (ix2 a b) = ∑ k : Fin 2816, (x (ix2 a k) : EReal) * y (ix2 k b) := by pointwise [k0_pay1]

theorem out_apply (x : Vec Ideal S1024x2816 .bf16) (y : Vec Ideal S2816x1024 .bf16) : out0_2 x y = k0_pay1 x y := by
  have hz : (![0, 0] : Fin 2 → ℕ) = fun _ => 0 := by decide
  unfold out0_2
  refine (View.canon_unit_zero hz _ _).trans ?_
  exact congrArg₂ k0_pay1 (View.ld_unit_zero hz _ x) (View.ld_unit_zero hz _ y)

theorem at_x : ∀ t : Fin cfg0.N, (cfg0.win (0 : Fin 3)).index t = (![t.val % 4, 0] : Fin 2 → ℕ) := by decide +kernel
theorem at_w : ∀ t : Fin cfg0.N, (cfg0.win (1 : Fin 3)).index t = (![0, t.val / 4] : Fin 2 → ℕ) := by decide +kernel
theorem at_o : ∀ t : Fin cfg0.N, (cfg0.win (2 : Fin 3)).index t = (![t.val % 4, t.val / 4] : Fin 2 → ℕ) := by decide +kernel
theorem flush_o : ∀ t : Fin cfg0.N, (cfg0.win (2 : Fin 3)).flush t = true := by decide +kernel

variable (m : (ℓ : Loc nD τ sig) → Buf (Elt Ideal) ℓ) (c : Dev nD)

theorem read_x (t : Fin cfg0.N) (k : Fin 1024) (a : Fin 2816) (K : Fin 4096) (A : Fin 2816) (hK : K.val = t.val % 4 * 1024 + k.val) (hA : A.val = 0 * 2816 + a.val) :
    iblk m c 0 t (ix2 k a) = m ((c.tc : Thread nD τ).loc main_arg0) (ix2 K A) := by
  refine Eq.trans (congrArg (V m c main_arg0) (funext fun z => Fin.ext ?_)) (congrFun (V_main_arg0 m c) _)
  refine ((cfg0.win (0 : Fin 3)).rect_emb_val t (ix2 k a) z).trans ?_
  rw [at_x]
  match z with
  | ⟨0, _⟩ => show t.val % 4 * 1024 + k.val = K.val; omega
  | ⟨1, _⟩ => show 0 * 2816 + a.val = A.val; omega

theorem read_w (t : Fin cfg0.N) (k : Fin 2816) (a : Fin 1024) (K : Fin 2816) (A : Fin 1024) (hK : K.val = 0 * 2816 + k.val) (hA : A.val = t.val / 4 * 1024 + a.val) :
    iblk m c 1 t (ix2 k a) = m ((c.tc : Thread nD τ).loc main_arg1) (ix2 K A) := by
  refine Eq.trans (congrArg (V m c main_arg1) (funext fun z => Fin.ext ?_)) (congrFun (V_main_arg1 m c) _)
  refine ((cfg0.win (1 : Fin 3)).rect_emb_val t (ix2 k a) z).trans ?_
  rw [at_w]
  match z with
  | ⟨0, _⟩ => show 0 * 2816 + k.val = K.val; omega
  | ⟨1, _⟩ => show t.val / 4 * 1024 + a.val = A.val; omega

/-- The result at an index: its block's point multiplies the row by the column. -/
theorem value (p : Fin 4096) (q : Fin 1024) :
    ((dats m 0 c).arrAt 2 cfg0.N (ix2 p q) : EReal) = ∑ l : Fin 2816, Cert.Products.num (m ((c.tc : Thread nD τ).loc main_arg0) (ix2 p l)) * Cert.Products.num (m ((c.tc : Thread nD τ).loc main_arg1) (ix2 l q)) := by
  have hp := p.isLt
  have hq := q.isLt
  have hN : cfg0.N = 4 := N_0
  obtain ⟨t, ht⟩ : ∃ t : Fin cfg0.N, t.val = q.val / 1024 * 4 + p.val / 1024 := ⟨⟨q.val / 1024 * 4 + p.val / 1024, by rw [hN]; omega⟩, rfl⟩
  have he : ((cfg0.win 2).blk t).view.emb (ix2 (⟨p.val % 1024, Nat.mod_lt _ (by decide)⟩ : Fin 1024) (⟨q.val % 1024, Nat.mod_lt _ (by decide)⟩ : Fin 1024)) = ix2 p q := by
    refine funext fun z => Fin.ext ?_
    refine ((cfg0.win (2 : Fin 3)).rect_emb_val t _ z).trans ?_
    rw [at_o]
    match z with
    | ⟨0, _⟩ => show t.val % 4 * 1024 + p.val % 1024 = p.val; omega
    | ⟨1, _⟩ => show t.val / 4 * 1024 + q.val % 1024 = q.val; omega
  have h := congrFun (Value.blocks2 m c t (flush_o t)) (ix2 (⟨p.val % 1024, Nat.mod_lt _ (by decide)⟩ : Fin 1024) (⟨q.val % 1024, Nat.mod_lt _ (by decide)⟩ : Fin 1024))
  rw [View.read_apply, he, Value.flushed2, out_apply] at h
  refine Eq.trans (α := EReal) h ?_
  refine Eq.trans (α := EReal) (pay_apply _ _ (⟨p.val % 1024, Nat.mod_lt _ (by decide)⟩ : Fin 1024) (⟨q.val % 1024, Nat.mod_lt _ (by decide)⟩ : Fin 1024)) ?_
  exact Finset.sum_congr rfl fun l _ => congrArg₂ (fun a b : EReal => a * b)
    (read_x m c t (⟨p.val % 1024, Nat.mod_lt _ (by decide)⟩ : Fin 1024) l p l (by dsimp only; omega) (by omega)) (read_w m c t l (⟨q.val % 1024, Nat.mod_lt _ (by decide)⟩ : Fin 1024) l q (by omega) (by dsimp only; omega))

/-- The reference at an index: the same sum. -/
theorem wanted (x : (⟨Cert.DownRefIdeal.S4096x2816, .bf16⟩ : BufTy).Contents (Elt Ideal)) (w : (⟨Cert.DownRefIdeal.S2816x1024, .bf16⟩ : BufTy).Contents (Elt Ideal)) (p : Fin 4096) (q : Fin 1024) :
    (Cert.DownRefIdeal.Read.val_main_v2 (F := Ideal) x w (ix2 p q) : EReal) = ∑ l : Fin 2816, Cert.Products.num (x (ix2 p l)) * Cert.Products.num (w (ix2 l q)) := by
  rw [Cert.DownRefIdeal.Read.val_main_v2_apply]
  refine Finset.sum_congr rfl fun l _ => congrArg₂ (fun a b : EReal => a * b) ?_ ?_
  · refine (Cert.DownRefIdeal.Read.val_main_v0_apply (F := Ideal) x _).trans (congrArg x (funext fun z => ?_))
    match z with
    | ⟨0, _⟩ => rfl
    | ⟨1, _⟩ => rfl
  · refine (Cert.DownRefIdeal.Read.val_main_v1_apply (F := Ideal) w _).trans (congrArg w (funext fun z => ?_))
    match z with
    | ⟨0, _⟩ => rfl
    | ⟨1, _⟩ => rfl

/-- Kernel and reference end with the same array. -/
theorem algebraic : Cert.algebraic_DownIdeal_DownRefIdeal := by
  intro m g m' g' _ hag
  refine ⟨fun c => (dats m 0 c).arrAt 2 cfg0.N, Value.run_blocks m g, (θ_run _ _ _).mono (fun r h c => ?_) (Cert.DownRefIdeal.Value.run (F := Ideal) m' g')⟩
  refine ⟨((h c).1.trans (Cert.DownRefIdeal.Read.val_main_v2_eq (m' ((c.tc : Thread Cert.DownRefIdeal.nD Cert.DownRefIdeal.τ).loc Cert.DownRefIdeal.main_arg0)) (m' ((c.tc : Thread Cert.DownRefIdeal.nD Cert.DownRefIdeal.τ).loc Cert.DownRefIdeal.main_arg1)))).trans ?_, (h c).2⟩
  rw [(hag c).1, (hag c).2]
  funext i
  rw [eq_ix2 i]
  exact (wanted (m ((c.tc : Thread nD τ).loc main_arg0)) (m ((c.tc : Thread nD τ).loc main_arg1)) _ _).trans (value m c _ _).symm

/-- The kernel's run, as printed. -/
theorem frame : Cert.quiescent_Down := fun m ρ _ => Cert.Down.Gen.frame m ρ
/-- The idealized kernel's run. -/
theorem frame_ideal : Cert.quiescent_DownIdeal := fun m ρ _ => Cert.DownIdeal.Gen.frame m ρ
/-- The reference's run. -/
theorem frame_ref : Cert.quiescent_DownRefIdeal := fun m g _ =>
  (θ_run Cert.DownRefIdeal.defs _ _).mono
    (fun r h => ⟨fun c => (h c).2, sem_eq_zero_of_no_sems (by decide) r.2⟩) (Cert.DownRefIdeal.Value.run (F := Ideal) m g)
theorem preserves : Cert.preserves_Down_DownIdeal := trivial

end Cert.DownIdeal.Own

end
-- ==== Proof.Products.DownDx.lean ====
/-
  The gradient of the down projection's input: one point per block of the result.
-/
module

public import proofs.«01_k».proof.Defs
public import proofs.«01_k».proof.Proof.Gen.DownDx.Frame
public import proofs.«01_k».proof.Proof.Gen.DownDxIdeal.Value
public import proofs.«01_k».proof.Proof.Gen.DownDxRefIdeal.Read
public import proofs.«01_k».proof.Proof.Products.Sums

@[expose] public section

set_option maxRecDepth 16384
set_option Elab.async false

noncomputable section

namespace Cert.DownDxIdeal.Own

open Cert.DownDxIdeal Cert.DownDxIdeal.Gen
open Idealize.ShloMosaic
open Idealize.ShloMosaic.TcCoe
open Idealize.SL.Sem
open Idealize.ShloMosaic.Pipeline (Dat Cfg Window)

theorem pay_apply (x : Vec Ideal S2048x1024 .bf16) (y : Vec Ideal S1408x1024 .bf16) (a : Fin 2048) (b : Fin 1408) :
    k0_pay1 (F := Ideal) x y (ix2 a b) = ∑ k : Fin 1024, (x (ix2 a k) : EReal) * y (ix2 b k) := by pointwise [k0_pay1]

theorem out_apply (x : Vec Ideal S2048x1024 .bf16) (y : Vec Ideal S1408x1024 .bf16) : out0_2 x y = k0_pay1 x y := by
  have hz : (![0, 0] : Fin 2 → ℕ) = fun _ => 0 := by decide
  unfold out0_2
  refine (View.canon_unit_zero hz _ _).trans ?_
  exact congrArg₂ k0_pay1 (View.ld_unit_zero hz _ x) (View.ld_unit_zero hz _ y)

theorem at_x : ∀ t : Fin cfg0.N, (cfg0.win (0 : Fin 3)).index t = (![t.val % 2, 0] : Fin 2 → ℕ) := by decide +kernel
theorem at_w : ∀ t : Fin cfg0.N, (cfg0.win (1 : Fin 3)).index t = (![t.val / 2, 0] : Fin 2 → ℕ) := by decide +kernel
theorem at_o : ∀ t : Fin cfg0.N, (cfg0.win (2 : Fin 3)).index t = (![t.val % 2, t.val / 2] : Fin 2 → ℕ) := by decide +kernel
theorem flush_o : ∀ t : Fin cfg0.N, (cfg0.win (2 : Fin 3)).flush t = true := by decide +kernel

variable (m : (ℓ : Loc nD τ sig) → Buf (Elt Ideal) ℓ) (c : Dev nD)

theorem read_x (t : Fin cfg0.N) (k : Fin 2048) (a : Fin 1024) (K : Fin 4096) (A : Fin 1024) (hK : K.val = t.val % 2 * 2048 + k.val) (hA : A.val = 0 * 1024 + a.val) :
    iblk m c 0 t (ix2 k a) = m ((c.tc : Thread nD τ).loc main_arg2) (ix2 K A) := by
  refine Eq.trans (congrArg (V m c main_arg2) (funext fun z => Fin.ext ?_)) (congrFun (V_main_arg2 m c) _)
  refine ((cfg0.win (0 : Fin 3)).rect_emb_val t (ix2 k a) z).trans ?_
  rw [at_x]
  match z with
  | ⟨0, _⟩ => show t.val % 2 * 2048 + k.val = K.val; omega
  | ⟨1, _⟩ => show 0 * 1024 + a.val = A.val; omega

theorem read_w (t : Fin cfg0.N) (k : Fin 1408) (a : Fin 1024) (K : Fin 2816) (A : Fin 1024) (hK : K.val = t.val / 2 * 1408 + k.val) (hA : A.val = 0 * 1024 + a.val) :
    iblk m c 1 t (ix2 k a) = m ((c.tc : Thread nD τ).loc main_arg1) (ix2 K A) := by
  refine Eq.trans (congrArg (V m c main_arg1) (funext fun z => Fin.ext ?_)) (congrFun (V_main_arg1 m c) _)
  refine ((cfg0.win (1 : Fin 3)).rect_emb_val t (ix2 k a) z).trans ?_
  rw [at_w]
  match z with
  | ⟨0, _⟩ => show t.val / 2 * 1408 + k.val = K.val; omega
  | ⟨1, _⟩ => show 0 * 1024 + a.val = A.val; omega

/-- The result at an index: its block's point multiplies the row by the column. -/
theorem value (p : Fin 4096) (q : Fin 2816) :
    ((dats m 0 c).arrAt 2 cfg0.N (ix2 p q) : EReal) = ∑ l : Fin 1024, Cert.Products.num (m ((c.tc : Thread nD τ).loc main_arg2) (ix2 p l)) * Cert.Products.num (m ((c.tc : Thread nD τ).loc main_arg1) (ix2 q l)) := by
  have hp := p.isLt
  have hq := q.isLt
  have hN : cfg0.N = 4 := N_0
  obtain ⟨t, ht⟩ : ∃ t : Fin cfg0.N, t.val = q.val / 1408 * 2 + p.val / 2048 := ⟨⟨q.val / 1408 * 2 + p.val / 2048, by rw [hN]; omega⟩, rfl⟩
  have he : ((cfg0.win 2).blk t).view.emb (ix2 (⟨p.val % 2048, Nat.mod_lt _ (by decide)⟩ : Fin 2048) (⟨q.val % 1408, Nat.mod_lt _ (by decide)⟩ : Fin 1408)) = ix2 p q := by
    refine funext fun z => Fin.ext ?_
    refine ((cfg0.win (2 : Fin 3)).rect_emb_val t _ z).trans ?_
    rw [at_o]
    match z with
    | ⟨0, _⟩ => show t.val % 2 * 2048 + p.val % 2048 = p.val; omega
    | ⟨1, _⟩ => show t.val / 2 * 1408 + q.val % 1408 = q.val; omega
  have h := congrFun (Value.blocks2 m c t (flush_o t)) (ix2 (⟨p.val % 2048, Nat.mod_lt _ (by decide)⟩ : Fin 2048) (⟨q.val % 1408, Nat.mod_lt _ (by decide)⟩ : Fin 1408))
  rw [View.read_apply, he, Value.flushed2, out_apply] at h
  refine Eq.trans (α := EReal) h ?_
  refine Eq.trans (α := EReal) (pay_apply _ _ (⟨p.val % 2048, Nat.mod_lt _ (by decide)⟩ : Fin 2048) (⟨q.val % 1408, Nat.mod_lt _ (by decide)⟩ : Fin 1408)) ?_
  exact Finset.sum_congr rfl fun l _ => congrArg₂ (fun a b : EReal => a * b)
    (read_x m c t (⟨p.val % 2048, Nat.mod_lt _ (by decide)⟩ : Fin 2048) l p l (by dsimp only; omega) (by omega)) (read_w m c t (⟨q.val % 1408, Nat.mod_lt _ (by decide)⟩ : Fin 1408) l q l (by dsimp only; omega) (by omega))

/-- The reference at an index: the same sum. -/
theorem wanted (w : (⟨Cert.DownDxRefIdeal.S2816x1024, .bf16⟩ : BufTy).Contents (Elt Ideal)) (x : (⟨Cert.DownDxRefIdeal.S4096x1024, .bf16⟩ : BufTy).Contents (Elt Ideal)) (p : Fin 4096) (q : Fin 2816) :
    (Cert.DownDxRefIdeal.Read.val_main_v7 (F := Ideal) w x (ix2 p q) : EReal) = ∑ l : Fin 1024, Cert.Products.num (x (ix2 p l)) * Cert.Products.num (w (ix2 q l)) := by
  refine (Cert.DownDxRefIdeal.Read.val_main_v7_apply (F := Ideal) w x _).trans ?_
  refine (congrArg (fun e : EReal => e) (Cert.DownDxRefIdeal.Read.val_main_v6_apply w x _)).trans ?_
  refine Finset.sum_congr rfl fun l _ => congrArg₂ (fun a b : EReal => a * b) ?_ ?_
  · refine (Cert.DownDxRefIdeal.Read.val_main_v3_apply (F := Ideal) x _).trans (congrArg x (funext fun z => ?_))
    match z with
    | ⟨0, _⟩ => rfl
    | ⟨1, _⟩ => rfl
  · refine (Cert.DownDxRefIdeal.Read.val_main_v1_apply (F := Ideal) w _).trans (congrArg w (funext fun z => ?_))
    match z with
    | ⟨0, _⟩ => rfl
    | ⟨1, _⟩ => rfl

/-- Kernel and reference end with the same array. -/
theorem algebraic : Cert.algebraic_DownDxIdeal_DownDxRefIdeal := by
  intro m g m' g' _ hag
  refine ⟨fun c => (dats m 0 c).arrAt 2 cfg0.N, Value.run_blocks m g, (θ_run _ _ _).mono (fun r h c => ?_) (Cert.DownDxRefIdeal.Value.run (F := Ideal) m' g')⟩
  refine ⟨((h c).1.trans (Cert.DownDxRefIdeal.Read.val_main_v7_eq (m' ((c.tc : Thread Cert.DownDxRefIdeal.nD Cert.DownDxRefIdeal.τ).loc Cert.DownDxRefIdeal.main_arg1)) (m' ((c.tc : Thread Cert.DownDxRefIdeal.nD Cert.DownDxRefIdeal.τ).loc Cert.DownDxRefIdeal.main_arg2)))).trans ?_, (h c).2⟩
  rw [(hag c).2.1, (hag c).2.2]
  funext i
  rw [eq_ix2 i]
  exact (wanted (m ((c.tc : Thread nD τ).loc main_arg1)) (m ((c.tc : Thread nD τ).loc main_arg2)) _ _).trans (value m c _ _).symm

/-- The kernel's run, as printed. -/
theorem frame : Cert.quiescent_DownDx := fun m ρ _ => Cert.DownDx.Gen.frame m ρ
/-- The idealized kernel's run. -/
theorem frame_ideal : Cert.quiescent_DownDxIdeal := fun m ρ _ => Cert.DownDxIdeal.Gen.frame m ρ
/-- The reference's run. -/
theorem frame_ref : Cert.quiescent_DownDxRefIdeal := fun m g _ =>
  (θ_run Cert.DownDxRefIdeal.defs _ _).mono
    (fun r h => ⟨fun c => (h c).2, sem_eq_zero_of_no_sems (by decide) r.2⟩) (Cert.DownDxRefIdeal.Value.run (F := Ideal) m g)
theorem preserves : Cert.preserves_DownDx_DownDxIdeal := trivial

end Cert.DownDxIdeal.Own

end
-- ==== Proof.Products.DownDw.lean ====
/-
  The gradient of a product's weights (the call of DownDw): two points per block of the result, each adding half the sequence.
-/
module

public import proofs.«01_k».proof.Defs
public import proofs.«01_k».proof.Proof.Gen.DownDw.Frame
public import proofs.«01_k».proof.Proof.Gen.DownDwIdeal.Value
public import proofs.«01_k».proof.Proof.Gen.DownDwRefIdeal.Read
public import proofs.«01_k».proof.Proof.Products.Sums

@[expose] public section

set_option maxRecDepth 16384
set_option Elab.async false

noncomputable section

namespace Cert.DownDwIdeal.Own

open Cert.DownDwIdeal Cert.DownDwIdeal.Gen
open Idealize.ShloMosaic
open Idealize.ShloMosaic.TcCoe
open Idealize.SL.Sem
open Idealize.ShloMosaic.Pipeline (Dat Cfg Window)

theorem zero_apply (a : Fin 1408) (b : Fin 1024) : k0_pay1 (F := Ideal) (ix2 a b) = 0 := by pointwise [k0_pay1]
theorem step_apply (acc : Vec Ideal S1408x1024 .f32) (x : Vec Ideal S2048x1408 .bf16) (y : Vec Ideal S2048x1024 .bf16) (a : Fin 1408) (b : Fin 1024) :
    k0_pay2 (F := Ideal) acc x y (ix2 a b) = (acc (ix2 a b) : EReal) + ∑ k : Fin 2048, (x (ix2 k a) : EReal) * y (ix2 k b) := by pointwise [k0_pay2]

theorem at_x : ∀ t : Fin cfg0.N, (cfg0.win (0 : Fin 3)).index t = (![t.val % 2, t.val / 2 / 1] : Fin 2 → ℕ) := by decide +kernel
theorem at_d : ∀ t : Fin cfg0.N, (cfg0.win (1 : Fin 3)).index t = (![t.val % 2, t.val / 2 % 1] : Fin 2 → ℕ) := by decide +kernel

variable (m : (ℓ : Loc nD τ sig) → Buf (Elt Ideal) ℓ) (c : Dev nD)

theorem read_x (t : Fin cfg0.N) (k : Fin 2048) (a : Fin 1408) (K : Fin 4096) (A : Fin 2816) (hK : K.val = t.val % 2 * 2048 + k.val)
    (hA : A.val = t.val / 2 / 1 * 1408 + a.val) :
    iblk m c 0 t (ix2 k a) = m ((c.tc : Thread nD τ).loc main_arg0) (ix2 K A) := by
  refine Eq.trans (congrArg (V m c main_arg0) (funext fun z => Fin.ext ?_)) (congrFun (V_main_arg0 m c) _)
  refine (((cfg0.win (0 : Fin 3))).rect_emb_val t (ix2 k a) z).trans ?_
  rw [at_x]
  match z with
  | ⟨0, _⟩ => show t.val % 2 * 2048 + k.val = K.val; omega
  | ⟨1, _⟩ => show t.val / 2 / 1 * 1408 + a.val = A.val; omega

theorem read_d (t : Fin cfg0.N) (k : Fin 2048) (b : Fin 1024) (K : Fin 4096) (B : Fin 1024) (hK : K.val = t.val % 2 * 2048 + k.val)
    (hB : B.val = t.val / 2 % 1 * 1024 + b.val) :
    iblk m c 1 t (ix2 k b) = m ((c.tc : Thread nD τ).loc main_arg2) (ix2 K B) := by
  refine Eq.trans (congrArg (V m c main_arg2) (funext fun z => Fin.ext ?_)) (congrFun (V_main_arg2 m c) _)
  refine (((cfg0.win (1 : Fin 3))).rect_emb_val t (ix2 k b) z).trans ?_
  rw [at_d]
  match z with
  | ⟨0, _⟩ => show t.val % 2 * 2048 + k.val = K.val; omega
  | ⟨1, _⟩ => show t.val / 2 % 1 * 1024 + b.val = B.val; omega

/-- The result at an index: the sum of the products over the whole sequence. -/
theorem value (p : Fin 2816) (q : Fin 1024) :
    (Value.G2 m c (ix2 p q) : EReal) = ∑ l : Fin 4096, Cert.Products.num (m ((c.tc : Thread nD τ).loc main_arg0) (ix2 l p)) * Cert.Products.num (m ((c.tc : Thread nD τ).loc main_arg2) (ix2 l q)) := by
  have hp := p.isLt
  have hq := q.isLt
  have hN : cfg0.N = 4 := N_0
  have hr : Value.run2Of (ix2 p q) = 1 * (p.val / 1408) + q.val / 1024 := by
    show 1 * (p.val / 1408 - 0) + 1 * (q.val / 1024 - 0) = _
    omega
  unfold Value.G2
  rw [dif_pos (by rw [hr, hN]; omega), Pipeline.accAt_succ, Pipeline.accAt_zero]
  have hl : Value.loc2Of (ix2 p q) = ix2 (⟨p.val % 1408, Nat.mod_lt _ (by decide)⟩ : Fin 1408) (⟨q.val % 1024, Nat.mod_lt _ (by decide)⟩ : Fin 1024) := by
    funext z
    match z with
    | ⟨0, _⟩ => rfl
    | ⟨1, _⟩ => rfl
  rw [hl]
  unfold Value.step2 Value.reset2
  rw [step_apply, step_apply, zero_apply, zero_add, Cert.Products.sum_two (n := 2048) rfl]
  refine congrArg₂ (fun a b : EReal => a + b) (Finset.sum_congr rfl fun k _ => ?_) (Finset.sum_congr rfl fun k _ => ?_)
  · have hk := k.isLt
    exact congrArg₂ (fun a b : EReal => a * b)
      (read_x m c _ k _ _ _ (by simp only [hr]; omega) (by simp only [hr]; omega)) (read_d m c _ k _ _ _ (by simp only [hr]; omega) (by simp only [hr]; omega))
  · have hk := k.isLt
    exact congrArg₂ (fun a b : EReal => a * b)
      (read_x m c _ k _ _ _ (by simp only [hr]; omega) (by simp only [hr]; omega)) (read_d m c _ k _ _ _ (by simp only [hr]; omega) (by simp only [hr]; omega))

/-- The reference at an index: the same sum. -/
theorem wanted (x : (⟨Cert.DownDwRefIdeal.S4096x2816, .bf16⟩ : BufTy).Contents (Elt Ideal)) (d : (⟨Cert.DownDwRefIdeal.S4096x1024, .bf16⟩ : BufTy).Contents (Elt Ideal)) (p : Fin 2816) (q : Fin 1024) :
    Cert.DownDwRefIdeal.Read.val_main_v5 (F := Ideal) x d (ix2 p q) = ∑ l : Fin 4096, (x (ix2 l p) : EReal) * d (ix2 l q) := by
  rw [Cert.DownDwRefIdeal.Read.val_main_v5_apply, Cert.DownDwRefIdeal.Read.val_main_v4_apply]
  refine Finset.sum_congr rfl fun l _ => (mul_comm _ _).trans (congrArg₂ (fun a b : EReal => a * b) ?_ ?_)
  · refine (Cert.DownDwRefIdeal.Read.val_main_v0_apply (F := Ideal) x _).trans (congrArg x (funext fun z => ?_))
    match z with
    | ⟨0, _⟩ => rfl
    | ⟨1, _⟩ => rfl
  · refine (Cert.DownDwRefIdeal.Read.val_main_v3_apply (F := Ideal) d _).trans (congrArg d (funext fun z => ?_))
    match z with
    | ⟨0, _⟩ => rfl
    | ⟨1, _⟩ => rfl

/-- Kernel and reference end with the same array. -/
theorem algebraic : Cert.algebraic_DownDwIdeal_DownDwRefIdeal := by
  intro m g m' g' _ hag
  refine ⟨fun c => Value.G2 m c, Value.run m g, (θ_run _ _ _).mono (fun r h c => ?_) (Cert.DownDwRefIdeal.Value.run (F := Ideal) m' g')⟩
  refine ⟨((h c).1.trans (Cert.DownDwRefIdeal.Read.val_main_v5_eq (m' ((c.tc : Thread Cert.DownDwRefIdeal.nD Cert.DownDwRefIdeal.τ).loc Cert.DownDwRefIdeal.main_arg0)) (m' ((c.tc : Thread Cert.DownDwRefIdeal.nD Cert.DownDwRefIdeal.τ).loc Cert.DownDwRefIdeal.main_arg2)))).trans ?_, (h c).2⟩
  rw [(hag c).1, (hag c).2.2]
  funext i
  rw [eq_ix2 i]
  exact (wanted (m ((c.tc : Thread nD τ).loc main_arg0)) (m ((c.tc : Thread nD τ).loc main_arg2)) _ _).trans (value m c _ _).symm

/-- The kernel's run, as printed. -/
theorem frame : Cert.quiescent_DownDw := fun m ρ _ => Cert.DownDw.Gen.frame m ρ
/-- The idealized kernel's run. -/
theorem frame_ideal : Cert.quiescent_DownDwIdeal := fun m ρ _ => Cert.DownDwIdeal.Gen.frame m ρ
/-- The reference's run. -/
theorem frame_ref : Cert.quiescent_DownDwRefIdeal := fun m g _ =>
  (θ_run Cert.DownDwRefIdeal.defs _ _).mono
    (fun r h => ⟨fun c => (h c).2, sem_eq_zero_of_no_sems (by decide) r.2⟩) (Cert.DownDwRefIdeal.Value.run (F := Ideal) m g)
theorem preserves : Cert.preserves_DownDw_DownDwIdeal := trivial

end Cert.DownDwIdeal.Own

end
-- ==== Proof.Products.UpDx.lean ====
/-
  The gradient of the up projection's input: two points per block of rows, each adding one half of the hidden units.
-/
module

public import proofs.«01_k».proof.Defs
public import proofs.«01_k».proof.Proof.Gen.UpDx.Frame
public import proofs.«01_k».proof.Proof.Gen.UpDxIdeal.Value
public import proofs.«01_k».proof.Proof.Gen.UpDxRefIdeal.Read
public import proofs.«01_k».proof.Proof.Products.Sums

@[expose] public section

set_option maxRecDepth 16384
set_option Elab.async false

noncomputable section

namespace Cert.UpDxIdeal.Own

open Cert.UpDxIdeal Cert.UpDxIdeal.Gen
open Idealize.ShloMosaic
open Idealize.ShloMosaic.TcCoe
open Idealize.SL.Sem
open Idealize.ShloMosaic.Pipeline (Dat Cfg Window)

theorem zero_apply (a : Fin 1024) (b : Fin 1024) : k0_pay1 (F := Ideal) (ix2 a b) = 0 := by pointwise [k0_pay1]
theorem step_apply (acc : Vec Ideal S1024x1024 .f32) (x : Vec Ideal S1x1024x2816 .bf16) (y : Vec Ideal S1024x2816 .bf16) (a : Fin 1024) (b : Fin 1024) :
    k0_pay2 (F := Ideal) acc x y (ix2 a b) = (acc (ix2 a b) : EReal) + ∑ k : Fin 2816, (x (ix3 (0 : Fin 1) a k) : EReal) * y (ix2 b k) := by pointwise [k0_pay2]

theorem at_d : ∀ t : Fin cfg0.N, (cfg0.win (0 : Fin 3)).index t = (![t.val % 2, t.val / 2, 0] : Fin 3 → ℕ) := by decide +kernel
theorem at_w : ∀ t : Fin cfg0.N, (cfg0.win (1 : Fin 3)).index t = (![0, t.val % 2] : Fin 2 → ℕ) := by decide +kernel

variable (m : (ℓ : Loc nD τ sig) → Buf (Elt Ideal) ℓ) (c : Dev nD)

theorem read_d (t : Fin cfg0.N) (k : Fin 1) (a : Fin 1024) (e : Fin 2816) (K : Fin 2) (A : Fin 4096) (E : Fin 2816) (hK : K.val = t.val % 2 * 1 + k.val) (hA : A.val = t.val / 2 * 1024 + a.val) (hE : E.val = 0 * 2816 + e.val) :
    iblk m c 0 t (ix3 k a e) = m ((c.tc : Thread nD τ).loc main_arg2) (ix3 K A E) := by
  refine Eq.trans (congrArg (V m c main_arg2) (funext fun z => Fin.ext ?_)) (congrFun (V_main_arg2 m c) _)
  refine ((cfg0.win (0 : Fin 3)).rect_emb_val t (ix3 k a e) z).trans ?_
  rw [at_d]
  match z with
  | ⟨0, _⟩ => show t.val % 2 * 1 + k.val = K.val; omega
  | ⟨1, _⟩ => show t.val / 2 * 1024 + a.val = A.val; omega
  | ⟨2, _⟩ => show 0 * 2816 + e.val = E.val; omega

theorem read_w (t : Fin cfg0.N) (k : Fin 1024) (a : Fin 2816) (K : Fin 1024) (A : Fin 5632) (hK : K.val = 0 * 1024 + k.val) (hA : A.val = t.val % 2 * 2816 + a.val) :
    iblk m c 1 t (ix2 k a) = m ((c.tc : Thread nD τ).loc main_arg1) (ix2 K A) := by
  refine Eq.trans (congrArg (V m c main_arg1) (funext fun z => Fin.ext ?_)) (congrFun (V_main_arg1 m c) _)
  refine ((cfg0.win (1 : Fin 3)).rect_emb_val t (ix2 k a) z).trans ?_
  rw [at_w]
  match z with
  | ⟨0, _⟩ => show 0 * 1024 + k.val = K.val; omega
  | ⟨1, _⟩ => show t.val % 2 * 2816 + a.val = A.val; omega

/-- The result at an index: the sum of the products over all the hidden units of both halves. -/
theorem value (p : Fin 4096) (q : Fin 1024) :
    (Value.G2 m c (ix2 p q) : EReal) = ∑ l : Fin 5632, Cert.Products.num (m ((c.tc : Thread nD τ).loc main_arg2) (ix3 (⟨l.val / 2816, by have := l.isLt; omega⟩ : Fin 2) p (⟨l.val % 2816, Nat.mod_lt _ (by decide)⟩ : Fin 2816))) * Cert.Products.num (m ((c.tc : Thread nD τ).loc main_arg1) (ix2 q l)) := by
  have hp := p.isLt
  have hq := q.isLt
  have hN : cfg0.N = 8 := N_0
  have hr : Value.run2Of (ix2 p q) = p.val / 1024 := by
    show 1 * (p.val / 1024 - 0) + 1 * (q.val / 1024 - 0) = _
    omega
  unfold Value.G2
  rw [dif_pos (by rw [hr, hN]; omega), Pipeline.accAt_succ, Pipeline.accAt_zero]
  have hl : Value.loc2Of (ix2 p q) = ix2 (⟨p.val % 1024, Nat.mod_lt _ (by decide)⟩ : Fin 1024) (⟨q.val % 1024, Nat.mod_lt _ (by decide)⟩ : Fin 1024) := by
    funext z
    match z with
    | ⟨0, _⟩ => rfl
    | ⟨1, _⟩ => rfl
  rw [hl]
  unfold Value.step2 Value.reset2
  rw [step_apply, step_apply, zero_apply, zero_add, Cert.Products.sum_two (n := 2816) rfl]
  refine congrArg₂ (fun a b : EReal => a + b) (Finset.sum_congr rfl fun k _ => ?_) (Finset.sum_congr rfl fun k _ => ?_)
  · have hk := k.isLt
    exact congrArg₂ (fun a b : EReal => a * b)
      (read_d m c _ 0 _ k _ _ _ (by simp only [hr]; omega) (by simp only [hr]; omega) (by simp only [hr]; omega)) (read_w m c _ _ k _ _ (by simp only [hr]; omega) (by simp only [hr]; omega))
  · have hk := k.isLt
    exact congrArg₂ (fun a b : EReal => a * b)
      (read_d m c _ 0 _ k _ _ _ (by simp only [hr]; omega) (by simp only [hr]; omega) (by simp only [hr]; omega)) (read_w m c _ _ k _ _ (by simp only [hr]; omega) (by simp only [hr]; omega))

/-- The reference at an index: the same sum. -/
theorem wanted (w : (⟨Cert.UpDxRefIdeal.S1024x5632, .bf16⟩ : BufTy).Contents (Elt Ideal)) (d : (⟨Cert.UpDxRefIdeal.S2x4096x2816, .bf16⟩ : BufTy).Contents (Elt Ideal)) (p : Fin 4096) (q : Fin 1024) :
    (Cert.UpDxRefIdeal.Read.val_main_v8 (F := Ideal) w d (ix2 p q) : EReal) = ∑ l : Fin 5632, Cert.Products.num (d (ix3 (⟨l.val / 2816, by have := l.isLt; omega⟩ : Fin 2) p (⟨l.val % 2816, Nat.mod_lt _ (by decide)⟩ : Fin 2816))) * Cert.Products.num (w (ix2 q l)) := by
  have hp := p.isLt
  rw [Cert.UpDxRefIdeal.Read.val_main_v8_apply]
  refine Finset.sum_congr rfl fun l _ => congrArg₂ (fun a b : EReal => a * b) ?_ ?_
  · have hl := l.isLt
    refine (Cert.UpDxRefIdeal.Read.val_main_v5_apply (F := Ideal) d _).trans ?_
    refine (congrArg (fun w : EReal => w) (Cert.UpDxRefIdeal.Read.val_main_v1_apply (F := Ideal) d _)).trans ?_
    refine (Cert.UpDxRefIdeal.Read.val_main_v0_apply (F := Ideal) d _).trans (congrArg d (funext fun z => ?_))
    match z with
    | ⟨0, _⟩ => exact Fin.ext (show (p.val * 5632 + l.val) / 2816 % 2 = l.val / 2816 by omega)
    | ⟨1, _⟩ => exact Fin.ext (show (p.val * 5632 + l.val) / 5632 = p.val by omega)
    | ⟨2, _⟩ => exact Fin.ext (show (p.val * 5632 + l.val) % 2816 = l.val % 2816 by omega)
  · refine (Cert.UpDxRefIdeal.Read.val_main_v3_apply (F := Ideal) w _).trans (congrArg w (funext fun z => ?_))
    match z with
    | ⟨0, _⟩ => rfl
    | ⟨1, _⟩ => rfl

/-- Kernel and reference end with the same array. -/
theorem algebraic : Cert.algebraic_UpDxIdeal_UpDxRefIdeal := by
  intro m g m' g' _ hag
  refine ⟨fun c => Value.G2 m c, Value.run m g, (θ_run _ _ _).mono (fun r h c => ?_) (Cert.UpDxRefIdeal.Value.run (F := Ideal) m' g')⟩
  refine ⟨((h c).1.trans (Cert.UpDxRefIdeal.Read.val_main_v8_eq (m' ((c.tc : Thread Cert.UpDxRefIdeal.nD Cert.UpDxRefIdeal.τ).loc Cert.UpDxRefIdeal.main_arg1)) (m' ((c.tc : Thread Cert.UpDxRefIdeal.nD Cert.UpDxRefIdeal.τ).loc Cert.UpDxRefIdeal.main_arg2)))).trans ?_, (h c).2⟩
  rw [(hag c).2.1, (hag c).2.2]
  funext i
  rw [eq_ix2 i]
  exact (wanted (m ((c.tc : Thread nD τ).loc main_arg1)) (m ((c.tc : Thread nD τ).loc main_arg2)) _ _).trans (value m c _ _).symm

/-- The kernel's run, as printed. -/
theorem frame : Cert.quiescent_UpDx := fun m ρ _ => Cert.UpDx.Gen.frame m ρ
/-- The idealized kernel's run. -/
theorem frame_ideal : Cert.quiescent_UpDxIdeal := fun m ρ _ => Cert.UpDxIdeal.Gen.frame m ρ
/-- The reference's run. -/
theorem frame_ref : Cert.quiescent_UpDxRefIdeal := fun m g _ =>
  (θ_run Cert.UpDxRefIdeal.defs _ _).mono
    (fun r h => ⟨fun c => (h c).2, sem_eq_zero_of_no_sems (by decide) r.2⟩) (Cert.UpDxRefIdeal.Value.run (F := Ideal) m g)
theorem preserves : Cert.preserves_UpDx_UpDxIdeal := trivial

end Cert.UpDxIdeal.Own

end
-- ==== Proof.Products.UpDw.lean ====
/-
  The gradient of the up projection's weights, one slice of columns per chip: two points per slice, each adding half the sequence.
-/
module

public import proofs.«01_k».proof.Defs
public import proofs.«01_k».proof.Proof.Gen.UpDw.Frame
public import proofs.«01_k».proof.Proof.Gen.UpDwIdeal.Value
public import proofs.«01_k».proof.Proof.Gen.UpDwRefIdeal.Read
public import proofs.«01_k».proof.Proof.Products.Sums

@[expose] public section

set_option maxRecDepth 16384
set_option Elab.async false

noncomputable section

namespace Cert.UpDwIdeal.Own

open Cert.UpDwIdeal Cert.UpDwIdeal.Gen
open Idealize.ShloMosaic
open Idealize.ShloMosaic.TcCoe
open Idealize.SL.Sem
open Idealize.ShloMosaic.Pipeline (Dat Cfg Window)

theorem zero_apply (a : Fin 1024) (b : Fin 1408) : k0_pay1 (F := Ideal) (ix3 (0 : Fin 1) a b) = 0 := by pointwise [k0_pay1]
theorem step_apply (acc : Vec Ideal S1x1024x1408 .f32) (x : Vec Ideal S2048x1024 .bf16) (y : Vec Ideal S1x2048x1408 .bf16) (a : Fin 1024) (b : Fin 1408) :
    k0_pay2 (F := Ideal) acc x y (ix3 (0 : Fin 1) a b) = (acc (ix3 (0 : Fin 1) a b) : EReal) + ∑ k : Fin 2048, (x (ix2 k a) : EReal) * y (ix3 (0 : Fin 1) k b) := by pointwise [k0_pay2]

theorem at_x : ∀ t : Fin cfg0.N, (cfg0.win (0 : Fin 3)).index t = (![t.val % 2, 0] : Fin 2 → ℕ) := by decide +kernel
theorem at_d : ∀ t : Fin cfg0.N, (cfg0.win (1 : Fin 3)).index t = (![t.val / 4, t.val % 2, t.val / 2 % 2] : Fin 3 → ℕ) := by decide +kernel

variable (m : (ℓ : Loc nD τ sig) → Buf (Elt Ideal) ℓ) (c : Dev nD)

theorem read_x (t : Fin cfg0.N) (k : Fin 2048) (a : Fin 1024) (K : Fin 4096) (A : Fin 1024) (hK : K.val = t.val % 2 * 2048 + k.val) (hA : A.val = 0 * 1024 + a.val) :
    iblk m c 0 t (ix2 k a) = m ((c.tc : Thread nD τ).loc main_arg0) (ix2 K A) := by
  refine Eq.trans (congrArg (V m c main_arg0) (funext fun z => Fin.ext ?_)) (congrFun (V_main_arg0 m c) _)
  refine ((cfg0.win (0 : Fin 3)).rect_emb_val t (ix2 k a) z).trans ?_
  rw [at_x]
  match z with
  | ⟨0, _⟩ => show t.val % 2 * 2048 + k.val = K.val; omega
  | ⟨1, _⟩ => show 0 * 1024 + a.val = A.val; omega

theorem read_d (t : Fin cfg0.N) (k : Fin 1) (a : Fin 2048) (e : Fin 1408) (K : Fin 2) (A : Fin 4096) (E : Fin 2816) (hK : K.val = t.val / 4 * 1 + k.val) (hA : A.val = t.val % 2 * 2048 + a.val) (hE : E.val = t.val / 2 % 2 * 1408 + e.val) :
    iblk m c 1 t (ix3 k a e) = m ((c.tc : Thread nD τ).loc main_arg2) (ix3 K A E) := by
  refine Eq.trans (congrArg (V m c main_arg2) (funext fun z => Fin.ext ?_)) (congrFun (V_main_arg2 m c) _)
  refine ((cfg0.win (1 : Fin 3)).rect_emb_val t (ix3 k a e) z).trans ?_
  rw [at_d]
  match z with
  | ⟨0, _⟩ => show t.val / 4 * 1 + k.val = K.val; omega
  | ⟨1, _⟩ => show t.val % 2 * 2048 + a.val = A.val; omega
  | ⟨2, _⟩ => show t.val / 2 % 2 * 1408 + e.val = E.val; omega

/-- The result at an index: the sum of the products over the whole sequence. -/
theorem value (s : Fin 4) (p : Fin 1024) (q : Fin 1408) :
    (Value.G2 m c (ix3 s p q) : EReal) = ∑ l : Fin 4096, Cert.Products.num (m ((c.tc : Thread nD τ).loc main_arg0) (ix2 l p)) * Cert.Products.num (m ((c.tc : Thread nD τ).loc main_arg2) (ix3 (⟨s.val / 2, by have := s.isLt; omega⟩ : Fin 2) l (⟨s.val % 2 * 1408 + q.val, by have := s.isLt; have := q.isLt; omega⟩ : Fin 2816))) := by
  have hs := s.isLt
  have hp := p.isLt
  have hq := q.isLt
  have hN : cfg0.N = 8 := N_0
  have hr : Value.run2Of (ix3 s p q) = s.val := by
    show 1 * (s.val / 1 - 0) + 1 * (p.val / 1024 - 0) + 1 * (q.val / 1408 - 0) = _
    omega
  unfold Value.G2
  rw [dif_pos (by rw [hr, hN]; omega), Pipeline.accAt_succ, Pipeline.accAt_zero]
  have hl : Value.loc2Of (ix3 s p q) = ix3 (0 : Fin 1) p q := by
    funext z
    match z with
    | ⟨0, _⟩ => exact Fin.ext (show s.val % 1 = 0 by omega)
    | ⟨1, _⟩ => exact Fin.ext (show p.val % 1024 = p.val by omega)
    | ⟨2, _⟩ => exact Fin.ext (show q.val % 1408 = q.val by omega)
  rw [hl]
  unfold Value.step2 Value.reset2
  rw [step_apply, step_apply, zero_apply, zero_add, Cert.Products.sum_two (n := 2048) rfl]
  refine congrArg₂ (fun a b : EReal => a + b) (Finset.sum_congr rfl fun k _ => ?_) (Finset.sum_congr rfl fun k _ => ?_)
  · have hk := k.isLt
    exact congrArg₂ (fun a b : EReal => a * b) (read_x m c _ k _ _ _ (by simp only [hr]; omega) (by omega)) (read_d m c _ 0 k _ _ _ _ (by simp only [hr]; omega) (by simp only [hr]; omega) (by simp only [hr]; omega))
  · have hk := k.isLt
    exact congrArg₂ (fun a b : EReal => a * b) (read_x m c _ k _ _ _ (by simp only [hr]; omega) (by omega)) (read_d m c _ 0 k _ _ _ _ (by simp only [hr]; omega) (by simp only [hr]; omega) (by simp only [hr]; omega))

/-- The reference at an index: the same sum. -/
theorem wanted (x : (⟨Cert.UpDwRefIdeal.S4096x1024, .bf16⟩ : BufTy).Contents (Elt Ideal)) (d : (⟨Cert.UpDwRefIdeal.S2x4096x2816, .bf16⟩ : BufTy).Contents (Elt Ideal)) (s : Fin 4) (p : Fin 1024) (q : Fin 1408) :
    (Cert.UpDwRefIdeal.Read.val_main_v10 (F := Ideal) x d (ix3 s p q) : EReal) = ∑ l : Fin 4096, Cert.Products.num (x (ix2 l p)) * Cert.Products.num (d (ix3 (⟨s.val / 2, by have := s.isLt; omega⟩ : Fin 2) l (⟨s.val % 2 * 1408 + q.val, by have := s.isLt; have := q.isLt; omega⟩ : Fin 2816))) := by
  have hs := s.isLt
  have hp := p.isLt
  have hq := q.isLt
  rw [Cert.UpDwRefIdeal.Read.val_main_v10_apply, Cert.UpDwRefIdeal.Read.val_main_v9_apply, Cert.UpDwRefIdeal.Read.val_main_v7_apply, Cert.UpDwRefIdeal.Read.val_main_v6_apply]
  refine Finset.sum_congr rfl fun l _ => (mul_comm _ _).trans (congrArg₂ (fun a b : EReal => a * b) ?_ ?_)
  · refine (Cert.UpDwRefIdeal.Read.val_main_v2_apply (F := Ideal) x _).trans (congrArg x (funext fun z => ?_))
    match z with
    | ⟨0, _⟩ => rfl
    | ⟨1, _⟩ => exact Fin.ext (show ((p.val * 4 + s.val) * 1408 + q.val) / 5632 = p.val by omega)
  · refine (Cert.UpDwRefIdeal.Read.val_main_v5_apply (F := Ideal) d _).trans ?_
    refine (congrArg (fun w : EReal => w) (Cert.UpDwRefIdeal.Read.val_main_v1_apply (F := Ideal) d _)).trans ?_
    refine (Cert.UpDwRefIdeal.Read.val_main_v0_apply (F := Ideal) d _).trans (congrArg d (funext fun z => ?_))
    match z with
    | ⟨0, _⟩ => exact Fin.ext (show (l.val * 5632 + ((p.val * 4 + s.val) * 1408 + q.val) % 5632) / 2816 % 2 = s.val / 2 by omega)
    | ⟨1, _⟩ => exact Fin.ext (show (l.val * 5632 + ((p.val * 4 + s.val) * 1408 + q.val) % 5632) / 5632 = l.val by omega)
    | ⟨2, _⟩ => exact Fin.ext (show (l.val * 5632 + ((p.val * 4 + s.val) * 1408 + q.val) % 5632) % 2816 = s.val % 2 * 1408 + q.val by omega)

/-- Kernel and reference end with the same array. -/
theorem algebraic : Cert.algebraic_UpDwIdeal_UpDwRefIdeal := by
  intro m g m' g' _ hag
  refine ⟨fun c => Value.G2 m c, Value.run m g, (θ_run _ _ _).mono (fun r h c => ?_) (Cert.UpDwRefIdeal.Value.run (F := Ideal) m' g')⟩
  refine ⟨((h c).1.trans (Cert.UpDwRefIdeal.Read.val_main_v10_eq (m' ((c.tc : Thread Cert.UpDwRefIdeal.nD Cert.UpDwRefIdeal.τ).loc Cert.UpDwRefIdeal.main_arg0)) (m' ((c.tc : Thread Cert.UpDwRefIdeal.nD Cert.UpDwRefIdeal.τ).loc Cert.UpDwRefIdeal.main_arg2)))).trans ?_, (h c).2⟩
  rw [(hag c).1, (hag c).2.2]
  funext i
  rw [eq_ix3 i]
  exact (wanted (m ((c.tc : Thread nD τ).loc main_arg0)) (m ((c.tc : Thread nD τ).loc main_arg2)) _ _ _).trans (value m c _ _ _).symm

/-- The kernel's run, as printed. -/
theorem frame : Cert.quiescent_UpDw := fun m ρ _ => Cert.UpDw.Gen.frame m ρ
/-- The idealized kernel's run. -/
theorem frame_ideal : Cert.quiescent_UpDwIdeal := fun m ρ _ => Cert.UpDwIdeal.Gen.frame m ρ
/-- The reference's run. -/
theorem frame_ref : Cert.quiescent_UpDwRefIdeal := fun m g _ =>
  (θ_run Cert.UpDwRefIdeal.defs _ _).mono
    (fun r h => ⟨fun c => (h c).2, sem_eq_zero_of_no_sems (by decide) r.2⟩) (Cert.UpDwRefIdeal.Value.run (F := Ideal) m g)
theorem preserves : Cert.preserves_UpDw_UpDwIdeal := trivial

end Cert.UpDwIdeal.Own

end
-- ==== Proof.Products.OutDw.lean ====
/-
  The gradient of a product's weights (the call of OutDw): two points per block of the result, each adding half the sequence.
-/
module

public import proofs.«01_k».proof.Defs
public import proofs.«01_k».proof.Proof.Gen.OutDw.Frame
public import proofs.«01_k».proof.Proof.Gen.OutDwIdeal.Value
public import proofs.«01_k».proof.Proof.Gen.OutDwRefIdeal.Read
public import proofs.«01_k».proof.Proof.Products.Sums

@[expose] public section

set_option maxRecDepth 16384
set_option Elab.async false

noncomputable section

namespace Cert.OutDwIdeal.Own

open Cert.OutDwIdeal Cert.OutDwIdeal.Gen
open Idealize.ShloMosaic
open Idealize.ShloMosaic.TcCoe
open Idealize.SL.Sem
open Idealize.ShloMosaic.Pipeline (Dat Cfg Window)

theorem zero_apply (a : Fin 1024) (b : Fin 1024) : k0_pay1 (F := Ideal) (ix2 a b) = 0 := by pointwise [k0_pay1]
theorem step_apply (acc : Vec Ideal S1024x1024 .f32) (x : Vec Ideal S2048x1024 .bf16) (y : Vec Ideal S2048x1024 .bf16) (a : Fin 1024) (b : Fin 1024) :
    k0_pay2 (F := Ideal) acc x y (ix2 a b) = (acc (ix2 a b) : EReal) + ∑ k : Fin 2048, (x (ix2 k a) : EReal) * y (ix2 k b) := by pointwise [k0_pay2]

theorem at_x : ∀ t : Fin cfg0.N, (cfg0.win (0 : Fin 3)).index t = (![t.val % 2, t.val / 2 / 1] : Fin 2 → ℕ) := by decide +kernel
theorem at_d : ∀ t : Fin cfg0.N, (cfg0.win (1 : Fin 3)).index t = (![t.val % 2, t.val / 2 % 1] : Fin 2 → ℕ) := by decide +kernel

variable (m : (ℓ : Loc nD τ sig) → Buf (Elt Ideal) ℓ) (c : Dev nD)

theorem read_x (t : Fin cfg0.N) (k : Fin 2048) (a : Fin 1024) (K : Fin 4096) (A : Fin 1024) (hK : K.val = t.val % 2 * 2048 + k.val)
    (hA : A.val = t.val / 2 / 1 * 1024 + a.val) :
    iblk m c 0 t (ix2 k a) = m ((c.tc : Thread nD τ).loc main_arg0) (ix2 K A) := by
  refine Eq.trans (congrArg (V m c main_arg0) (funext fun z => Fin.ext ?_)) (congrFun (V_main_arg0 m c) _)
  refine (((cfg0.win (0 : Fin 3))).rect_emb_val t (ix2 k a) z).trans ?_
  rw [at_x]
  match z with
  | ⟨0, _⟩ => show t.val % 2 * 2048 + k.val = K.val; omega
  | ⟨1, _⟩ => show t.val / 2 / 1 * 1024 + a.val = A.val; omega

theorem read_d (t : Fin cfg0.N) (k : Fin 2048) (b : Fin 1024) (K : Fin 4096) (B : Fin 1024) (hK : K.val = t.val % 2 * 2048 + k.val)
    (hB : B.val = t.val / 2 % 1 * 1024 + b.val) :
    iblk m c 1 t (ix2 k b) = m ((c.tc : Thread nD τ).loc main_arg2) (ix2 K B) := by
  refine Eq.trans (congrArg (V m c main_arg2) (funext fun z => Fin.ext ?_)) (congrFun (V_main_arg2 m c) _)
  refine (((cfg0.win (1 : Fin 3))).rect_emb_val t (ix2 k b) z).trans ?_
  rw [at_d]
  match z with
  | ⟨0, _⟩ => show t.val % 2 * 2048 + k.val = K.val; omega
  | ⟨1, _⟩ => show t.val / 2 % 1 * 1024 + b.val = B.val; omega

/-- The result at an index: the sum of the products over the whole sequence. -/
theorem value (p : Fin 1024) (q : Fin 1024) :
    (Value.G2 m c (ix2 p q) : EReal) = ∑ l : Fin 4096, Cert.Products.num (m ((c.tc : Thread nD τ).loc main_arg0) (ix2 l p)) * Cert.Products.num (m ((c.tc : Thread nD τ).loc main_arg2) (ix2 l q)) := by
  have hp := p.isLt
  have hq := q.isLt
  have hN : cfg0.N = 2 := N_0
  have hr : Value.run2Of (ix2 p q) = 1 * (p.val / 1024) + q.val / 1024 := by
    show 1 * (p.val / 1024 - 0) + 1 * (q.val / 1024 - 0) = _
    omega
  unfold Value.G2
  rw [dif_pos (by rw [hr, hN]; omega), Pipeline.accAt_succ, Pipeline.accAt_zero]
  have hl : Value.loc2Of (ix2 p q) = ix2 (⟨p.val % 1024, Nat.mod_lt _ (by decide)⟩ : Fin 1024) (⟨q.val % 1024, Nat.mod_lt _ (by decide)⟩ : Fin 1024) := by
    funext z
    match z with
    | ⟨0, _⟩ => rfl
    | ⟨1, _⟩ => rfl
  rw [hl]
  unfold Value.step2 Value.reset2
  rw [step_apply, step_apply, zero_apply, zero_add, Cert.Products.sum_two (n := 2048) rfl]
  refine congrArg₂ (fun a b : EReal => a + b) (Finset.sum_congr rfl fun k _ => ?_) (Finset.sum_congr rfl fun k _ => ?_)
  · have hk := k.isLt
    exact congrArg₂ (fun a b : EReal => a * b)
      (read_x m c _ k _ _ _ (by simp only [hr]; omega) (by simp only [hr]; omega)) (read_d m c _ k _ _ _ (by simp only [hr]; omega) (by simp only [hr]; omega))
  · have hk := k.isLt
    exact congrArg₂ (fun a b : EReal => a * b)
      (read_x m c _ k _ _ _ (by simp only [hr]; omega) (by simp only [hr]; omega)) (read_d m c _ k _ _ _ (by simp only [hr]; omega) (by simp only [hr]; omega))

/-- The reference at an index: the same sum. -/
theorem wanted (x : (⟨Cert.OutDwRefIdeal.S4096x1024, .bf16⟩ : BufTy).Contents (Elt Ideal)) (d : (⟨Cert.OutDwRefIdeal.S4096x1024, .bf16⟩ : BufTy).Contents (Elt Ideal)) (p : Fin 1024) (q : Fin 1024) :
    Cert.OutDwRefIdeal.Read.val_main_v5 (F := Ideal) x d (ix2 p q) = ∑ l : Fin 4096, (x (ix2 l p) : EReal) * d (ix2 l q) := by
  rw [Cert.OutDwRefIdeal.Read.val_main_v5_apply, Cert.OutDwRefIdeal.Read.val_main_v4_apply]
  refine Finset.sum_congr rfl fun l _ => (mul_comm _ _).trans (congrArg₂ (fun a b : EReal => a * b) ?_ ?_)
  · refine (Cert.OutDwRefIdeal.Read.val_main_v0_apply (F := Ideal) x _).trans (congrArg x (funext fun z => ?_))
    match z with
    | ⟨0, _⟩ => rfl
    | ⟨1, _⟩ => rfl
  · refine (Cert.OutDwRefIdeal.Read.val_main_v3_apply (F := Ideal) d _).trans (congrArg d (funext fun z => ?_))
    match z with
    | ⟨0, _⟩ => rfl
    | ⟨1, _⟩ => rfl

/-- Kernel and reference end with the same array. -/
theorem algebraic : Cert.algebraic_OutDwIdeal_OutDwRefIdeal := by
  intro m g m' g' _ hag
  refine ⟨fun c => Value.G2 m c, Value.run m g, (θ_run _ _ _).mono (fun r h c => ?_) (Cert.OutDwRefIdeal.Value.run (F := Ideal) m' g')⟩
  refine ⟨((h c).1.trans (Cert.OutDwRefIdeal.Read.val_main_v5_eq (m' ((c.tc : Thread Cert.OutDwRefIdeal.nD Cert.OutDwRefIdeal.τ).loc Cert.OutDwRefIdeal.main_arg0)) (m' ((c.tc : Thread Cert.OutDwRefIdeal.nD Cert.OutDwRefIdeal.τ).loc Cert.OutDwRefIdeal.main_arg2)))).trans ?_, (h c).2⟩
  rw [(hag c).1, (hag c).2.2]
  funext i
  rw [eq_ix2 i]
  exact (wanted (m ((c.tc : Thread nD τ).loc main_arg0)) (m ((c.tc : Thread nD τ).loc main_arg2)) _ _).trans (value m c _ _).symm

/-- The kernel's run, as printed. -/
theorem frame : Cert.quiescent_OutDw := fun m ρ _ => Cert.OutDw.Gen.frame m ρ
/-- The idealized kernel's run. -/
theorem frame_ideal : Cert.quiescent_OutDwIdeal := fun m ρ _ => Cert.OutDwIdeal.Gen.frame m ρ
/-- The reference's run. -/
theorem frame_ref : Cert.quiescent_OutDwRefIdeal := fun m g _ =>
  (θ_run Cert.OutDwRefIdeal.defs _ _).mono
    (fun r h => ⟨fun c => (h c).2, sem_eq_zero_of_no_sems (by decide) r.2⟩) (Cert.OutDwRefIdeal.Value.run (F := Ideal) m g)
theorem preserves : Cert.preserves_OutDw_OutDwIdeal := trivial

end Cert.OutDwIdeal.Own

end
-- ==== Proof.Products.BranchAttnDw.lean ====
/-
  The gradient of the attention branch's output weights, one slice of columns per chip: two points per slice, each adding half the sequence.
-/
module

public import proofs.«01_k».proof.Defs
public import proofs.«01_k».proof.Proof.Gen.BranchAttnDw.Frame
public import proofs.«01_k».proof.Proof.Gen.BranchAttnDwIdeal.Value
public import proofs.«01_k».proof.Proof.Gen.BranchAttnDwRefIdeal.Read
public import proofs.«01_k».proof.Proof.Products.Sums

@[expose] public section

set_option maxRecDepth 16384
set_option Elab.async false

noncomputable section

namespace Cert.BranchAttnDwIdeal.Own

open Cert.BranchAttnDwIdeal Cert.BranchAttnDwIdeal.Gen
open Idealize.ShloMosaic
open Idealize.ShloMosaic.TcCoe
open Idealize.SL.Sem
open Idealize.ShloMosaic.Pipeline (Dat Cfg Window)

theorem zero_apply (a : Fin 1024) (b : Fin 256) : k0_pay1 (F := Ideal) (ix3 (0 : Fin 1) a b) = 0 := by pointwise [k0_pay1]
theorem step_apply (acc : Vec Ideal S1x1024x256 .f32) (x : Vec Ideal S2048x1024 .bf16) (y : Vec Ideal S2048x256 .bf16) (a : Fin 1024) (b : Fin 256) :
    k0_pay2 (F := Ideal) acc x y (ix3 (0 : Fin 1) a b) = (acc (ix3 (0 : Fin 1) a b) : EReal) + ∑ k : Fin 2048, (x (ix2 k a) : EReal) * y (ix2 k b) := by pointwise [k0_pay2]

theorem at_x : ∀ t : Fin cfg0.N, (cfg0.win (0 : Fin 3)).index t = (![t.val % 2, 0] : Fin 2 → ℕ) := by decide +kernel
theorem at_d : ∀ t : Fin cfg0.N, (cfg0.win (1 : Fin 3)).index t = (![t.val % 2, t.val / 2] : Fin 2 → ℕ) := by decide +kernel

variable (m : (ℓ : Loc nD τ sig) → Buf (Elt Ideal) ℓ) (c : Dev nD)

theorem read_x (t : Fin cfg0.N) (k : Fin 2048) (a : Fin 1024) (K : Fin 4096) (A : Fin 1024) (hK : K.val = t.val % 2 * 2048 + k.val) (hA : A.val = 0 * 1024 + a.val) :
    iblk m c 0 t (ix2 k a) = m ((c.tc : Thread nD τ).loc main_arg0) (ix2 K A) := by
  refine Eq.trans (congrArg (V m c main_arg0) (funext fun z => Fin.ext ?_)) (congrFun (V_main_arg0 m c) _)
  refine ((cfg0.win (0 : Fin 3)).rect_emb_val t (ix2 k a) z).trans ?_
  rw [at_x]
  match z with
  | ⟨0, _⟩ => show t.val % 2 * 2048 + k.val = K.val; omega
  | ⟨1, _⟩ => show 0 * 1024 + a.val = A.val; omega

theorem read_d (t : Fin cfg0.N) (k : Fin 2048) (a : Fin 256) (K : Fin 4096) (A : Fin 1024) (hK : K.val = t.val % 2 * 2048 + k.val) (hA : A.val = t.val / 2 * 256 + a.val) :
    iblk m c 1 t (ix2 k a) = m ((c.tc : Thread nD τ).loc main_arg2) (ix2 K A) := by
  refine Eq.trans (congrArg (V m c main_arg2) (funext fun z => Fin.ext ?_)) (congrFun (V_main_arg2 m c) _)
  refine ((cfg0.win (1 : Fin 3)).rect_emb_val t (ix2 k a) z).trans ?_
  rw [at_d]
  match z with
  | ⟨0, _⟩ => show t.val % 2 * 2048 + k.val = K.val; omega
  | ⟨1, _⟩ => show t.val / 2 * 256 + a.val = A.val; omega

/-- The result at an index: the sum of the products over the whole sequence. -/
theorem value (s : Fin 4) (p : Fin 1024) (q : Fin 256) :
    (Value.G2 m c (ix3 s p q) : EReal) = ∑ l : Fin 4096, Cert.Products.num (m ((c.tc : Thread nD τ).loc main_arg0) (ix2 l p)) * Cert.Products.num (m ((c.tc : Thread nD τ).loc main_arg2) (ix2 l (⟨s.val * 256 + q.val, by have := s.isLt; have := q.isLt; omega⟩ : Fin 1024))) := by
  have hs := s.isLt
  have hp := p.isLt
  have hq := q.isLt
  have hN : cfg0.N = 8 := N_0
  have hr : Value.run2Of (ix3 s p q) = s.val := by
    show 1 * (s.val / 1 - 0) + 1 * (p.val / 1024 - 0) + 1 * (q.val / 256 - 0) = _
    omega
  unfold Value.G2
  rw [dif_pos (by rw [hr, hN]; omega), Pipeline.accAt_succ, Pipeline.accAt_zero]
  have hl : Value.loc2Of (ix3 s p q) = ix3 (0 : Fin 1) p q := by
    funext z
    match z with
    | ⟨0, _⟩ => exact Fin.ext (show s.val % 1 = 0 by omega)
    | ⟨1, _⟩ => exact Fin.ext (show p.val % 1024 = p.val by omega)
    | ⟨2, _⟩ => exact Fin.ext (show q.val % 256 = q.val by omega)
  rw [hl]
  unfold Value.step2 Value.reset2
  rw [step_apply, step_apply, zero_apply, zero_add, Cert.Products.sum_two (n := 2048) rfl]
  refine congrArg₂ (fun a b : EReal => a + b) (Finset.sum_congr rfl fun k _ => ?_) (Finset.sum_congr rfl fun k _ => ?_)
  · have hk := k.isLt
    exact congrArg₂ (fun a b : EReal => a * b) (read_x m c _ k _ _ _ (by simp only [hr]; omega) (by omega)) (read_d m c _ k _ _ _ (by simp only [hr]; omega) (by simp only [hr]; omega))
  · have hk := k.isLt
    exact congrArg₂ (fun a b : EReal => a * b) (read_x m c _ k _ _ _ (by simp only [hr]; omega) (by omega)) (read_d m c _ k _ _ _ (by simp only [hr]; omega) (by simp only [hr]; omega))

/-- The reference at an index: the same sum. -/
theorem wanted (x : (⟨Cert.BranchAttnDwRefIdeal.S4096x1024, .bf16⟩ : BufTy).Contents (Elt Ideal)) (d : (⟨Cert.BranchAttnDwRefIdeal.S4096x1024, .bf16⟩ : BufTy).Contents (Elt Ideal)) (s : Fin 4) (p : Fin 1024) (q : Fin 256) :
    (Cert.BranchAttnDwRefIdeal.Read.val_main_v8 (F := Ideal) x d (ix3 s p q) : EReal) = ∑ l : Fin 4096, Cert.Products.num (x (ix2 l p)) * Cert.Products.num (d (ix2 l (⟨s.val * 256 + q.val, by have := s.isLt; have := q.isLt; omega⟩ : Fin 1024))) := by
  have hs := s.isLt
  have hp := p.isLt
  have hq := q.isLt
  rw [Cert.BranchAttnDwRefIdeal.Read.val_main_v8_apply, Cert.BranchAttnDwRefIdeal.Read.val_main_v7_apply, Cert.BranchAttnDwRefIdeal.Read.val_main_v5_apply, Cert.BranchAttnDwRefIdeal.Read.val_main_v4_apply]
  refine Finset.sum_congr rfl fun l _ => (mul_comm _ _).trans (congrArg₂ (fun a b : EReal => a * b) ?_ ?_)
  · refine (Cert.BranchAttnDwRefIdeal.Read.val_main_v0_apply (F := Ideal) x _).trans (congrArg x (funext fun z => ?_))
    match z with
    | ⟨0, _⟩ => rfl
    | ⟨1, _⟩ => exact Fin.ext (show ((p.val * 4 + s.val) * 256 + q.val) / 1024 = p.val by omega)
  · refine (Cert.BranchAttnDwRefIdeal.Read.val_main_v3_apply (F := Ideal) d _).trans (congrArg d (funext fun z => ?_))
    match z with
    | ⟨0, _⟩ => rfl
    | ⟨1, _⟩ => exact Fin.ext (show ((p.val * 4 + s.val) * 256 + q.val) % 1024 = s.val * 256 + q.val by omega)

/-- Kernel and reference end with the same array. -/
theorem algebraic : Cert.algebraic_BranchAttnDwIdeal_BranchAttnDwRefIdeal := by
  intro m g m' g' _ hag
  refine ⟨fun c => Value.G2 m c, Value.run m g, (θ_run _ _ _).mono (fun r h c => ?_) (Cert.BranchAttnDwRefIdeal.Value.run (F := Ideal) m' g')⟩
  refine ⟨((h c).1.trans (Cert.BranchAttnDwRefIdeal.Read.val_main_v8_eq (m' ((c.tc : Thread Cert.BranchAttnDwRefIdeal.nD Cert.BranchAttnDwRefIdeal.τ).loc Cert.BranchAttnDwRefIdeal.main_arg0)) (m' ((c.tc : Thread Cert.BranchAttnDwRefIdeal.nD Cert.BranchAttnDwRefIdeal.τ).loc Cert.BranchAttnDwRefIdeal.main_arg2)))).trans ?_, (h c).2⟩
  rw [(hag c).1, (hag c).2.2]
  funext i
  rw [eq_ix3 i]
  exact (wanted (m ((c.tc : Thread nD τ).loc main_arg0)) (m ((c.tc : Thread nD τ).loc main_arg2)) _ _ _).trans (value m c _ _ _).symm

/-- The kernel's run, as printed. -/
theorem frame : Cert.quiescent_BranchAttnDw := fun m ρ _ => Cert.BranchAttnDw.Gen.frame m ρ
/-- The idealized kernel's run. -/
theorem frame_ideal : Cert.quiescent_BranchAttnDwIdeal := fun m ρ _ => Cert.BranchAttnDwIdeal.Gen.frame m ρ
/-- The reference's run. -/
theorem frame_ref : Cert.quiescent_BranchAttnDwRefIdeal := fun m g _ =>
  (θ_run Cert.BranchAttnDwRefIdeal.defs _ _).mono
    (fun r h => ⟨fun c => (h c).2, sem_eq_zero_of_no_sems (by decide) r.2⟩) (Cert.BranchAttnDwRefIdeal.Value.run (F := Ideal) m g)
theorem preserves : Cert.preserves_BranchAttnDw_BranchAttnDwIdeal := trivial

end Cert.BranchAttnDwIdeal.Own

end
-- ==== Proof.Products.BranchSsmDw.lean ====
/-
  The gradient of the state-space branch's output weights, one slice of columns per chip: two points per slice, each adding half the sequence.
-/
module

public import proofs.«01_k».proof.Defs
public import proofs.«01_k».proof.Proof.Gen.BranchSsmDw.Frame
public import proofs.«01_k».proof.Proof.Gen.BranchSsmDwIdeal.Value
public import proofs.«01_k».proof.Proof.Gen.BranchSsmDwRefIdeal.Read
public import proofs.«01_k».proof.Proof.Products.Sums

@[expose] public section

set_option maxRecDepth 16384
set_option Elab.async false

noncomputable section

namespace Cert.BranchSsmDwIdeal.Own

open Cert.BranchSsmDwIdeal Cert.BranchSsmDwIdeal.Gen
open Idealize.ShloMosaic
open Idealize.ShloMosaic.TcCoe
open Idealize.SL.Sem
open Idealize.ShloMosaic.Pipeline (Dat Cfg Window)

theorem zero_apply (a : Fin 512) (b : Fin 256) : k0_pay1 (F := Ideal) (ix3 (0 : Fin 1) a b) = 0 := by pointwise [k0_pay1]
theorem step_apply (acc : Vec Ideal S1x512x256 .f32) (x : Vec Ideal S2048x512 .bf16) (y : Vec Ideal S2048x256 .bf16) (a : Fin 512) (b : Fin 256) :
    k0_pay2 (F := Ideal) acc x y (ix3 (0 : Fin 1) a b) = (acc (ix3 (0 : Fin 1) a b) : EReal) + ∑ k : Fin 2048, (x (ix2 k a) : EReal) * y (ix2 k b) := by pointwise [k0_pay2]

theorem at_x : ∀ t : Fin cfg0.N, (cfg0.win (0 : Fin 3)).index t = (![t.val % 2, 0] : Fin 2 → ℕ) := by decide +kernel
theorem at_d : ∀ t : Fin cfg0.N, (cfg0.win (1 : Fin 3)).index t = (![t.val % 2, t.val / 2] : Fin 2 → ℕ) := by decide +kernel

variable (m : (ℓ : Loc nD τ sig) → Buf (Elt Ideal) ℓ) (c : Dev nD)

theorem read_x (t : Fin cfg0.N) (k : Fin 2048) (a : Fin 512) (K : Fin 4096) (A : Fin 512) (hK : K.val = t.val % 2 * 2048 + k.val) (hA : A.val = 0 * 512 + a.val) :
    iblk m c 0 t (ix2 k a) = m ((c.tc : Thread nD τ).loc main_arg0) (ix2 K A) := by
  refine Eq.trans (congrArg (V m c main_arg0) (funext fun z => Fin.ext ?_)) (congrFun (V_main_arg0 m c) _)
  refine ((cfg0.win (0 : Fin 3)).rect_emb_val t (ix2 k a) z).trans ?_
  rw [at_x]
  match z with
  | ⟨0, _⟩ => show t.val % 2 * 2048 + k.val = K.val; omega
  | ⟨1, _⟩ => show 0 * 512 + a.val = A.val; omega

theorem read_d (t : Fin cfg0.N) (k : Fin 2048) (a : Fin 256) (K : Fin 4096) (A : Fin 1024) (hK : K.val = t.val % 2 * 2048 + k.val) (hA : A.val = t.val / 2 * 256 + a.val) :
    iblk m c 1 t (ix2 k a) = m ((c.tc : Thread nD τ).loc main_arg2) (ix2 K A) := by
  refine Eq.trans (congrArg (V m c main_arg2) (funext fun z => Fin.ext ?_)) (congrFun (V_main_arg2 m c) _)
  refine ((cfg0.win (1 : Fin 3)).rect_emb_val t (ix2 k a) z).trans ?_
  rw [at_d]
  match z with
  | ⟨0, _⟩ => show t.val % 2 * 2048 + k.val = K.val; omega
  | ⟨1, _⟩ => show t.val / 2 * 256 + a.val = A.val; omega

/-- The result at an index: the sum of the products over the whole sequence. -/
theorem value (s : Fin 4) (p : Fin 512) (q : Fin 256) :
    (Value.G2 m c (ix3 s p q) : EReal) = ∑ l : Fin 4096, Cert.Products.num (m ((c.tc : Thread nD τ).loc main_arg0) (ix2 l p)) * Cert.Products.num (m ((c.tc : Thread nD τ).loc main_arg2) (ix2 l (⟨s.val * 256 + q.val, by have := s.isLt; have := q.isLt; omega⟩ : Fin 1024))) := by
  have hs := s.isLt
  have hp := p.isLt
  have hq := q.isLt
  have hN : cfg0.N = 8 := N_0
  have hr : Value.run2Of (ix3 s p q) = s.val := by
    show 1 * (s.val / 1 - 0) + 1 * (p.val / 512 - 0) + 1 * (q.val / 256 - 0) = _
    omega
  unfold Value.G2
  rw [dif_pos (by rw [hr, hN]; omega), Pipeline.accAt_succ, Pipeline.accAt_zero]
  have hl : Value.loc2Of (ix3 s p q) = ix3 (0 : Fin 1) p q := by
    funext z
    match z with
    | ⟨0, _⟩ => exact Fin.ext (show s.val % 1 = 0 by omega)
    | ⟨1, _⟩ => exact Fin.ext (show p.val % 512 = p.val by omega)
    | ⟨2, _⟩ => exact Fin.ext (show q.val % 256 = q.val by omega)
  rw [hl]
  unfold Value.step2 Value.reset2
  rw [step_apply, step_apply, zero_apply, zero_add, Cert.Products.sum_two (n := 2048) rfl]
  refine congrArg₂ (fun a b : EReal => a + b) (Finset.sum_congr rfl fun k _ => ?_) (Finset.sum_congr rfl fun k _ => ?_)
  · have hk := k.isLt
    exact congrArg₂ (fun a b : EReal => a * b) (read_x m c _ k _ _ _ (by simp only [hr]; omega) (by omega)) (read_d m c _ k _ _ _ (by simp only [hr]; omega) (by simp only [hr]; omega))
  · have hk := k.isLt
    exact congrArg₂ (fun a b : EReal => a * b) (read_x m c _ k _ _ _ (by simp only [hr]; omega) (by omega)) (read_d m c _ k _ _ _ (by simp only [hr]; omega) (by simp only [hr]; omega))

/-- The reference at an index: the same sum. -/
theorem wanted (x : (⟨Cert.BranchSsmDwRefIdeal.S4096x512, .bf16⟩ : BufTy).Contents (Elt Ideal)) (d : (⟨Cert.BranchSsmDwRefIdeal.S4096x1024, .bf16⟩ : BufTy).Contents (Elt Ideal)) (s : Fin 4) (p : Fin 512) (q : Fin 256) :
    (Cert.BranchSsmDwRefIdeal.Read.val_main_v8 (F := Ideal) x d (ix3 s p q) : EReal) = ∑ l : Fin 4096, Cert.Products.num (x (ix2 l p)) * Cert.Products.num (d (ix2 l (⟨s.val * 256 + q.val, by have := s.isLt; have := q.isLt; omega⟩ : Fin 1024))) := by
  have hs := s.isLt
  have hp := p.isLt
  have hq := q.isLt
  rw [Cert.BranchSsmDwRefIdeal.Read.val_main_v8_apply, Cert.BranchSsmDwRefIdeal.Read.val_main_v7_apply, Cert.BranchSsmDwRefIdeal.Read.val_main_v5_apply, Cert.BranchSsmDwRefIdeal.Read.val_main_v4_apply]
  refine Finset.sum_congr rfl fun l _ => (mul_comm _ _).trans (congrArg₂ (fun a b : EReal => a * b) ?_ ?_)
  · refine (Cert.BranchSsmDwRefIdeal.Read.val_main_v0_apply (F := Ideal) x _).trans (congrArg x (funext fun z => ?_))
    match z with
    | ⟨0, _⟩ => rfl
    | ⟨1, _⟩ => exact Fin.ext (show ((p.val * 4 + s.val) * 256 + q.val) / 1024 = p.val by omega)
  · refine (Cert.BranchSsmDwRefIdeal.Read.val_main_v3_apply (F := Ideal) d _).trans (congrArg d (funext fun z => ?_))
    match z with
    | ⟨0, _⟩ => rfl
    | ⟨1, _⟩ => exact Fin.ext (show ((p.val * 4 + s.val) * 256 + q.val) % 1024 = s.val * 256 + q.val by omega)

/-- Kernel and reference end with the same array. -/
theorem algebraic : Cert.algebraic_BranchSsmDwIdeal_BranchSsmDwRefIdeal := by
  intro m g m' g' _ hag
  refine ⟨fun c => Value.G2 m c, Value.run m g, (θ_run _ _ _).mono (fun r h c => ?_) (Cert.BranchSsmDwRefIdeal.Value.run (F := Ideal) m' g')⟩
  refine ⟨((h c).1.trans (Cert.BranchSsmDwRefIdeal.Read.val_main_v8_eq (m' ((c.tc : Thread Cert.BranchSsmDwRefIdeal.nD Cert.BranchSsmDwRefIdeal.τ).loc Cert.BranchSsmDwRefIdeal.main_arg0)) (m' ((c.tc : Thread Cert.BranchSsmDwRefIdeal.nD Cert.BranchSsmDwRefIdeal.τ).loc Cert.BranchSsmDwRefIdeal.main_arg2)))).trans ?_, (h c).2⟩
  rw [(hag c).1, (hag c).2.2]
  funext i
  rw [eq_ix3 i]
  exact (wanted (m ((c.tc : Thread nD τ).loc main_arg0)) (m ((c.tc : Thread nD τ).loc main_arg2)) _ _ _).trans (value m c _ _ _).symm

/-- The kernel's run, as printed. -/
theorem frame : Cert.quiescent_BranchSsmDw := fun m ρ _ => Cert.BranchSsmDw.Gen.frame m ρ
/-- The idealized kernel's run. -/
theorem frame_ideal : Cert.quiescent_BranchSsmDwIdeal := fun m ρ _ => Cert.BranchSsmDwIdeal.Gen.frame m ρ
/-- The reference's run. -/
theorem frame_ref : Cert.quiescent_BranchSsmDwRefIdeal := fun m g _ =>
  (θ_run Cert.BranchSsmDwRefIdeal.defs _ _).mono
    (fun r h => ⟨fun c => (h c).2, sem_eq_zero_of_no_sems (by decide) r.2⟩) (Cert.BranchSsmDwRefIdeal.Value.run (F := Ideal) m g)
theorem preserves : Cert.preserves_BranchSsmDw_BranchSsmDwIdeal := trivial

end Cert.BranchSsmDwIdeal.Own

end
-- ==== Proof.Products.GluDw.lean ====
/-
  The gradient of a product's weights (the call of GluDw): two points per block of the result, each adding half the sequence.
-/
module

public import proofs.«01_k».proof.Defs
public import proofs.«01_k».proof.Proof.Gen.GluDw.Frame
public import proofs.«01_k».proof.Proof.Gen.GluDwIdeal.Value
public import proofs.«01_k».proof.Proof.Gen.GluDwRefIdeal.Read
public import proofs.«01_k».proof.Proof.Products.Sums

@[expose] public section

set_option maxRecDepth 16384
set_option Elab.async false

noncomputable section

namespace Cert.GluDwIdeal.Own

open Cert.GluDwIdeal Cert.GluDwIdeal.Gen
open Idealize.ShloMosaic
open Idealize.ShloMosaic.TcCoe
open Idealize.SL.Sem
open Idealize.ShloMosaic.Pipeline (Dat Cfg Window)

theorem zero_apply (a : Fin 512) (b : Fin 512) : k0_pay1 (F := Ideal) (ix2 a b) = 0 := by pointwise [k0_pay1]
theorem step_apply (acc : Vec Ideal S512x512 .f32) (x : Vec Ideal S2048x512 .bf16) (y : Vec Ideal S2048x512 .bf16) (a : Fin 512) (b : Fin 512) :
    k0_pay2 (F := Ideal) acc x y (ix2 a b) = (acc (ix2 a b) : EReal) + ∑ k : Fin 2048, (x (ix2 k a) : EReal) * y (ix2 k b) := by pointwise [k0_pay2]

theorem at_x : ∀ t : Fin cfg0.N, (cfg0.win (0 : Fin 3)).index t = (![t.val % 2, t.val / 2 / 1] : Fin 2 → ℕ) := by decide +kernel
theorem at_d : ∀ t : Fin cfg0.N, (cfg0.win (1 : Fin 3)).index t = (![t.val % 2, t.val / 2 % 1] : Fin 2 → ℕ) := by decide +kernel

variable (m : (ℓ : Loc nD τ sig) → Buf (Elt Ideal) ℓ) (c : Dev nD)

theorem read_x (t : Fin cfg0.N) (k : Fin 2048) (a : Fin 512) (K : Fin 4096) (A : Fin 512) (hK : K.val = t.val % 2 * 2048 + k.val)
    (hA : A.val = t.val / 2 / 1 * 512 + a.val) :
    iblk m c 0 t (ix2 k a) = m ((c.tc : Thread nD τ).loc main_arg0) (ix2 K A) := by
  refine Eq.trans (congrArg (V m c main_arg0) (funext fun z => Fin.ext ?_)) (congrFun (V_main_arg0 m c) _)
  refine (((cfg0.win (0 : Fin 3))).rect_emb_val t (ix2 k a) z).trans ?_
  rw [at_x]
  match z with
  | ⟨0, _⟩ => show t.val % 2 * 2048 + k.val = K.val; omega
  | ⟨1, _⟩ => show t.val / 2 / 1 * 512 + a.val = A.val; omega

theorem read_d (t : Fin cfg0.N) (k : Fin 2048) (b : Fin 512) (K : Fin 4096) (B : Fin 512) (hK : K.val = t.val % 2 * 2048 + k.val)
    (hB : B.val = t.val / 2 % 1 * 512 + b.val) :
    iblk m c 1 t (ix2 k b) = m ((c.tc : Thread nD τ).loc main_arg2) (ix2 K B) := by
  refine Eq.trans (congrArg (V m c main_arg2) (funext fun z => Fin.ext ?_)) (congrFun (V_main_arg2 m c) _)
  refine (((cfg0.win (1 : Fin 3))).rect_emb_val t (ix2 k b) z).trans ?_
  rw [at_d]
  match z with
  | ⟨0, _⟩ => show t.val % 2 * 2048 + k.val = K.val; omega
  | ⟨1, _⟩ => show t.val / 2 % 1 * 512 + b.val = B.val; omega

/-- The result at an index: the sum of the products over the whole sequence. -/
theorem value (p : Fin 512) (q : Fin 512) :
    (Value.G2 m c (ix2 p q) : EReal) = ∑ l : Fin 4096, Cert.Products.num (m ((c.tc : Thread nD τ).loc main_arg0) (ix2 l p)) * Cert.Products.num (m ((c.tc : Thread nD τ).loc main_arg2) (ix2 l q)) := by
  have hp := p.isLt
  have hq := q.isLt
  have hN : cfg0.N = 2 := N_0
  have hr : Value.run2Of (ix2 p q) = 1 * (p.val / 512) + q.val / 512 := by
    show 1 * (p.val / 512 - 0) + 1 * (q.val / 512 - 0) = _
    omega
  unfold Value.G2
  rw [dif_pos (by rw [hr, hN]; omega), Pipeline.accAt_succ, Pipeline.accAt_zero]
  have hl : Value.loc2Of (ix2 p q) = ix2 (⟨p.val % 512, Nat.mod_lt _ (by decide)⟩ : Fin 512) (⟨q.val % 512, Nat.mod_lt _ (by decide)⟩ : Fin 512) := by
    funext z
    match z with
    | ⟨0, _⟩ => rfl
    | ⟨1, _⟩ => rfl
  rw [hl]
  unfold Value.step2 Value.reset2
  rw [step_apply, step_apply, zero_apply, zero_add, Cert.Products.sum_two (n := 2048) rfl]
  refine congrArg₂ (fun a b : EReal => a + b) (Finset.sum_congr rfl fun k _ => ?_) (Finset.sum_congr rfl fun k _ => ?_)
  · have hk := k.isLt
    exact congrArg₂ (fun a b : EReal => a * b)
      (read_x m c _ k _ _ _ (by simp only [hr]; omega) (by simp only [hr]; omega)) (read_d m c _ k _ _ _ (by simp only [hr]; omega) (by simp only [hr]; omega))
  · have hk := k.isLt
    exact congrArg₂ (fun a b : EReal => a * b)
      (read_x m c _ k _ _ _ (by simp only [hr]; omega) (by simp only [hr]; omega)) (read_d m c _ k _ _ _ (by simp only [hr]; omega) (by simp only [hr]; omega))

/-- The reference at an index: the same sum. -/
theorem wanted (x : (⟨Cert.GluDwRefIdeal.S4096x512, .bf16⟩ : BufTy).Contents (Elt Ideal)) (d : (⟨Cert.GluDwRefIdeal.S4096x512, .bf16⟩ : BufTy).Contents (Elt Ideal)) (p : Fin 512) (q : Fin 512) :
    Cert.GluDwRefIdeal.Read.val_main_v5 (F := Ideal) x d (ix2 p q) = ∑ l : Fin 4096, (x (ix2 l p) : EReal) * d (ix2 l q) := by
  rw [Cert.GluDwRefIdeal.Read.val_main_v5_apply, Cert.GluDwRefIdeal.Read.val_main_v4_apply]
  refine Finset.sum_congr rfl fun l _ => (mul_comm _ _).trans (congrArg₂ (fun a b : EReal => a * b) ?_ ?_)
  · refine (Cert.GluDwRefIdeal.Read.val_main_v0_apply (F := Ideal) x _).trans (congrArg x (funext fun z => ?_))
    match z with
    | ⟨0, _⟩ => rfl
    | ⟨1, _⟩ => rfl
  · refine (Cert.GluDwRefIdeal.Read.val_main_v3_apply (F := Ideal) d _).trans (congrArg d (funext fun z => ?_))
    match z with
    | ⟨0, _⟩ => rfl
    | ⟨1, _⟩ => rfl

/-- Kernel and reference end with the same array. -/
theorem algebraic : Cert.algebraic_GluDwIdeal_GluDwRefIdeal := by
  intro m g m' g' _ hag
  refine ⟨fun c => Value.G2 m c, Value.run m g, (θ_run _ _ _).mono (fun r h c => ?_) (Cert.GluDwRefIdeal.Value.run (F := Ideal) m' g')⟩
  refine ⟨((h c).1.trans (Cert.GluDwRefIdeal.Read.val_main_v5_eq (m' ((c.tc : Thread Cert.GluDwRefIdeal.nD Cert.GluDwRefIdeal.τ).loc Cert.GluDwRefIdeal.main_arg0)) (m' ((c.tc : Thread Cert.GluDwRefIdeal.nD Cert.GluDwRefIdeal.τ).loc Cert.GluDwRefIdeal.main_arg2)))).trans ?_, (h c).2⟩
  rw [(hag c).1, (hag c).2.2]
  funext i
  rw [eq_ix2 i]
  exact (wanted (m ((c.tc : Thread nD τ).loc main_arg0)) (m ((c.tc : Thread nD τ).loc main_arg2)) _ _).trans (value m c _ _).symm

/-- The kernel's run, as printed. -/
theorem frame : Cert.quiescent_GluDw := fun m ρ _ => Cert.GluDw.Gen.frame m ρ
/-- The idealized kernel's run. -/
theorem frame_ideal : Cert.quiescent_GluDwIdeal := fun m ρ _ => Cert.GluDwIdeal.Gen.frame m ρ
/-- The reference's run. -/
theorem frame_ref : Cert.quiescent_GluDwRefIdeal := fun m g _ =>
  (θ_run Cert.GluDwRefIdeal.defs _ _).mono
    (fun r h => ⟨fun c => (h c).2, sem_eq_zero_of_no_sems (by decide) r.2⟩) (Cert.GluDwRefIdeal.Value.run (F := Ideal) m g)
theorem preserves : Cert.preserves_GluDw_GluDwIdeal := trivial

end Cert.GluDwIdeal.Own

end
-- ==== Proof.Products.InDw.lean ====
/-
  The gradient of a product's weights (the call of InDw): two points per block of the result, each adding half the sequence.
-/
module

public import proofs.«01_k».proof.Defs
public import proofs.«01_k».proof.Proof.Gen.InDw.Frame
public import proofs.«01_k».proof.Proof.Gen.InDwIdeal.Value
public import proofs.«01_k».proof.Proof.Gen.InDwRefIdeal.Read
public import proofs.«01_k».proof.Proof.Products.Sums

@[expose] public section

set_option maxRecDepth 16384
set_option Elab.async false

noncomputable section

namespace Cert.InDwIdeal.Own

open Cert.InDwIdeal Cert.InDwIdeal.Gen
open Idealize.ShloMosaic
open Idealize.ShloMosaic.TcCoe
open Idealize.SL.Sem
open Idealize.ShloMosaic.Pipeline (Dat Cfg Window)

theorem zero_apply (a : Fin 1024) (b : Fin 1664) : k0_pay1 (F := Ideal) (ix2 a b) = 0 := by pointwise [k0_pay1]
theorem step_apply (acc : Vec Ideal S1024x1664 .f32) (x : Vec Ideal S2048x1024 .bf16) (y : Vec Ideal S2048x1664 .bf16) (a : Fin 1024) (b : Fin 1664) :
    k0_pay2 (F := Ideal) acc x y (ix2 a b) = (acc (ix2 a b) : EReal) + ∑ k : Fin 2048, (x (ix2 k a) : EReal) * y (ix2 k b) := by pointwise [k0_pay2]

theorem at_x : ∀ t : Fin cfg0.N, (cfg0.win (0 : Fin 3)).index t = (![t.val % 2, t.val / 2 / 2] : Fin 2 → ℕ) := by decide +kernel
theorem at_d : ∀ t : Fin cfg0.N, (cfg0.win (1 : Fin 3)).index t = (![t.val % 2, t.val / 2 % 2] : Fin 2 → ℕ) := by decide +kernel

variable (m : (ℓ : Loc nD τ sig) → Buf (Elt Ideal) ℓ) (c : Dev nD)

theorem read_x (t : Fin cfg0.N) (k : Fin 2048) (a : Fin 1024) (K : Fin 4096) (A : Fin 1024) (hK : K.val = t.val % 2 * 2048 + k.val)
    (hA : A.val = t.val / 2 / 2 * 1024 + a.val) :
    iblk m c 0 t (ix2 k a) = m ((c.tc : Thread nD τ).loc main_arg0) (ix2 K A) := by
  refine Eq.trans (congrArg (V m c main_arg0) (funext fun z => Fin.ext ?_)) (congrFun (V_main_arg0 m c) _)
  refine (((cfg0.win (0 : Fin 3))).rect_emb_val t (ix2 k a) z).trans ?_
  rw [at_x]
  match z with
  | ⟨0, _⟩ => show t.val % 2 * 2048 + k.val = K.val; omega
  | ⟨1, _⟩ => show t.val / 2 / 2 * 1024 + a.val = A.val; omega

theorem read_d (t : Fin cfg0.N) (k : Fin 2048) (b : Fin 1664) (K : Fin 4096) (B : Fin 3328) (hK : K.val = t.val % 2 * 2048 + k.val)
    (hB : B.val = t.val / 2 % 2 * 1664 + b.val) :
    iblk m c 1 t (ix2 k b) = m ((c.tc : Thread nD τ).loc main_arg2) (ix2 K B) := by
  refine Eq.trans (congrArg (V m c main_arg2) (funext fun z => Fin.ext ?_)) (congrFun (V_main_arg2 m c) _)
  refine (((cfg0.win (1 : Fin 3))).rect_emb_val t (ix2 k b) z).trans ?_
  rw [at_d]
  match z with
  | ⟨0, _⟩ => show t.val % 2 * 2048 + k.val = K.val; omega
  | ⟨1, _⟩ => show t.val / 2 % 2 * 1664 + b.val = B.val; omega

/-- The result at an index: the sum of the products over the whole sequence. -/
theorem value (p : Fin 1024) (q : Fin 3328) :
    (Value.G2 m c (ix2 p q) : EReal) = ∑ l : Fin 4096, Cert.Products.num (m ((c.tc : Thread nD τ).loc main_arg0) (ix2 l p)) * Cert.Products.num (m ((c.tc : Thread nD τ).loc main_arg2) (ix2 l q)) := by
  have hp := p.isLt
  have hq := q.isLt
  have hN : cfg0.N = 4 := N_0
  have hr : Value.run2Of (ix2 p q) = 2 * (p.val / 1024) + q.val / 1664 := by
    show 2 * (p.val / 1024 - 0) + 1 * (q.val / 1664 - 0) = _
    omega
  unfold Value.G2
  rw [dif_pos (by rw [hr, hN]; omega), Pipeline.accAt_succ, Pipeline.accAt_zero]
  have hl : Value.loc2Of (ix2 p q) = ix2 (⟨p.val % 1024, Nat.mod_lt _ (by decide)⟩ : Fin 1024) (⟨q.val % 1664, Nat.mod_lt _ (by decide)⟩ : Fin 1664) := by
    funext z
    match z with
    | ⟨0, _⟩ => rfl
    | ⟨1, _⟩ => rfl
  rw [hl]
  unfold Value.step2 Value.reset2
  rw [step_apply, step_apply, zero_apply, zero_add, Cert.Products.sum_two (n := 2048) rfl]
  refine congrArg₂ (fun a b : EReal => a + b) (Finset.sum_congr rfl fun k _ => ?_) (Finset.sum_congr rfl fun k _ => ?_)
  · have hk := k.isLt
    exact congrArg₂ (fun a b : EReal => a * b)
      (read_x m c _ k _ _ _ (by simp only [hr]; omega) (by simp only [hr]; omega)) (read_d m c _ k _ _ _ (by simp only [hr]; omega) (by simp only [hr]; omega))
  · have hk := k.isLt
    exact congrArg₂ (fun a b : EReal => a * b)
      (read_x m c _ k _ _ _ (by simp only [hr]; omega) (by simp only [hr]; omega)) (read_d m c _ k _ _ _ (by simp only [hr]; omega) (by simp only [hr]; omega))

/-- The reference at an index: the same sum. -/
theorem wanted (x : (⟨Cert.InDwRefIdeal.S4096x1024, .bf16⟩ : BufTy).Contents (Elt Ideal)) (d : (⟨Cert.InDwRefIdeal.S4096x3328, .bf16⟩ : BufTy).Contents (Elt Ideal)) (p : Fin 1024) (q : Fin 3328) :
    Cert.InDwRefIdeal.Read.val_main_v5 (F := Ideal) x d (ix2 p q) = ∑ l : Fin 4096, (x (ix2 l p) : EReal) * d (ix2 l q) := by
  rw [Cert.InDwRefIdeal.Read.val_main_v5_apply, Cert.InDwRefIdeal.Read.val_main_v4_apply]
  refine Finset.sum_congr rfl fun l _ => (mul_comm _ _).trans (congrArg₂ (fun a b : EReal => a * b) ?_ ?_)
  · refine (Cert.InDwRefIdeal.Read.val_main_v0_apply (F := Ideal) x _).trans (congrArg x (funext fun z => ?_))
    match z with
    | ⟨0, _⟩ => rfl
    | ⟨1, _⟩ => rfl
  · refine (Cert.InDwRefIdeal.Read.val_main_v3_apply (F := Ideal) d _).trans (congrArg d (funext fun z => ?_))
    match z with
    | ⟨0, _⟩ => rfl
    | ⟨1, _⟩ => rfl

/-- Kernel and reference end with the same array. -/
theorem algebraic : Cert.algebraic_InDwIdeal_InDwRefIdeal := by
  intro m g m' g' _ hag
  refine ⟨fun c => Value.G2 m c, Value.run m g, (θ_run _ _ _).mono (fun r h c => ?_) (Cert.InDwRefIdeal.Value.run (F := Ideal) m' g')⟩
  refine ⟨((h c).1.trans (Cert.InDwRefIdeal.Read.val_main_v5_eq (m' ((c.tc : Thread Cert.InDwRefIdeal.nD Cert.InDwRefIdeal.τ).loc Cert.InDwRefIdeal.main_arg0)) (m' ((c.tc : Thread Cert.InDwRefIdeal.nD Cert.InDwRefIdeal.τ).loc Cert.InDwRefIdeal.main_arg2)))).trans ?_, (h c).2⟩
  rw [(hag c).1, (hag c).2.2]
  funext i
  rw [eq_ix2 i]
  exact (wanted (m ((c.tc : Thread nD τ).loc main_arg0)) (m ((c.tc : Thread nD τ).loc main_arg2)) _ _).trans (value m c _ _).symm

/-- The kernel's run, as printed. -/
theorem frame : Cert.quiescent_InDw := fun m ρ _ => Cert.InDw.Gen.frame m ρ
/-- The idealized kernel's run. -/
theorem frame_ideal : Cert.quiescent_InDwIdeal := fun m ρ _ => Cert.InDwIdeal.Gen.frame m ρ
/-- The reference's run. -/
theorem frame_ref : Cert.quiescent_InDwRefIdeal := fun m g _ =>
  (θ_run Cert.InDwRefIdeal.defs _ _).mono
    (fun r h => ⟨fun c => (h c).2, sem_eq_zero_of_no_sems (by decide) r.2⟩) (Cert.InDwRefIdeal.Value.run (F := Ideal) m g)
theorem preserves : Cert.preserves_InDw_InDwIdeal := trivial

end Cert.InDwIdeal.Own

end
-- ==== Proof.Products.UqDw.lean ====
/-
  The gradient of a product's weights (the call of UqDw): two points per block of the result, each adding half the sequence.
-/
module

public import proofs.«01_k».proof.Defs
public import proofs.«01_k».proof.Proof.Gen.UqDw.Frame
public import proofs.«01_k».proof.Proof.Gen.UqDwIdeal.Value
public import proofs.«01_k».proof.Proof.Gen.UqDwRefIdeal.Read
public import proofs.«01_k».proof.Proof.Products.Sums

@[expose] public section

set_option maxRecDepth 16384
set_option Elab.async false

noncomputable section

namespace Cert.UqDwIdeal.Own

open Cert.UqDwIdeal Cert.UqDwIdeal.Gen
open Idealize.ShloMosaic
open Idealize.ShloMosaic.TcCoe
open Idealize.SL.Sem
open Idealize.ShloMosaic.Pipeline (Dat Cfg Window)

theorem zero_apply (a : Fin 384) (b : Fin 1024) : k0_pay1 (F := Ideal) (ix2 a b) = 0 := by pointwise [k0_pay1]
theorem step_apply (acc : Vec Ideal S384x1024 .f32) (x : Vec Ideal S2048x384 .bf16) (y : Vec Ideal S2048x1024 .bf16) (a : Fin 384) (b : Fin 1024) :
    k0_pay2 (F := Ideal) acc x y (ix2 a b) = (acc (ix2 a b) : EReal) + ∑ k : Fin 2048, (x (ix2 k a) : EReal) * y (ix2 k b) := by pointwise [k0_pay2]

theorem at_x : ∀ t : Fin cfg0.N, (cfg0.win (0 : Fin 3)).index t = (![t.val % 2, t.val / 2 / 1] : Fin 2 → ℕ) := by decide +kernel
theorem at_d : ∀ t : Fin cfg0.N, (cfg0.win (1 : Fin 3)).index t = (![t.val % 2, t.val / 2 % 1] : Fin 2 → ℕ) := by decide +kernel

variable (m : (ℓ : Loc nD τ sig) → Buf (Elt Ideal) ℓ) (c : Dev nD)

theorem read_x (t : Fin cfg0.N) (k : Fin 2048) (a : Fin 384) (K : Fin 4096) (A : Fin 384) (hK : K.val = t.val % 2 * 2048 + k.val)
    (hA : A.val = t.val / 2 / 1 * 384 + a.val) :
    iblk m c 0 t (ix2 k a) = m ((c.tc : Thread nD τ).loc main_arg0) (ix2 K A) := by
  refine Eq.trans (congrArg (V m c main_arg0) (funext fun z => Fin.ext ?_)) (congrFun (V_main_arg0 m c) _)
  refine (((cfg0.win (0 : Fin 3))).rect_emb_val t (ix2 k a) z).trans ?_
  rw [at_x]
  match z with
  | ⟨0, _⟩ => show t.val % 2 * 2048 + k.val = K.val; omega
  | ⟨1, _⟩ => show t.val / 2 / 1 * 384 + a.val = A.val; omega

theorem read_d (t : Fin cfg0.N) (k : Fin 2048) (b : Fin 1024) (K : Fin 4096) (B : Fin 1024) (hK : K.val = t.val % 2 * 2048 + k.val)
    (hB : B.val = t.val / 2 % 1 * 1024 + b.val) :
    iblk m c 1 t (ix2 k b) = m ((c.tc : Thread nD τ).loc main_arg2) (ix2 K B) := by
  refine Eq.trans (congrArg (V m c main_arg2) (funext fun z => Fin.ext ?_)) (congrFun (V_main_arg2 m c) _)
  refine (((cfg0.win (1 : Fin 3))).rect_emb_val t (ix2 k b) z).trans ?_
  rw [at_d]
  match z with
  | ⟨0, _⟩ => show t.val % 2 * 2048 + k.val = K.val; omega
  | ⟨1, _⟩ => show t.val / 2 % 1 * 1024 + b.val = B.val; omega

/-- The result at an index: the sum of the products over the whole sequence. -/
theorem value (p : Fin 384) (q : Fin 1024) :
    (Value.G2 m c (ix2 p q) : EReal) = ∑ l : Fin 4096, Cert.Products.num (m ((c.tc : Thread nD τ).loc main_arg0) (ix2 l p)) * Cert.Products.num (m ((c.tc : Thread nD τ).loc main_arg2) (ix2 l q)) := by
  have hp := p.isLt
  have hq := q.isLt
  have hN : cfg0.N = 2 := N_0
  have hr : Value.run2Of (ix2 p q) = 1 * (p.val / 384) + q.val / 1024 := by
    show 1 * (p.val / 384 - 0) + 1 * (q.val / 1024 - 0) = _
    omega
  unfold Value.G2
  rw [dif_pos (by rw [hr, hN]; omega), Pipeline.accAt_succ, Pipeline.accAt_zero]
  have hl : Value.loc2Of (ix2 p q) = ix2 (⟨p.val % 384, Nat.mod_lt _ (by decide)⟩ : Fin 384) (⟨q.val % 1024, Nat.mod_lt _ (by decide)⟩ : Fin 1024) := by
    funext z
    match z with
    | ⟨0, _⟩ => rfl
    | ⟨1, _⟩ => rfl
  rw [hl]
  unfold Value.step2 Value.reset2
  rw [step_apply, step_apply, zero_apply, zero_add, Cert.Products.sum_two (n := 2048) rfl]
  refine congrArg₂ (fun a b : EReal => a + b) (Finset.sum_congr rfl fun k _ => ?_) (Finset.sum_congr rfl fun k _ => ?_)
  · have hk := k.isLt
    exact congrArg₂ (fun a b : EReal => a * b)
      (read_x m c _ k _ _ _ (by simp only [hr]; omega) (by simp only [hr]; omega)) (read_d m c _ k _ _ _ (by simp only [hr]; omega) (by simp only [hr]; omega))
  · have hk := k.isLt
    exact congrArg₂ (fun a b : EReal => a * b)
      (read_x m c _ k _ _ _ (by simp only [hr]; omega) (by simp only [hr]; omega)) (read_d m c _ k _ _ _ (by simp only [hr]; omega) (by simp only [hr]; omega))

/-- The reference at an index: the same sum. -/
theorem wanted (x : (⟨Cert.UqDwRefIdeal.S4096x384, .bf16⟩ : BufTy).Contents (Elt Ideal)) (d : (⟨Cert.UqDwRefIdeal.S4096x1024, .bf16⟩ : BufTy).Contents (Elt Ideal)) (p : Fin 384) (q : Fin 1024) :
    Cert.UqDwRefIdeal.Read.val_main_v5 (F := Ideal) x d (ix2 p q) = ∑ l : Fin 4096, (x (ix2 l p) : EReal) * d (ix2 l q) := by
  rw [Cert.UqDwRefIdeal.Read.val_main_v5_apply, Cert.UqDwRefIdeal.Read.val_main_v4_apply]
  refine Finset.sum_congr rfl fun l _ => (mul_comm _ _).trans (congrArg₂ (fun a b : EReal => a * b) ?_ ?_)
  · refine (Cert.UqDwRefIdeal.Read.val_main_v0_apply (F := Ideal) x _).trans (congrArg x (funext fun z => ?_))
    match z with
    | ⟨0, _⟩ => rfl
    | ⟨1, _⟩ => rfl
  · refine (Cert.UqDwRefIdeal.Read.val_main_v3_apply (F := Ideal) d _).trans (congrArg d (funext fun z => ?_))
    match z with
    | ⟨0, _⟩ => rfl
    | ⟨1, _⟩ => rfl

/-- Kernel and reference end with the same array. -/
theorem algebraic : Cert.algebraic_UqDwIdeal_UqDwRefIdeal := by
  intro m g m' g' _ hag
  refine ⟨fun c => Value.G2 m c, Value.run m g, (θ_run _ _ _).mono (fun r h c => ?_) (Cert.UqDwRefIdeal.Value.run (F := Ideal) m' g')⟩
  refine ⟨((h c).1.trans (Cert.UqDwRefIdeal.Read.val_main_v5_eq (m' ((c.tc : Thread Cert.UqDwRefIdeal.nD Cert.UqDwRefIdeal.τ).loc Cert.UqDwRefIdeal.main_arg0)) (m' ((c.tc : Thread Cert.UqDwRefIdeal.nD Cert.UqDwRefIdeal.τ).loc Cert.UqDwRefIdeal.main_arg2)))).trans ?_, (h c).2⟩
  rw [(hag c).1, (hag c).2.2]
  funext i
  rw [eq_ix2 i]
  exact (wanted (m ((c.tc : Thread nD τ).loc main_arg0)) (m ((c.tc : Thread nD τ).loc main_arg2)) _ _).trans (value m c _ _).symm

/-- The kernel's run, as printed. -/
theorem frame : Cert.quiescent_UqDw := fun m ρ _ => Cert.UqDw.Gen.frame m ρ
/-- The idealized kernel's run. -/
theorem frame_ideal : Cert.quiescent_UqDwIdeal := fun m ρ _ => Cert.UqDwIdeal.Gen.frame m ρ
/-- The reference's run. -/
theorem frame_ref : Cert.quiescent_UqDwRefIdeal := fun m g _ =>
  (θ_run Cert.UqDwRefIdeal.defs _ _).mono
    (fun r h => ⟨fun c => (h c).2, sem_eq_zero_of_no_sems (by decide) r.2⟩) (Cert.UqDwRefIdeal.Value.run (F := Ideal) m g)
theorem preserves : Cert.preserves_UqDw_UqDwIdeal := trivial

end Cert.UqDwIdeal.Own

end
-- ==== Proof.Products.UkvDw.lean ====
/-
  The gradient of a product's weights (the call of UkvDw): two points per block of the result, each adding half the sequence.
-/
module

public import proofs.«01_k».proof.Defs
public import proofs.«01_k».proof.Proof.Gen.UkvDw.Frame
public import proofs.«01_k».proof.Proof.Gen.UkvDwIdeal.Value
public import proofs.«01_k».proof.Proof.Gen.UkvDwRefIdeal.Read
public import proofs.«01_k».proof.Proof.Products.Sums

@[expose] public section

set_option maxRecDepth 16384
set_option Elab.async false

noncomputable section

namespace Cert.UkvDwIdeal.Own

open Cert.UkvDwIdeal Cert.UkvDwIdeal.Gen
open Idealize.ShloMosaic
open Idealize.ShloMosaic.TcCoe
open Idealize.SL.Sem
open Idealize.ShloMosaic.Pipeline (Dat Cfg Window)

theorem zero_apply (a : Fin 256) (b : Fin 1024) : k0_pay1 (F := Ideal) (ix2 a b) = 0 := by pointwise [k0_pay1]
theorem step_apply (acc : Vec Ideal S256x1024 .f32) (x : Vec Ideal S2048x256 .bf16) (y : Vec Ideal S2048x1024 .bf16) (a : Fin 256) (b : Fin 1024) :
    k0_pay2 (F := Ideal) acc x y (ix2 a b) = (acc (ix2 a b) : EReal) + ∑ k : Fin 2048, (x (ix2 k a) : EReal) * y (ix2 k b) := by pointwise [k0_pay2]

theorem at_x : ∀ t : Fin cfg0.N, (cfg0.win (0 : Fin 3)).index t = (![t.val % 2, t.val / 2 / 1] : Fin 2 → ℕ) := by decide +kernel
theorem at_d : ∀ t : Fin cfg0.N, (cfg0.win (1 : Fin 3)).index t = (![t.val % 2, t.val / 2 % 1] : Fin 2 → ℕ) := by decide +kernel

variable (m : (ℓ : Loc nD τ sig) → Buf (Elt Ideal) ℓ) (c : Dev nD)

theorem read_x (t : Fin cfg0.N) (k : Fin 2048) (a : Fin 256) (K : Fin 4096) (A : Fin 256) (hK : K.val = t.val % 2 * 2048 + k.val)
    (hA : A.val = t.val / 2 / 1 * 256 + a.val) :
    iblk m c 0 t (ix2 k a) = m ((c.tc : Thread nD τ).loc main_arg0) (ix2 K A) := by
  refine Eq.trans (congrArg (V m c main_arg0) (funext fun z => Fin.ext ?_)) (congrFun (V_main_arg0 m c) _)
  refine (((cfg0.win (0 : Fin 3))).rect_emb_val t (ix2 k a) z).trans ?_
  rw [at_x]
  match z with
  | ⟨0, _⟩ => show t.val % 2 * 2048 + k.val = K.val; omega
  | ⟨1, _⟩ => show t.val / 2 / 1 * 256 + a.val = A.val; omega

theorem read_d (t : Fin cfg0.N) (k : Fin 2048) (b : Fin 1024) (K : Fin 4096) (B : Fin 1024) (hK : K.val = t.val % 2 * 2048 + k.val)
    (hB : B.val = t.val / 2 % 1 * 1024 + b.val) :
    iblk m c 1 t (ix2 k b) = m ((c.tc : Thread nD τ).loc main_arg2) (ix2 K B) := by
  refine Eq.trans (congrArg (V m c main_arg2) (funext fun z => Fin.ext ?_)) (congrFun (V_main_arg2 m c) _)
  refine (((cfg0.win (1 : Fin 3))).rect_emb_val t (ix2 k b) z).trans ?_
  rw [at_d]
  match z with
  | ⟨0, _⟩ => show t.val % 2 * 2048 + k.val = K.val; omega
  | ⟨1, _⟩ => show t.val / 2 % 1 * 1024 + b.val = B.val; omega

/-- The result at an index: the sum of the products over the whole sequence. -/
theorem value (p : Fin 256) (q : Fin 1024) :
    (Value.G2 m c (ix2 p q) : EReal) = ∑ l : Fin 4096, Cert.Products.num (m ((c.tc : Thread nD τ).loc main_arg0) (ix2 l p)) * Cert.Products.num (m ((c.tc : Thread nD τ).loc main_arg2) (ix2 l q)) := by
  have hp := p.isLt
  have hq := q.isLt
  have hN : cfg0.N = 2 := N_0
  have hr : Value.run2Of (ix2 p q) = 1 * (p.val / 256) + q.val / 1024 := by
    show 1 * (p.val / 256 - 0) + 1 * (q.val / 1024 - 0) = _
    omega
  unfold Value.G2
  rw [dif_pos (by rw [hr, hN]; omega), Pipeline.accAt_succ, Pipeline.accAt_zero]
  have hl : Value.loc2Of (ix2 p q) = ix2 (⟨p.val % 256, Nat.mod_lt _ (by decide)⟩ : Fin 256) (⟨q.val % 1024, Nat.mod_lt _ (by decide)⟩ : Fin 1024) := by
    funext z
    match z with
    | ⟨0, _⟩ => rfl
    | ⟨1, _⟩ => rfl
  rw [hl]
  unfold Value.step2 Value.reset2
  rw [step_apply, step_apply, zero_apply, zero_add, Cert.Products.sum_two (n := 2048) rfl]
  refine congrArg₂ (fun a b : EReal => a + b) (Finset.sum_congr rfl fun k _ => ?_) (Finset.sum_congr rfl fun k _ => ?_)
  · have hk := k.isLt
    exact congrArg₂ (fun a b : EReal => a * b)
      (read_x m c _ k _ _ _ (by simp only [hr]; omega) (by simp only [hr]; omega)) (read_d m c _ k _ _ _ (by simp only [hr]; omega) (by simp only [hr]; omega))
  · have hk := k.isLt
    exact congrArg₂ (fun a b : EReal => a * b)
      (read_x m c _ k _ _ _ (by simp only [hr]; omega) (by simp only [hr]; omega)) (read_d m c _ k _ _ _ (by simp only [hr]; omega) (by simp only [hr]; omega))

/-- The reference at an index: the same sum. -/
theorem wanted (x : (⟨Cert.UkvDwRefIdeal.S4096x256, .bf16⟩ : BufTy).Contents (Elt Ideal)) (d : (⟨Cert.UkvDwRefIdeal.S4096x1024, .bf16⟩ : BufTy).Contents (Elt Ideal)) (p : Fin 256) (q : Fin 1024) :
    Cert.UkvDwRefIdeal.Read.val_main_v5 (F := Ideal) x d (ix2 p q) = ∑ l : Fin 4096, (x (ix2 l p) : EReal) * d (ix2 l q) := by
  rw [Cert.UkvDwRefIdeal.Read.val_main_v5_apply, Cert.UkvDwRefIdeal.Read.val_main_v4_apply]
  refine Finset.sum_congr rfl fun l _ => (mul_comm _ _).trans (congrArg₂ (fun a b : EReal => a * b) ?_ ?_)
  · refine (Cert.UkvDwRefIdeal.Read.val_main_v0_apply (F := Ideal) x _).trans (congrArg x (funext fun z => ?_))
    match z with
    | ⟨0, _⟩ => rfl
    | ⟨1, _⟩ => rfl
  · refine (Cert.UkvDwRefIdeal.Read.val_main_v3_apply (F := Ideal) d _).trans (congrArg d (funext fun z => ?_))
    match z with
    | ⟨0, _⟩ => rfl
    | ⟨1, _⟩ => rfl

/-- Kernel and reference end with the same array. -/
theorem algebraic : Cert.algebraic_UkvDwIdeal_UkvDwRefIdeal := by
  intro m g m' g' _ hag
  refine ⟨fun c => Value.G2 m c, Value.run m g, (θ_run _ _ _).mono (fun r h c => ?_) (Cert.UkvDwRefIdeal.Value.run (F := Ideal) m' g')⟩
  refine ⟨((h c).1.trans (Cert.UkvDwRefIdeal.Read.val_main_v5_eq (m' ((c.tc : Thread Cert.UkvDwRefIdeal.nD Cert.UkvDwRefIdeal.τ).loc Cert.UkvDwRefIdeal.main_arg0)) (m' ((c.tc : Thread Cert.UkvDwRefIdeal.nD Cert.UkvDwRefIdeal.τ).loc Cert.UkvDwRefIdeal.main_arg2)))).trans ?_, (h c).2⟩
  rw [(hag c).1, (hag c).2.2]
  funext i
  rw [eq_ix2 i]
  exact (wanted (m ((c.tc : Thread nD τ).loc main_arg0)) (m ((c.tc : Thread nD τ).loc main_arg2)) _ _).trans (value m c _ _).symm

/-- The kernel's run, as printed. -/
theorem frame : Cert.quiescent_UkvDw := fun m ρ _ => Cert.UkvDw.Gen.frame m ρ
/-- The idealized kernel's run. -/
theorem frame_ideal : Cert.quiescent_UkvDwIdeal := fun m ρ _ => Cert.UkvDwIdeal.Gen.frame m ρ
/-- The reference's run. -/
theorem frame_ref : Cert.quiescent_UkvDwRefIdeal := fun m g _ =>
  (θ_run Cert.UkvDwRefIdeal.defs _ _).mono
    (fun r h => ⟨fun c => (h c).2, sem_eq_zero_of_no_sems (by decide) r.2⟩) (Cert.UkvDwRefIdeal.Value.run (F := Ideal) m g)
theorem preserves : Cert.preserves_UkvDw_UkvDwIdeal := trivial

end Cert.UkvDwIdeal.Own

end
-- ==== Proof.Products.MergeRow.lean ====
/-
  One row of the merge of the two branches, from one row of each argument.
-/
module

public import proofs.«01_k».proof.Defs
public import proofs.«01_k».proof.Proof.Products.Sums

@[expose] public section

set_option maxRecDepth 16384
set_option Elab.async false

noncomputable section

namespace Cert.Merging

open Idealize.ShloMosaic
open Idealize.ShloMosaic.TcCoe
open Idealize.SL.Sem
open Idealize.ShloMosaic.Pipeline (Dat Cfg Window)

/-- The smooth gate of the activations. -/
def gelu (y : EReal) : EReal :=
  Ideal.ofBits .f32 0x3F000000#32 * y * (1 + Ideal.tanh (Ideal.ofBits .f32 0x3F4C422A#32 * (y + Ideal.ofBits .f32 0x3D372713#32 * y * y * y)))
/-- The logistic function. -/
def gate (y : EReal) : EReal := Ideal.div 1 (1 + Ideal.exp (0 - y))
/-- A row over the root of its mean square. -/
def even (z : Fin 1024 → EReal) (q : Fin 1024) : EReal :=
  z q * Ideal.rsqrt (Ideal.div (∑ k, z k * z k) (Ideal.ofBits .f32 0x44800000#32) + Ideal.ofBits .f32 0x358637BD#32)

/-- What one row of the results depends on. -/
structure Row where
  x : Fin 1024 → EReal
  g : Fin 2048 → EReal
  t : Fin 1024 → EReal
  y : Fin 512 → EReal
  wa : Fin 1024 → Fin 1024 → EReal
  ws : Fin 512 → Fin 1024 → EReal
  wg : Fin 512 → Fin 512 → EReal
  bg : Fin 512 → EReal
  wo : Fin 1024 → Fin 1024 → EReal
  gp : Fin 1024 → EReal
  gn : Fin 1024 → EReal

namespace Row
variable (r : Row)
/-- The state-space branch before its output weights. -/
def ssm (q : Fin 512) : EReal := gelu (r.y q) * gate ((∑ k, gelu (r.y k) * r.wg k q) + r.bg q)
def attn (q : Fin 1024) : EReal := ∑ k, r.t k * r.wa k q
def scan (q : Fin 1024) : EReal := ∑ k, r.ssm k * r.ws k q
/-- The two branches, each times its gate. -/
def mixed (q : Fin 1024) : EReal :=
  gate (r.g ⟨q.val, by have := q.isLt; omega⟩) * r.attn q + gate (r.g ⟨1024 + q.val, by have := q.isLt; omega⟩) * r.scan q
def out (q : Fin 1024) : EReal := ∑ k, r.mixed k * r.wo k q
/-- The residual stream after the branches. -/
def next (q : Fin 1024) : EReal := r.x q + even r.out q * r.gp q
/-- What the feed-forward receives. -/
def hidden (q : Fin 1024) : EReal := even r.next q * r.gn q
end Row

/-- The row at `a` of arrays with `R` rows. -/
def rowOf {R : ℕ} (x0 : Vec Ideal ⟨2, ![R, 1024]⟩ .f32) (x1 : Vec Ideal ⟨2, ![R, 2048]⟩ .bf16) (x2 : Vec Ideal ⟨2, ![R, 1024]⟩ .bf16)
    (x3 : Vec Ideal ⟨2, ![R, 512]⟩ .f32) (x4 : Vec Ideal ⟨2, ![1024, 1024]⟩ .bf16) (x5 : Vec Ideal ⟨2, ![512, 1024]⟩ .bf16) (x6 : Vec Ideal ⟨2, ![512, 512]⟩ .bf16)
    (x7 : Vec Ideal ⟨2, ![1, 512]⟩ .f32) (x8 : Vec Ideal ⟨2, ![1024, 1024]⟩ .bf16) (x9 : Vec Ideal ⟨2, ![1, 1024]⟩ .f32) (x10 : Vec Ideal ⟨2, ![1, 1024]⟩ .f32) (a : Fin R) : Row where
  x q := x0 (ix2 a q)
  g q := x1 (ix2 a q)
  t q := x2 (ix2 a q)
  y q := x3 (ix2 a q)
  wa k q := x4 (ix2 k q)
  ws k q := x5 (ix2 k q)
  wg k q := x6 (ix2 k q)
  bg q := x7 (ix2 0 q)
  wo k q := x8 (ix2 k q)
  gp q := x9 (ix2 0 q)
  gn q := x10 (ix2 0 q)

end Cert.Merging

end
-- ==== Proof.Products.MergeRef.lean ====
/-
  The rows of the merge as the reference computes them.
-/
module

public import proofs.«01_k».proof.Proof.Gen.MergeRefIdeal.Read
public import proofs.«01_k».proof.Proof.Products.MergeRow

@[expose] public section

set_option maxRecDepth 16384
set_option Elab.async false

noncomputable section

namespace Cert.MergeRefIdeal.Own

open Cert.MergeRefIdeal Cert.MergeRefIdeal.Read Cert.Merging
open Idealize.ShloMosaic
open Idealize.ShloMosaic.TcCoe
open Idealize.SL.Sem
open Idealize.ShloMosaic.Pipeline (Dat Cfg Window)

variable (x0 : (⟨S4096x1024, .f32⟩ : BufTy).Contents (Elt Ideal)) (x1 : (⟨S4096x2048, .bf16⟩ : BufTy).Contents (Elt Ideal)) (x2 : (⟨S4096x1024, .bf16⟩ : BufTy).Contents (Elt Ideal)) (x3 : (⟨S4096x512, .f32⟩ : BufTy).Contents (Elt Ideal)) (x4 : (⟨S1024x1024, .bf16⟩ : BufTy).Contents (Elt Ideal)) (x5 : (⟨S512x1024, .bf16⟩ : BufTy).Contents (Elt Ideal)) (x6 : (⟨S512x512, .bf16⟩ : BufTy).Contents (Elt Ideal)) (x7 : (⟨S1x512, .f32⟩ : BufTy).Contents (Elt Ideal)) (x8 : (⟨S1024x1024, .bf16⟩ : BufTy).Contents (Elt Ideal)) (x9 : (⟨S1x1024, .f32⟩ : BufTy).Contents (Elt Ideal)) (x10 : (⟨S1x1024, .f32⟩ : BufTy).Contents (Elt Ideal))

theorem v18_apply (p : Fin 4096) (q : Fin 512) : (val_main_v18 (F := Ideal) x3 (ix2 p q) : EReal) = gelu (x3 (ix2 p q)) := by
  pointwise [val_main_v6, val_main_v7, val_main_v8, val_main_v9, val_main_v10, val_main_v11, val_main_v12, val_main_v13, val_main_v14, val_main_v15, val_main_v16, val_main_v17, val_main_v18, val_main_cst, val_main_cst_0, val_main_cst_1, val_main_cst_2]
  generalize x3 (ix2 p q) = y
  unfold gelu
  ac_norm

theorem v28_apply (p : Fin 4096) (q : Fin 512) : (val_main_v28 (F := Ideal) x3 x6 x7 (ix2 p q) : EReal) = (rowOf (R := 4096) x0 x1 x2 x3 x4 x5 x6 x7 x8 x9 x10 p).ssm q := by
  pointwise [val_main_v19, val_main_v20, val_main_v21, val_main_v22, val_main_v23, val_main_v24, val_main_v25, val_main_v26, val_main_v27, val_main_v28, val_main_cst_3, val_main_cst_4, val_main_v4, v18_apply]
  simp only [Row.ssm, rowOf, gate, zero_sub]

theorem v29_apply (p : Fin 4096) (q : Fin 1024) : (val_main_v29 (F := Ideal) x2 x4 (ix2 p q) : EReal) = (rowOf (R := 4096) x0 x1 x2 x3 x4 x5 x6 x7 x8 x9 x10 p).attn q := by
  pointwise [val_main_v29, val_main_v1, val_main_v2]
  rfl

theorem v30_apply (p : Fin 4096) (q : Fin 1024) : (val_main_v30 (F := Ideal) x3 x5 x6 x7 (ix2 p q) : EReal) = (rowOf (R := 4096) x0 x1 x2 x3 x4 x5 x6 x7 x8 x9 x10 p).scan q := by
  pointwise [val_main_v30, val_main_v3, v28_apply x0 x1 x2 x3 x4 x5 x6 x7 x8 x9 x10]
  rfl

theorem v36_apply (p : Fin 4096) (q : Fin 2048) : (val_main_v36 (F := Ideal) x1 (ix2 p q) : EReal) = gate (x1 (ix2 p q)) := by
  pointwise [val_main_v31, val_main_v32, val_main_v33, val_main_v34, val_main_v35, val_main_v36, val_main_cst_5, val_main_cst_6, val_main_v0]
  simp only [gate, zero_sub]

theorem v39_apply (p : Fin 4096) (q : Fin 1024) :
    (val_main_v39 (F := Ideal) x1 (ix2 p q) : EReal) = gate (x1 (ix2 p (⟨q.val, by have := q.isLt; omega⟩ : Fin 2048))) := by
  have hp := p.isLt
  have hq := q.isLt
  rw [val_main_v39_apply, val_main_v38_apply, val_main_v37_apply]
  refine Eq.trans ?_ (v36_apply x1 _ _)
  refine congrArg (val_main_v36 (F := Ideal) x1) (funext fun z => Fin.ext ?_)
  match z with
  | ⟨0, _⟩ =>
    have e : (((p.val * 1024 + q.val) / 1024 * 2 + 0) * 1024 + (p.val * 1024 + q.val) % 1024) / 2048 = p.val := by omega
    exact e
  | ⟨1, _⟩ =>
    have e : (((p.val * 1024 + q.val) / 1024 * 2 + 0) * 1024 + (p.val * 1024 + q.val) % 1024) % 2048 = q.val := by omega
    exact e

theorem v42_apply (p : Fin 4096) (q : Fin 1024) :
    (val_main_v42 (F := Ideal) x1 (ix2 p q) : EReal) = gate (x1 (ix2 p (⟨1024 + q.val, by have := q.isLt; omega⟩ : Fin 2048))) := by
  have hp := p.isLt
  have hq := q.isLt
  rw [val_main_v42_apply, val_main_v41_apply, val_main_v37_apply]
  refine Eq.trans ?_ (v36_apply x1 _ _)
  refine congrArg (val_main_v36 (F := Ideal) x1) (funext fun z => Fin.ext ?_)
  match z with
  | ⟨0, _⟩ =>
    have e : (((p.val * 1024 + q.val) / 1024 * 2 + (1 + 0)) * 1024 + (p.val * 1024 + q.val) % 1024) / 2048 = p.val := by omega
    exact e
  | ⟨1, _⟩ =>
    have e : (((p.val * 1024 + q.val) / 1024 * 2 + (1 + 0)) * 1024 + (p.val * 1024 + q.val) % 1024) % 2048 = 1024 + q.val := by omega
    exact e

theorem v44_apply (p : Fin 4096) (q : Fin 1024) : (val_main_v44 (F := Ideal) x1 x2 x3 x4 x5 x6 x7 (ix2 p q) : EReal) = (rowOf (R := 4096) x0 x1 x2 x3 x4 x5 x6 x7 x8 x9 x10 p).mixed q := by
  pointwise [val_main_v40, val_main_v43, val_main_v44, v39_apply, v42_apply, v29_apply x0 x1 x2 x3 x4 x5 x6 x7 x8 x9 x10, v30_apply x0 x1 x2 x3 x4 x5 x6 x7 x8 x9 x10]
  rfl

theorem v45_apply (p : Fin 4096) (q : Fin 1024) : (val_main_v45 (F := Ideal) x1 x2 x3 x4 x5 x6 x7 x8 (ix2 p q) : EReal) = (rowOf (R := 4096) x0 x1 x2 x3 x4 x5 x6 x7 x8 x9 x10 p).out q := by
  pointwise [val_main_v45, val_main_v5, v44_apply x0 x1 x2 x3 x4 x5 x6 x7 x8 x9 x10]
  rfl

theorem v55_apply (p : Fin 4096) (q : Fin 1024) : (val_main_v55 (F := Ideal) x1 x2 x3 x4 x5 x6 x7 x8 (ix2 p q) : EReal) = even (rowOf (R := 4096) x0 x1 x2 x3 x4 x5 x6 x7 x8 x9 x10 p).out q := by
  pointwise [val_main_v46, val_main_v47, val_main_v48, val_main_v49, val_main_v50, val_main_v51, val_main_v52, val_main_v53, val_main_v54, val_main_v55, val_main_cst_7, val_main_cst_8, val_main_cst_9, v45_apply x0 x1 x2 x3 x4 x5 x6 x7 x8 x9 x10]
  rfl

theorem v58_apply (p : Fin 4096) (q : Fin 1024) : (val_main_v58 (F := Ideal) x0 x1 x2 x3 x4 x5 x6 x7 x8 x9 (ix2 p q) : EReal) = (rowOf (R := 4096) x0 x1 x2 x3 x4 x5 x6 x7 x8 x9 x10 p).next q := by
  pointwise [val_main_v56, val_main_v57, val_main_v58, v55_apply x0 x1 x2 x3 x4 x5 x6 x7 x8 x9 x10]
  rfl

theorem v70_apply (p : Fin 4096) (q : Fin 1024) : (val_main_v70 (F := Ideal) x0 x1 x2 x3 x4 x5 x6 x7 x8 x9 x10 (ix2 p q) : EReal) = (rowOf (R := 4096) x0 x1 x2 x3 x4 x5 x6 x7 x8 x9 x10 p).hidden q := by
  pointwise [val_main_v59, val_main_v60, val_main_v61, val_main_v62, val_main_v63, val_main_v64, val_main_v65, val_main_v66, val_main_v67, val_main_v68, val_main_v69, val_main_v70, val_main_cst_10, val_main_cst_11, val_main_cst_12, v58_apply x0 x1 x2 x3 x4 x5 x6 x7 x8 x9 x10]
  rfl

end Cert.MergeRefIdeal.Own

end
-- ==== Proof.Products.Merge.lean ====
/-
  The merge of the two branches: each point computes one block of rows of the seven results, every row from its own row of
  the arguments.
-/
module

public import proofs.«01_k».proof.Defs
public import proofs.«01_k».proof.Proof.Gen.Merge.Frame
public import proofs.«01_k».proof.Proof.Gen.MergeIdeal.Value
public import proofs.«01_k».proof.Proof.Gen.MergeRefIdeal.Read
public import proofs.«01_k».proof.Proof.Products.MergeRow
public import proofs.«01_k».proof.Proof.Products.MergeRef

@[expose] public section

set_option maxRecDepth 16384
set_option Elab.async false

noncomputable section

namespace Cert.MergeIdeal.Own

open Cert.MergeIdeal Cert.MergeIdeal.Gen Cert.Merging
open Idealize.ShloMosaic
open Idealize.ShloMosaic.TcCoe
open Idealize.SL.Sem
open Idealize.ShloMosaic.Pipeline (Dat Cfg Window)

section Body
variable (x0 : Vec Ideal S512x1024 .f32) (x1 : Vec Ideal S512x2048 .bf16) (x2 : Vec Ideal S512x1024 .bf16) (x3 : Vec Ideal S512x512 .f32) (x4 : Vec Ideal S1024x1024 .bf16) (x5 : Vec Ideal S512x1024 .bf16) (x6 : Vec Ideal S512x512 .bf16) (x7 : Vec Ideal S1x512 .f32) (x8 : Vec Ideal S1024x1024 .bf16) (x9 : Vec Ideal S1x1024 .f32) (x10 : Vec Ideal S1x1024 .f32)

theorem pay3_apply (a : Fin 512) (b : Fin 512) : (k0_pay3 (F := Ideal) x3 x6 x7 (ix2 a b) : EReal) = (rowOf (R := 512) x0 x1 x2 x3 x4 x5 x6 x7 x8 x9 x10 a).ssm b := by
  pointwise [k0_pay3]
  rfl

theorem pay4_apply (a : Fin 512) (b : Fin 1024) : (k0_pay4 (F := Ideal) x2 x4 (ix2 a b) : EReal) = (rowOf (R := 512) x0 x1 x2 x3 x4 x5 x6 x7 x8 x9 x10 a).attn b := by
  pointwise [k0_pay4]
  rfl

theorem pay5_apply (a : Fin 512) (b : Fin 1024) : (k0_pay5 (F := Ideal) (k0_pay3 (F := Ideal) x3 x6 x7) x5 (constant (F := Ideal) S512x1024 .f32 0x00000000#32) (ix2 a b) : EReal) = (rowOf (R := 512) x0 x1 x2 x3 x4 x5 x6 x7 x8 x9 x10 a).scan b := by
  pointwise [k0_pay5, pay3_apply x0 x1 x2 x3 x4 x5 x6 x7 x8 x9 x10]
  rfl

theorem pay8_apply (a : Fin 512) (b : Fin 1024) : (k0_pay8 (F := Ideal) (k0_pay3 (F := Ideal) x3 x6 x7) (k0_pay4 (F := Ideal) x2 x4) x5 (constant (F := Ideal) S512x1024 .f32 0x00000000#32) x1 (ix2 a b) : EReal) = (rowOf (R := 512) x0 x1 x2 x3 x4 x5 x6 x7 x8 x9 x10 a).mixed b := by
  pointwise [k0_pay8, pay4_apply x0 x1 x2 x3 x4 x5 x6 x7 x8 x9 x10, pay5_apply x0 x1 x2 x3 x4 x5 x6 x7 x8 x9 x10]
  rfl

theorem pay9_apply (a : Fin 512) (b : Fin 1024) : (k0_pay9 (F := Ideal) (k0_pay3 (F := Ideal) x3 x6 x7) (k0_pay4 (F := Ideal) x2 x4) x5 (constant (F := Ideal) S512x1024 .f32 0x00000000#32) x1 x8 (ix2 a b) : EReal) = (rowOf (R := 512) x0 x1 x2 x3 x4 x5 x6 x7 x8 x9 x10 a).out b := by
  pointwise [k0_pay9, pay8_apply x0 x1 x2 x3 x4 x5 x6 x7 x8 x9 x10]
  rfl

theorem pay10_apply (a : Fin 512) (b : Fin 1024) : (k0_pay10 (F := Ideal) (k0_pay3 (F := Ideal) x3 x6 x7) (k0_pay4 (F := Ideal) x2 x4) x5 (constant (F := Ideal) S512x1024 .f32 0x00000000#32) x1 x8 (ix2 a b) : EReal) = even (rowOf (R := 512) x0 x1 x2 x3 x4 x5 x6 x7 x8 x9 x10 a).out b := by
  pointwise [k0_pay10, pay9_apply x0 x1 x2 x3 x4 x5 x6 x7 x8 x9 x10]
  rfl

theorem pay1_apply (a : Fin 512) (b : Fin 1024) : (k0_pay1 (F := Ideal) x9 (k0_pay10 (F := Ideal) (k0_pay3 (F := Ideal) x3 x6 x7) (k0_pay4 (F := Ideal) x2 x4) x5 (constant (F := Ideal) S512x1024 .f32 0x00000000#32) x1 x8) x0 (ix2 a b) : EReal) = (rowOf (R := 512) x0 x1 x2 x3 x4 x5 x6 x7 x8 x9 x10 a).next b := by
  pointwise [k0_pay1, pay10_apply x0 x1 x2 x3 x4 x5 x6 x7 x8 x9 x10]
  rfl

theorem pay2_apply (a : Fin 512) (b : Fin 1024) : (k0_pay2 (F := Ideal) x9 (k0_pay10 (F := Ideal) (k0_pay3 (F := Ideal) x3 x6 x7) (k0_pay4 (F := Ideal) x2 x4) x5 (constant (F := Ideal) S512x1024 .f32 0x00000000#32) x1 x8) x0 x10 (ix2 a b) : EReal) = (rowOf (R := 512) x0 x1 x2 x3 x4 x5 x6 x7 x8 x9 x10 a).hidden b := by
  pointwise [k0_pay2, pay1_apply x0 x1 x2 x3 x4 x5 x6 x7 x8 x9 x10]
  rfl

theorem origin : (![0, 0] : Fin 2 → ℕ) = fun _ => 0 := by decide

theorem ld_0 {e : EltTy} (x : Vec Ideal S512x512 e) : View.ld x r0_0 = x := View.ld_unit_zero origin _ x
theorem ld_1 {e : EltTy} (x : Vec Ideal S1x512 e) : View.ld x r0_1 = x := View.ld_unit_zero origin _ x
theorem ld_2 {e : EltTy} (x : Vec Ideal S512x1024 e) : View.ld x r0_2 = x := View.ld_unit_zero origin _ x
theorem ld_3 {e : EltTy} (x : Vec Ideal S1024x1024 e) : View.ld x r0_3 = x := View.ld_unit_zero origin _ x
theorem ld_4 {e : EltTy} (x : Vec Ideal S512x2048 e) : View.ld x r0_4 = x := View.ld_unit_zero origin _ x
theorem ld_5 {e : EltTy} (x : Vec Ideal S1x1024 e) : View.ld x r0_5 = x := View.ld_unit_zero origin _ x

theorem out11_apply (a : Fin 512) (b : Fin 1024) : (out0_11 (F := Ideal) x0 x1 x2 x3 x4 x5 x6 x7 x8 x9 x10 (ix2 a b) : EReal) = (rowOf (R := 512) x0 x1 x2 x3 x4 x5 x6 x7 x8 x9 x10 a).attn b := by
  have h : out0_11 (F := Ideal) x0 x1 x2 x3 x4 x5 x6 x7 x8 x9 x10 = k0_pay6 (F := Ideal) (k0_pay4 (F := Ideal) x2 x4) := by
    unfold out0_11 k0_pay13
    refine (View.canon_unit_zero origin _ _).trans ?_
    simp only [ld_0, ld_1, ld_2, ld_3, ld_4, ld_5]
  rw [h]
  exact pay4_apply x0 x1 x2 x3 x4 x5 x6 x7 x8 x9 x10 a b

theorem out12_apply (a : Fin 512) (b : Fin 1024) : (out0_12 (F := Ideal) x0 x1 x2 x3 x4 x5 x6 x7 x8 x9 x10 (ix2 a b) : EReal) = (rowOf (R := 512) x0 x1 x2 x3 x4 x5 x6 x7 x8 x9 x10 a).scan b := by
  have h : out0_12 (F := Ideal) x0 x1 x2 x3 x4 x5 x6 x7 x8 x9 x10 = k0_pay7 (F := Ideal) (k0_pay3 (F := Ideal) x3 x6 x7) x5 (constant (F := Ideal) S512x1024 .f32 0x00000000#32) := by
    unfold out0_12 k0_pay12 k0_pay11
    refine (View.canon_unit_zero origin _ _).trans ?_
    simp only [ld_0, ld_1, ld_2, ld_3, ld_4, ld_5]
  rw [h]
  exact pay5_apply x0 x1 x2 x3 x4 x5 x6 x7 x8 x9 x10 a b

theorem out13_apply (a : Fin 512) (b : Fin 1024) : (out0_13 (F := Ideal) x0 x1 x2 x3 x4 x5 x6 x7 x8 x9 x10 (ix2 a b) : EReal) = (rowOf (R := 512) x0 x1 x2 x3 x4 x5 x6 x7 x8 x9 x10 a).mixed b := by
  have h : out0_13 (F := Ideal) x0 x1 x2 x3 x4 x5 x6 x7 x8 x9 x10 = k0_pay8 (F := Ideal) (k0_pay3 (F := Ideal) x3 x6 x7) (k0_pay4 (F := Ideal) x2 x4) x5 (constant (F := Ideal) S512x1024 .f32 0x00000000#32) x1 := by
    unfold out0_13 k0_pay13 k0_pay12 k0_pay11
    refine (View.canon_unit_zero origin _ _).trans ?_
    simp only [ld_0, ld_1, ld_2, ld_3, ld_4, ld_5]
  rw [h]
  exact pay8_apply x0 x1 x2 x3 x4 x5 x6 x7 x8 x9 x10 a b

theorem out14_apply (a : Fin 512) (b : Fin 1024) : (out0_14 (F := Ideal) x0 x1 x2 x3 x4 x5 x6 x7 x8 x9 x10 (ix2 a b) : EReal) = (rowOf (R := 512) x0 x1 x2 x3 x4 x5 x6 x7 x8 x9 x10 a).out b := by
  have h : out0_14 (F := Ideal) x0 x1 x2 x3 x4 x5 x6 x7 x8 x9 x10 = k0_pay9 (F := Ideal) (k0_pay3 (F := Ideal) x3 x6 x7) (k0_pay4 (F := Ideal) x2 x4) x5 (constant (F := Ideal) S512x1024 .f32 0x00000000#32) x1 x8 := by
    unfold out0_14 k0_pay13 k0_pay12 k0_pay11
    refine (View.canon_unit_zero origin _ _).trans ?_
    simp only [ld_0, ld_1, ld_2, ld_3, ld_4, ld_5]
  rw [h]
  exact pay9_apply x0 x1 x2 x3 x4 x5 x6 x7 x8 x9 x10 a b

theorem out15_apply (a : Fin 512) (b : Fin 1024) : (out0_15 (F := Ideal) x0 x1 x2 x3 x4 x5 x6 x7 x8 x9 x10 (ix2 a b) : EReal) = (rowOf (R := 512) x0 x1 x2 x3 x4 x5 x6 x7 x8 x9 x10 a).next b := by
  have h : out0_15 (F := Ideal) x0 x1 x2 x3 x4 x5 x6 x7 x8 x9 x10 = k0_pay1 (F := Ideal) x9 (k0_pay10 (F := Ideal) (k0_pay3 (F := Ideal) x3 x6 x7) (k0_pay4 (F := Ideal) x2 x4) x5 (constant (F := Ideal) S512x1024 .f32 0x00000000#32) x1 x8) x0 := by
    unfold out0_15 k0_pay14 k0_pay13 k0_pay12 k0_pay11
    refine (View.canon_unit_zero origin _ _).trans ?_
    simp only [ld_0, ld_1, ld_2, ld_3, ld_4, ld_5]
  rw [h]
  exact pay1_apply x0 x1 x2 x3 x4 x5 x6 x7 x8 x9 x10 a b

theorem out16_apply (a : Fin 512) (b : Fin 1024) : (out0_16 (F := Ideal) x0 x1 x2 x3 x4 x5 x6 x7 x8 x9 x10 (ix2 a b) : EReal) = (rowOf (R := 512) x0 x1 x2 x3 x4 x5 x6 x7 x8 x9 x10 a).hidden b := by
  have h : out0_16 (F := Ideal) x0 x1 x2 x3 x4 x5 x6 x7 x8 x9 x10 = k0_pay2 (F := Ideal) x9 (k0_pay10 (F := Ideal) (k0_pay3 (F := Ideal) x3 x6 x7) (k0_pay4 (F := Ideal) x2 x4) x5 (constant (F := Ideal) S512x1024 .f32 0x00000000#32) x1 x8) x0 x10 := by
    unfold out0_16 k0_pay14 k0_pay13 k0_pay12 k0_pay11
    refine (View.canon_unit_zero origin _ _).trans ?_
    simp only [ld_0, ld_1, ld_2, ld_3, ld_4, ld_5]
  rw [h]
  exact pay2_apply x0 x1 x2 x3 x4 x5 x6 x7 x8 x9 x10 a b

theorem out17_apply (a : Fin 512) (b : Fin 512) : (out0_17 (F := Ideal) x0 x1 x2 x3 x4 x5 x6 x7 x8 x9 x10 (ix2 a b) : EReal) = (rowOf (R := 512) x0 x1 x2 x3 x4 x5 x6 x7 x8 x9 x10 a).ssm b := by
  have h : out0_17 (F := Ideal) x0 x1 x2 x3 x4 x5 x6 x7 x8 x9 x10 = k0_pay3 (F := Ideal) x3 x6 x7 := by
    unfold out0_17
    refine (View.canon_unit_zero origin _ _).trans ?_
    simp only [ld_0, ld_1, ld_2, ld_3, ld_4, ld_5]
  rw [h]
  exact pay3_apply x0 x1 x2 x3 x4 x5 x6 x7 x8 x9 x10 a b

end Body

/-! ## The windows -/

theorem at_0 : ∀ t : Fin cfg0.N, (cfg0.win (0 : Fin 18)).index t = (![t.val, 0] : Fin 2 → ℕ) := by decide +kernel
theorem at_1 : ∀ t : Fin cfg0.N, (cfg0.win (1 : Fin 18)).index t = (![t.val, 0] : Fin 2 → ℕ) := by decide +kernel
theorem at_2 : ∀ t : Fin cfg0.N, (cfg0.win (2 : Fin 18)).index t = (![t.val, 0] : Fin 2 → ℕ) := by decide +kernel
theorem at_3 : ∀ t : Fin cfg0.N, (cfg0.win (3 : Fin 18)).index t = (![t.val, 0] : Fin 2 → ℕ) := by decide +kernel
theorem at_4 : ∀ t : Fin cfg0.N, (cfg0.win (4 : Fin 18)).index t = (![0, 0] : Fin 2 → ℕ) := by decide +kernel
theorem at_5 : ∀ t : Fin cfg0.N, (cfg0.win (5 : Fin 18)).index t = (![0, 0] : Fin 2 → ℕ) := by decide +kernel
theorem at_6 : ∀ t : Fin cfg0.N, (cfg0.win (6 : Fin 18)).index t = (![0, 0] : Fin 2 → ℕ) := by decide +kernel
theorem at_7 : ∀ t : Fin cfg0.N, (cfg0.win (7 : Fin 18)).index t = (![0, 0] : Fin 2 → ℕ) := by decide +kernel
theorem at_8 : ∀ t : Fin cfg0.N, (cfg0.win (8 : Fin 18)).index t = (![0, 0] : Fin 2 → ℕ) := by decide +kernel
theorem at_9 : ∀ t : Fin cfg0.N, (cfg0.win (9 : Fin 18)).index t = (![0, 0] : Fin 2 → ℕ) := by decide +kernel
theorem at_10 : ∀ t : Fin cfg0.N, (cfg0.win (10 : Fin 18)).index t = (![0, 0] : Fin 2 → ℕ) := by decide +kernel
theorem at_11 : ∀ t : Fin cfg0.N, (cfg0.win (11 : Fin 18)).index t = (![t.val, 0] : Fin 2 → ℕ) := by decide +kernel
theorem at_12 : ∀ t : Fin cfg0.N, (cfg0.win (12 : Fin 18)).index t = (![t.val, 0] : Fin 2 → ℕ) := by decide +kernel
theorem at_13 : ∀ t : Fin cfg0.N, (cfg0.win (13 : Fin 18)).index t = (![t.val, 0] : Fin 2 → ℕ) := by decide +kernel
theorem at_14 : ∀ t : Fin cfg0.N, (cfg0.win (14 : Fin 18)).index t = (![t.val, 0] : Fin 2 → ℕ) := by decide +kernel
theorem at_15 : ∀ t : Fin cfg0.N, (cfg0.win (15 : Fin 18)).index t = (![t.val, 0] : Fin 2 → ℕ) := by decide +kernel
theorem at_16 : ∀ t : Fin cfg0.N, (cfg0.win (16 : Fin 18)).index t = (![t.val, 0] : Fin 2 → ℕ) := by decide +kernel
theorem at_17 : ∀ t : Fin cfg0.N, (cfg0.win (17 : Fin 18)).index t = (![t.val, 0] : Fin 2 → ℕ) := by decide +kernel

variable (m : (ℓ : Loc nD τ sig) → Buf (Elt Ideal) ℓ) (c : Dev nD)

theorem read_0 (t : Fin cfg0.N) (a : Fin 512) (b : Fin 1024) (p : Fin 4096) (hp : p.val = t.val * 512 + a.val) :
    iblk m c 0 t (ix2 a b) = m ((c.tc : Thread nD τ).loc main_arg0) (ix2 p b) := by
  refine Eq.trans (congrArg (V m c main_arg0) (funext fun z => Fin.ext ?_)) (congrFun (V_main_arg0 m c) _)
  refine ((cfg0.win (0 : Fin 18)).rect_emb_val t (ix2 a b) z).trans ?_
  rw [at_0]
  match z with
  | ⟨0, _⟩ => show t.val * 512 + a.val = p.val; omega
  | ⟨1, _⟩ => show 0 * 1024 + b.val = b.val; omega

theorem read_1 (t : Fin cfg0.N) (a : Fin 512) (b : Fin 2048) (p : Fin 4096) (hp : p.val = t.val * 512 + a.val) :
    iblk m c 1 t (ix2 a b) = m ((c.tc : Thread nD τ).loc main_arg1) (ix2 p b) := by
  refine Eq.trans (congrArg (V m c main_arg1) (funext fun z => Fin.ext ?_)) (congrFun (V_main_arg1 m c) _)
  refine ((cfg0.win (1 : Fin 18)).rect_emb_val t (ix2 a b) z).trans ?_
  rw [at_1]
  match z with
  | ⟨0, _⟩ => show t.val * 512 + a.val = p.val; omega
  | ⟨1, _⟩ => show 0 * 2048 + b.val = b.val; omega

theorem read_2 (t : Fin cfg0.N) (a : Fin 512) (b : Fin 1024) (p : Fin 4096) (hp : p.val = t.val * 512 + a.val) :
    iblk m c 2 t (ix2 a b) = m ((c.tc : Thread nD τ).loc main_arg2) (ix2 p b) := by
  refine Eq.trans (congrArg (V m c main_arg2) (funext fun z => Fin.ext ?_)) (congrFun (V_main_arg2 m c) _)
  refine ((cfg0.win (2 : Fin 18)).rect_emb_val t (ix2 a b) z).trans ?_
  rw [at_2]
  match z with
  | ⟨0, _⟩ => show t.val * 512 + a.val = p.val; omega
  | ⟨1, _⟩ => show 0 * 1024 + b.val = b.val; omega

theorem read_3 (t : Fin cfg0.N) (a : Fin 512) (b : Fin 512) (p : Fin 4096) (hp : p.val = t.val * 512 + a.val) :
    iblk m c 3 t (ix2 a b) = m ((c.tc : Thread nD τ).loc main_arg3) (ix2 p b) := by
  refine Eq.trans (congrArg (V m c main_arg3) (funext fun z => Fin.ext ?_)) (congrFun (V_main_arg3 m c) _)
  refine ((cfg0.win (3 : Fin 18)).rect_emb_val t (ix2 a b) z).trans ?_
  rw [at_3]
  match z with
  | ⟨0, _⟩ => show t.val * 512 + a.val = p.val; omega
  | ⟨1, _⟩ => show 0 * 512 + b.val = b.val; omega

theorem read_4 (t : Fin cfg0.N) (a : Fin 1024) (b : Fin 1024) :
    iblk m c 4 t (ix2 a b) = m ((c.tc : Thread nD τ).loc main_arg4) (ix2 a b) := by
  refine Eq.trans (congrArg (V m c main_arg4) (funext fun z => Fin.ext ?_)) (congrFun (V_main_arg4 m c) _)
  refine ((cfg0.win (4 : Fin 18)).rect_emb_val t (ix2 a b) z).trans ?_
  rw [at_4]
  match z with
  | ⟨0, _⟩ => show 0 * 1024 + a.val = a.val; omega
  | ⟨1, _⟩ => show 0 * 1024 + b.val = b.val; omega

theorem read_5 (t : Fin cfg0.N) (a : Fin 512) (b : Fin 1024) :
    iblk m c 5 t (ix2 a b) = m ((c.tc : Thread nD τ).loc main_arg5) (ix2 a b) := by
  refine Eq.trans (congrArg (V m c main_arg5) (funext fun z => Fin.ext ?_)) (congrFun (V_main_arg5 m c) _)
  refine ((cfg0.win (5 : Fin 18)).rect_emb_val t (ix2 a b) z).trans ?_
  rw [at_5]
  match z with
  | ⟨0, _⟩ => show 0 * 512 + a.val = a.val; omega
  | ⟨1, _⟩ => show 0 * 1024 + b.val = b.val; omega

theorem read_6 (t : Fin cfg0.N) (a : Fin 512) (b : Fin 512) :
    iblk m c 6 t (ix2 a b) = m ((c.tc : Thread nD τ).loc main_arg6) (ix2 a b) := by
  refine Eq.trans (congrArg (V m c main_arg6) (funext fun z => Fin.ext ?_)) (congrFun (V_main_arg6 m c) _)
  refine ((cfg0.win (6 : Fin 18)).rect_emb_val t (ix2 a b) z).trans ?_
  rw [at_6]
  match z with
  | ⟨0, _⟩ => show 0 * 512 + a.val = a.val; omega
  | ⟨1, _⟩ => show 0 * 512 + b.val = b.val; omega

theorem read_7 (t : Fin cfg0.N) (a : Fin 1) (b : Fin 512) :
    iblk m c 7 t (ix2 a b) = m ((c.tc : Thread nD τ).loc main_arg7) (ix2 a b) := by
  refine Eq.trans (congrArg (V m c main_arg7) (funext fun z => Fin.ext ?_)) (congrFun (V_main_arg7 m c) _)
  refine ((cfg0.win (7 : Fin 18)).rect_emb_val t (ix2 a b) z).trans ?_
  rw [at_7]
  match z with
  | ⟨0, _⟩ => show 0 * 1 + a.val = a.val; omega
  | ⟨1, _⟩ => show 0 * 512 + b.val = b.val; omega

theorem read_8 (t : Fin cfg0.N) (a : Fin 1024) (b : Fin 1024) :
    iblk m c 8 t (ix2 a b) = m ((c.tc : Thread nD τ).loc main_arg8) (ix2 a b) := by
  refine Eq.trans (congrArg (V m c main_arg8) (funext fun z => Fin.ext ?_)) (congrFun (V_main_arg8 m c) _)
  refine ((cfg0.win (8 : Fin 18)).rect_emb_val t (ix2 a b) z).trans ?_
  rw [at_8]
  match z with
  | ⟨0, _⟩ => show 0 * 1024 + a.val = a.val; omega
  | ⟨1, _⟩ => show 0 * 1024 + b.val = b.val; omega

theorem read_9 (t : Fin cfg0.N) (a : Fin 1) (b : Fin 1024) :
    iblk m c 9 t (ix2 a b) = m ((c.tc : Thread nD τ).loc main_arg9) (ix2 a b) := by
  refine Eq.trans (congrArg (V m c main_arg9) (funext fun z => Fin.ext ?_)) (congrFun (V_main_arg9 m c) _)
  refine ((cfg0.win (9 : Fin 18)).rect_emb_val t (ix2 a b) z).trans ?_
  rw [at_9]
  match z with
  | ⟨0, _⟩ => show 0 * 1 + a.val = a.val; omega
  | ⟨1, _⟩ => show 0 * 1024 + b.val = b.val; omega

theorem read_10 (t : Fin cfg0.N) (a : Fin 1) (b : Fin 1024) :
    iblk m c 10 t (ix2 a b) = m ((c.tc : Thread nD τ).loc main_arg10) (ix2 a b) := by
  refine Eq.trans (congrArg (V m c main_arg10) (funext fun z => Fin.ext ?_)) (congrFun (V_main_arg10 m c) _)
  refine ((cfg0.win (10 : Fin 18)).rect_emb_val t (ix2 a b) z).trans ?_
  rw [at_10]
  match z with
  | ⟨0, _⟩ => show 0 * 1 + a.val = a.val; omega
  | ⟨1, _⟩ => show 0 * 1024 + b.val = b.val; omega

/-- The row of the arguments at `p`. -/
def argRow (p : Fin 4096) : Row := rowOf (R := 4096) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) p

theorem block_row (t : Fin cfg0.N) (a : Fin 512) (p : Fin 4096) (hp : p.val = t.val * 512 + a.val) :
    rowOf (R := 512) (iblk m c 0 t) (iblk m c 1 t) (iblk m c 2 t) (iblk m c 3 t) (iblk m c 4 t) (iblk m c 5 t) (iblk m c 6 t) (iblk m c 7 t) (iblk m c 8 t) (iblk m c 9 t) (iblk m c 10 t) a = argRow m c p := by
  unfold argRow rowOf
  simp only [Row.mk.injEq]
  exact ⟨funext fun b => read_0 m c t a b p hp, funext fun b => read_1 m c t a b p hp, funext fun b => read_2 m c t a b p hp, funext fun b => read_3 m c t a b p hp, funext fun k => funext fun b => read_4 m c t k b, funext fun k => funext fun b => read_5 m c t k b, funext fun k => funext fun b => read_6 m c t k b, funext fun b => read_7 m c t 0 b, funext fun k => funext fun b => read_8 m c t k b, funext fun b => read_9 m c t 0 b, funext fun b => read_10 m c t 0 b⟩

theorem value11 (p : Fin 4096) (q : Fin 1024) : ((dats m 0 c).arrAt 11 cfg0.N (ix2 p q) : EReal) = (argRow m c p).attn q := by
  have hp := p.isLt
  have hq := q.isLt
  have hN : cfg0.N = 8 := N_0
  obtain ⟨t, ht⟩ : ∃ t : Fin cfg0.N, t.val = p.val / 512 := ⟨⟨p.val / 512, by rw [hN]; omega⟩, rfl⟩
  have he : ((cfg0.win 11).blk t).view.emb (ix2 (⟨p.val % 512, Nat.mod_lt _ (by decide)⟩ : Fin 512) q) = ix2 p q := by
    refine funext fun z => Fin.ext ?_
    refine ((cfg0.win (11 : Fin 18)).rect_emb_val t _ z).trans ?_
    rw [at_11]
    match z with
    | ⟨0, _⟩ => show t.val * 512 + p.val % 512 = p.val; omega
    | ⟨1, _⟩ => show 0 * 1024 + q.val = q.val; omega
  have h := congrFun (Value.blocks11 m c t (flush0_11 t)) (ix2 (⟨p.val % 512, Nat.mod_lt _ (by decide)⟩ : Fin 512) q)
  rw [View.read_apply, he, Value.flushed11] at h
  refine Eq.trans (α := EReal) h ?_
  refine Eq.trans (α := EReal) (out11_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (⟨p.val % 512, Nat.mod_lt _ (by decide)⟩ : Fin 512) q) ?_
  rw [block_row m c t (⟨p.val % 512, Nat.mod_lt _ (by decide)⟩ : Fin 512) p (by dsimp only; omega)]

theorem value12 (p : Fin 4096) (q : Fin 1024) : ((dats m 0 c).arrAt 12 cfg0.N (ix2 p q) : EReal) = (argRow m c p).scan q := by
  have hp := p.isLt
  have hq := q.isLt
  have hN : cfg0.N = 8 := N_0
  obtain ⟨t, ht⟩ : ∃ t : Fin cfg0.N, t.val = p.val / 512 := ⟨⟨p.val / 512, by rw [hN]; omega⟩, rfl⟩
  have he : ((cfg0.win 12).blk t).view.emb (ix2 (⟨p.val % 512, Nat.mod_lt _ (by decide)⟩ : Fin 512) q) = ix2 p q := by
    refine funext fun z => Fin.ext ?_
    refine ((cfg0.win (12 : Fin 18)).rect_emb_val t _ z).trans ?_
    rw [at_12]
    match z with
    | ⟨0, _⟩ => show t.val * 512 + p.val % 512 = p.val; omega
    | ⟨1, _⟩ => show 0 * 1024 + q.val = q.val; omega
  have h := congrFun (Value.blocks12 m c t (flush0_12 t)) (ix2 (⟨p.val % 512, Nat.mod_lt _ (by decide)⟩ : Fin 512) q)
  rw [View.read_apply, he, Value.flushed12] at h
  refine Eq.trans (α := EReal) h ?_
  refine Eq.trans (α := EReal) (out12_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (⟨p.val % 512, Nat.mod_lt _ (by decide)⟩ : Fin 512) q) ?_
  rw [block_row m c t (⟨p.val % 512, Nat.mod_lt _ (by decide)⟩ : Fin 512) p (by dsimp only; omega)]

theorem value13 (p : Fin 4096) (q : Fin 1024) : ((dats m 0 c).arrAt 13 cfg0.N (ix2 p q) : EReal) = (argRow m c p).mixed q := by
  have hp := p.isLt
  have hq := q.isLt
  have hN : cfg0.N = 8 := N_0
  obtain ⟨t, ht⟩ : ∃ t : Fin cfg0.N, t.val = p.val / 512 := ⟨⟨p.val / 512, by rw [hN]; omega⟩, rfl⟩
  have he : ((cfg0.win 13).blk t).view.emb (ix2 (⟨p.val % 512, Nat.mod_lt _ (by decide)⟩ : Fin 512) q) = ix2 p q := by
    refine funext fun z => Fin.ext ?_
    refine ((cfg0.win (13 : Fin 18)).rect_emb_val t _ z).trans ?_
    rw [at_13]
    match z with
    | ⟨0, _⟩ => show t.val * 512 + p.val % 512 = p.val; omega
    | ⟨1, _⟩ => show 0 * 1024 + q.val = q.val; omega
  have h := congrFun (Value.blocks13 m c t (flush0_13 t)) (ix2 (⟨p.val % 512, Nat.mod_lt _ (by decide)⟩ : Fin 512) q)
  rw [View.read_apply, he, Value.flushed13] at h
  refine Eq.trans (α := EReal) h ?_
  refine Eq.trans (α := EReal) (out13_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (⟨p.val % 512, Nat.mod_lt _ (by decide)⟩ : Fin 512) q) ?_
  rw [block_row m c t (⟨p.val % 512, Nat.mod_lt _ (by decide)⟩ : Fin 512) p (by dsimp only; omega)]

theorem value14 (p : Fin 4096) (q : Fin 1024) : ((dats m 0 c).arrAt 14 cfg0.N (ix2 p q) : EReal) = (argRow m c p).out q := by
  have hp := p.isLt
  have hq := q.isLt
  have hN : cfg0.N = 8 := N_0
  obtain ⟨t, ht⟩ : ∃ t : Fin cfg0.N, t.val = p.val / 512 := ⟨⟨p.val / 512, by rw [hN]; omega⟩, rfl⟩
  have he : ((cfg0.win 14).blk t).view.emb (ix2 (⟨p.val % 512, Nat.mod_lt _ (by decide)⟩ : Fin 512) q) = ix2 p q := by
    refine funext fun z => Fin.ext ?_
    refine ((cfg0.win (14 : Fin 18)).rect_emb_val t _ z).trans ?_
    rw [at_14]
    match z with
    | ⟨0, _⟩ => show t.val * 512 + p.val % 512 = p.val; omega
    | ⟨1, _⟩ => show 0 * 1024 + q.val = q.val; omega
  have h := congrFun (Value.blocks14 m c t (flush0_14 t)) (ix2 (⟨p.val % 512, Nat.mod_lt _ (by decide)⟩ : Fin 512) q)
  rw [View.read_apply, he, Value.flushed14] at h
  refine Eq.trans (α := EReal) h ?_
  refine Eq.trans (α := EReal) (out14_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (⟨p.val % 512, Nat.mod_lt _ (by decide)⟩ : Fin 512) q) ?_
  rw [block_row m c t (⟨p.val % 512, Nat.mod_lt _ (by decide)⟩ : Fin 512) p (by dsimp only; omega)]

theorem value15 (p : Fin 4096) (q : Fin 1024) : ((dats m 0 c).arrAt 15 cfg0.N (ix2 p q) : EReal) = (argRow m c p).next q := by
  have hp := p.isLt
  have hq := q.isLt
  have hN : cfg0.N = 8 := N_0
  obtain ⟨t, ht⟩ : ∃ t : Fin cfg0.N, t.val = p.val / 512 := ⟨⟨p.val / 512, by rw [hN]; omega⟩, rfl⟩
  have he : ((cfg0.win 15).blk t).view.emb (ix2 (⟨p.val % 512, Nat.mod_lt _ (by decide)⟩ : Fin 512) q) = ix2 p q := by
    refine funext fun z => Fin.ext ?_
    refine ((cfg0.win (15 : Fin 18)).rect_emb_val t _ z).trans ?_
    rw [at_15]
    match z with
    | ⟨0, _⟩ => show t.val * 512 + p.val % 512 = p.val; omega
    | ⟨1, _⟩ => show 0 * 1024 + q.val = q.val; omega
  have h := congrFun (Value.blocks15 m c t (flush0_15 t)) (ix2 (⟨p.val % 512, Nat.mod_lt _ (by decide)⟩ : Fin 512) q)
  rw [View.read_apply, he, Value.flushed15] at h
  refine Eq.trans (α := EReal) h ?_
  refine Eq.trans (α := EReal) (out15_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (⟨p.val % 512, Nat.mod_lt _ (by decide)⟩ : Fin 512) q) ?_
  rw [block_row m c t (⟨p.val % 512, Nat.mod_lt _ (by decide)⟩ : Fin 512) p (by dsimp only; omega)]

theorem value16 (p : Fin 4096) (q : Fin 1024) : ((dats m 0 c).arrAt 16 cfg0.N (ix2 p q) : EReal) = (argRow m c p).hidden q := by
  have hp := p.isLt
  have hq := q.isLt
  have hN : cfg0.N = 8 := N_0
  obtain ⟨t, ht⟩ : ∃ t : Fin cfg0.N, t.val = p.val / 512 := ⟨⟨p.val / 512, by rw [hN]; omega⟩, rfl⟩
  have he : ((cfg0.win 16).blk t).view.emb (ix2 (⟨p.val % 512, Nat.mod_lt _ (by decide)⟩ : Fin 512) q) = ix2 p q := by
    refine funext fun z => Fin.ext ?_
    refine ((cfg0.win (16 : Fin 18)).rect_emb_val t _ z).trans ?_
    rw [at_16]
    match z with
    | ⟨0, _⟩ => show t.val * 512 + p.val % 512 = p.val; omega
    | ⟨1, _⟩ => show 0 * 1024 + q.val = q.val; omega
  have h := congrFun (Value.blocks16 m c t (flush0_16 t)) (ix2 (⟨p.val % 512, Nat.mod_lt _ (by decide)⟩ : Fin 512) q)
  rw [View.read_apply, he, Value.flushed16] at h
  refine Eq.trans (α := EReal) h ?_
  refine Eq.trans (α := EReal) (out16_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (⟨p.val % 512, Nat.mod_lt _ (by decide)⟩ : Fin 512) q) ?_
  rw [block_row m c t (⟨p.val % 512, Nat.mod_lt _ (by decide)⟩ : Fin 512) p (by dsimp only; omega)]

theorem value17 (p : Fin 4096) (q : Fin 512) : ((dats m 0 c).arrAt 17 cfg0.N (ix2 p q) : EReal) = (argRow m c p).ssm q := by
  have hp := p.isLt
  have hq := q.isLt
  have hN : cfg0.N = 8 := N_0
  obtain ⟨t, ht⟩ : ∃ t : Fin cfg0.N, t.val = p.val / 512 := ⟨⟨p.val / 512, by rw [hN]; omega⟩, rfl⟩
  have he : ((cfg0.win 17).blk t).view.emb (ix2 (⟨p.val % 512, Nat.mod_lt _ (by decide)⟩ : Fin 512) q) = ix2 p q := by
    refine funext fun z => Fin.ext ?_
    refine ((cfg0.win (17 : Fin 18)).rect_emb_val t _ z).trans ?_
    rw [at_17]
    match z with
    | ⟨0, _⟩ => show t.val * 512 + p.val % 512 = p.val; omega
    | ⟨1, _⟩ => show 0 * 512 + q.val = q.val; omega
  have h := congrFun (Value.blocks17 m c t (flush0_17 t)) (ix2 (⟨p.val % 512, Nat.mod_lt _ (by decide)⟩ : Fin 512) q)
  rw [View.read_apply, he, Value.flushed17] at h
  refine Eq.trans (α := EReal) h ?_
  refine Eq.trans (α := EReal) (out17_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (⟨p.val % 512, Nat.mod_lt _ (by decide)⟩ : Fin 512) q) ?_
  rw [block_row m c t (⟨p.val % 512, Nat.mod_lt _ (by decide)⟩ : Fin 512) p (by dsimp only; omega)]

theorem wanted11 : Cert.MergeRefIdeal.Read.val_main_v71 (F := Ideal) (m ((c.tc : Thread nD τ).loc main_arg2)) (m ((c.tc : Thread nD τ).loc main_arg4)) = (dats m 0 c).arrAt 11 cfg0.N := by
  funext i
  rw [eq_ix2 i]
  refine Eq.trans (α := EReal) (b := (argRow m c (i 0)).attn (i 1)) ?_ (value11 m c (i 0) (i 1)).symm
  exact Cert.MergeRefIdeal.Own.v29_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (i 0) (i 1)

theorem wanted12 : Cert.MergeRefIdeal.Read.val_main_v72 (F := Ideal) (m ((c.tc : Thread nD τ).loc main_arg3)) (m ((c.tc : Thread nD τ).loc main_arg5)) (m ((c.tc : Thread nD τ).loc main_arg6)) (m ((c.tc : Thread nD τ).loc main_arg7)) = (dats m 0 c).arrAt 12 cfg0.N := by
  funext i
  rw [eq_ix2 i]
  refine Eq.trans (α := EReal) (b := (argRow m c (i 0)).scan (i 1)) ?_ (value12 m c (i 0) (i 1)).symm
  exact Cert.MergeRefIdeal.Own.v30_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (i 0) (i 1)

theorem wanted13 : Cert.MergeRefIdeal.Read.val_main_v73 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = (dats m 0 c).arrAt 13 cfg0.N := by
  funext i
  rw [eq_ix2 i]
  refine Eq.trans (α := EReal) (b := (argRow m c (i 0)).mixed (i 1)) ?_ (value13 m c (i 0) (i 1)).symm
  exact Cert.MergeRefIdeal.Own.v44_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (i 0) (i 1)

theorem wanted14 : Cert.MergeRefIdeal.Read.val_main_v45 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) = (dats m 0 c).arrAt 14 cfg0.N := by
  funext i
  rw [eq_ix2 i]
  refine Eq.trans (α := EReal) (b := (argRow m c (i 0)).out (i 1)) ?_ (value14 m c (i 0) (i 1)).symm
  exact Cert.MergeRefIdeal.Own.v45_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (i 0) (i 1)

theorem wanted15 : Cert.MergeRefIdeal.Read.val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) = (dats m 0 c).arrAt 15 cfg0.N := by
  funext i
  rw [eq_ix2 i]
  refine Eq.trans (α := EReal) (b := (argRow m c (i 0)).next (i 1)) ?_ (value15 m c (i 0) (i 1)).symm
  exact Cert.MergeRefIdeal.Own.v58_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (i 0) (i 1)

theorem wanted16 : Cert.MergeRefIdeal.Read.val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) = (dats m 0 c).arrAt 16 cfg0.N := by
  funext i
  rw [eq_ix2 i]
  refine Eq.trans (α := EReal) (b := (argRow m c (i 0)).hidden (i 1)) ?_ (value16 m c (i 0) (i 1)).symm
  exact Cert.MergeRefIdeal.Own.v70_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (i 0) (i 1)

theorem wanted17 : Cert.MergeRefIdeal.Read.val_main_v75 (F := Ideal) (m ((c.tc : Thread nD τ).loc main_arg3)) (m ((c.tc : Thread nD τ).loc main_arg6)) (m ((c.tc : Thread nD τ).loc main_arg7)) = (dats m 0 c).arrAt 17 cfg0.N := by
  funext i
  rw [eq_ix2 i]
  refine Eq.trans (α := EReal) (b := (argRow m c (i 0)).ssm (i 1)) ?_ (value17 m c (i 0) (i 1)).symm
  exact Cert.MergeRefIdeal.Own.v28_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (i 0) (i 1)

set_option maxHeartbeats 4000000 in
/-- Kernel and reference end with the same seven arrays. -/
theorem algebraic : Cert.algebraic_MergeIdeal_MergeRefIdeal := by
  intro m g m' g' _ hag
  refine ⟨fun c => (dats m 0 c).arrAt 11 cfg0.N, fun c => (dats m 0 c).arrAt 12 cfg0.N, fun c => (dats m 0 c).arrAt 13 cfg0.N, fun c => (dats m 0 c).arrAt 14 cfg0.N, fun c => (dats m 0 c).arrAt 15 cfg0.N, fun c => (dats m 0 c).arrAt 16 cfg0.N, fun c => (dats m 0 c).arrAt 17 cfg0.N, Value.run_blocks m g,
    (θ_run _ _ _).mono (fun r h c => ?_) (Cert.MergeRefIdeal.Value.run (F := Ideal) m' g')⟩
  obtain ⟨a0, a1, a2, a3, a4, a5, a6, a7, a8, a9, a10⟩ := hag c
  obtain ⟨h0, h1, h2, h3, h4, h5, h6, rest⟩ := h c
  refine ⟨?_, ?_, ?_, ?_, ?_, ?_, ?_, rest⟩
  · refine (h0.trans (Cert.MergeRefIdeal.Read.val_main_v71_eq (m' ((c.tc : Thread Cert.MergeRefIdeal.nD Cert.MergeRefIdeal.τ).loc Cert.MergeRefIdeal.main_arg2)) (m' ((c.tc : Thread Cert.MergeRefIdeal.nD Cert.MergeRefIdeal.τ).loc Cert.MergeRefIdeal.main_arg4)))).trans ?_
    rw [a2, a4]
    exact wanted11 m c
  · refine (h1.trans (Cert.MergeRefIdeal.Read.val_main_v72_eq (m' ((c.tc : Thread Cert.MergeRefIdeal.nD Cert.MergeRefIdeal.τ).loc Cert.MergeRefIdeal.main_arg3)) (m' ((c.tc : Thread Cert.MergeRefIdeal.nD Cert.MergeRefIdeal.τ).loc Cert.MergeRefIdeal.main_arg5)) (m' ((c.tc : Thread Cert.MergeRefIdeal.nD Cert.MergeRefIdeal.τ).loc Cert.MergeRefIdeal.main_arg6)) (m' ((c.tc : Thread Cert.MergeRefIdeal.nD Cert.MergeRefIdeal.τ).loc Cert.MergeRefIdeal.main_arg7)))).trans ?_
    rw [a3, a5, a6, a7]
    exact wanted12 m c
  · refine (h2.trans (Cert.MergeRefIdeal.Read.val_main_v73_eq (m' ((c.tc : Thread Cert.MergeRefIdeal.nD Cert.MergeRefIdeal.τ).loc Cert.MergeRefIdeal.main_arg1)) (m' ((c.tc : Thread Cert.MergeRefIdeal.nD Cert.MergeRefIdeal.τ).loc Cert.MergeRefIdeal.main_arg2)) (m' ((c.tc : Thread Cert.MergeRefIdeal.nD Cert.MergeRefIdeal.τ).loc Cert.MergeRefIdeal.main_arg3)) (m' ((c.tc : Thread Cert.MergeRefIdeal.nD Cert.MergeRefIdeal.τ).loc Cert.MergeRefIdeal.main_arg4)) (m' ((c.tc : Thread Cert.MergeRefIdeal.nD Cert.MergeRefIdeal.τ).loc Cert.MergeRefIdeal.main_arg5)) (m' ((c.tc : Thread Cert.MergeRefIdeal.nD Cert.MergeRefIdeal.τ).loc Cert.MergeRefIdeal.main_arg6)) (m' ((c.tc : Thread Cert.MergeRefIdeal.nD Cert.MergeRefIdeal.τ).loc Cert.MergeRefIdeal.main_arg7)))).trans ?_
    rw [a1, a2, a3, a4, a5, a6, a7]
    exact wanted13 m c
  · refine (h3.trans (Cert.MergeRefIdeal.Read.val_main_v45_eq (m' ((c.tc : Thread Cert.MergeRefIdeal.nD Cert.MergeRefIdeal.τ).loc Cert.MergeRefIdeal.main_arg1)) (m' ((c.tc : Thread Cert.MergeRefIdeal.nD Cert.MergeRefIdeal.τ).loc Cert.MergeRefIdeal.main_arg2)) (m' ((c.tc : Thread Cert.MergeRefIdeal.nD Cert.MergeRefIdeal.τ).loc Cert.MergeRefIdeal.main_arg3)) (m' ((c.tc : Thread Cert.MergeRefIdeal.nD Cert.MergeRefIdeal.τ).loc Cert.MergeRefIdeal.main_arg4)) (m' ((c.tc : Thread Cert.MergeRefIdeal.nD Cert.MergeRefIdeal.τ).loc Cert.MergeRefIdeal.main_arg5)) (m' ((c.tc : Thread Cert.MergeRefIdeal.nD Cert.MergeRefIdeal.τ).loc Cert.MergeRefIdeal.main_arg6)) (m' ((c.tc : Thread Cert.MergeRefIdeal.nD Cert.MergeRefIdeal.τ).loc Cert.MergeRefIdeal.main_arg7)) (m' ((c.tc : Thread Cert.MergeRefIdeal.nD Cert.MergeRefIdeal.τ).loc Cert.MergeRefIdeal.main_arg8)))).trans ?_
    rw [a1, a2, a3, a4, a5, a6, a7, a8]
    exact wanted14 m c
  · refine (h4.trans (Cert.MergeRefIdeal.Read.val_main_v58_eq m' c)).trans ?_
    rw [a0, a1, a2, a3, a4, a5, a6, a7, a8, a9]
    exact wanted15 m c
  · refine (h5.trans (Cert.MergeRefIdeal.Read.val_main_v74_eq m' c)).trans ?_
    rw [a0, a1, a2, a3, a4, a5, a6, a7, a8, a9, a10]
    exact wanted16 m c
  · refine (h6.trans (Cert.MergeRefIdeal.Read.val_main_v75_eq (m' ((c.tc : Thread Cert.MergeRefIdeal.nD Cert.MergeRefIdeal.τ).loc Cert.MergeRefIdeal.main_arg3)) (m' ((c.tc : Thread Cert.MergeRefIdeal.nD Cert.MergeRefIdeal.τ).loc Cert.MergeRefIdeal.main_arg6)) (m' ((c.tc : Thread Cert.MergeRefIdeal.nD Cert.MergeRefIdeal.τ).loc Cert.MergeRefIdeal.main_arg7)))).trans ?_
    rw [a3, a6, a7]
    exact wanted17 m c

/-- The kernel's run, as printed. -/
theorem frame : Cert.quiescent_Merge := fun m ρ _ => Cert.Merge.Gen.frame m ρ
/-- The idealized kernel's run. -/
theorem frame_ideal : Cert.quiescent_MergeIdeal := fun m ρ _ => Cert.MergeIdeal.Gen.frame m ρ
/-- The reference's run. -/
theorem frame_ref : Cert.quiescent_MergeRefIdeal := fun m g _ =>
  (θ_run Cert.MergeRefIdeal.defs _ _).mono
    (fun r h => ⟨fun c => (h c).2.2.2.2.2.2.2, sem_eq_zero_of_no_sems (by decide) r.2⟩) (Cert.MergeRefIdeal.Value.run (F := Ideal) m g)
theorem preserves : Cert.preserves_Merge_MergeIdeal := trivial

end Cert.MergeIdeal.Own

end
-- ==== Proof.lean ====
/- The proof of the certificate's claims: the two runs of the kernel (as printed, and idealized), the reference's generated run, the named
   constants' entries, and the three gradients of kernel and reference as the same real numbers; assembled behind the witnesses of the
   programs' stated facts. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Final
public import proofs.«01_k».proof.Proof.Pre
public import proofs.«01_k».proof.Proof.Bits.Frame
public import proofs.«01_k».proof.Proof.Products.Up
public import proofs.«01_k».proof.Proof.Products.Down
public import proofs.«01_k».proof.Proof.Products.DownDx
public import proofs.«01_k».proof.Proof.Products.DownDw
public import proofs.«01_k».proof.Proof.Products.UpDx
public import proofs.«01_k».proof.Proof.Products.UpDw
public import proofs.«01_k».proof.Proof.Products.OutDw
public import proofs.«01_k».proof.Proof.Products.BranchAttnDw
public import proofs.«01_k».proof.Proof.Products.BranchSsmDw
public import proofs.«01_k».proof.Proof.Products.GluDw
public import proofs.«01_k».proof.Proof.Products.InDw
public import proofs.«01_k».proof.Proof.Products.UqDw
public import proofs.«01_k».proof.Proof.Products.UkvDw
public import proofs.«01_k».proof.Proof.Products.Merge
public import Idealize.ShloMosaic.Lib.Quiescent
public import Idealize.ShloMosaic.Adequacy
public import Idealize.ShloMosaic.Init

@[expose] public section

noncomputable section

namespace Cert.Proof

open Idealize.ShloMosaic Idealize.SL.Sem
open Idealize.ShloMosaic.TcCoe

/-- The two named constants: the mask's large negative number is -∞, the printed factor is the logarithm of two. -/
theorem preserves : Cert.preserves_Kernel_KernelIdeal :=
  ⟨IdealRules.named_const.statement Cert.KernelIdeal.κ "mask" .f32 0xF149F2CA#32 ⊥ rfl,
   IdealRules.named_const.statement Cert.KernelIdeal.κ "ln2" .f32 0x3F317218#32 ((Real.log 2 : ℝ) : EReal) rfl⟩

/-- The reference's run ends with its arguments unchanged and every counter zero: it launches nothing. -/
theorem frame_reference : Cert.quiescent_ReferenceIdeal := fun m g _ =>
  (θ_run Cert.ReferenceIdeal.defs _ _).mono
    (fun r h => ⟨fun c => (h c).2.2.2, sem_eq_zero_of_no_sems (by decide) r.2⟩) (Cert.ReferenceIdeal.Value.run (F := Ideal) m g)

/-- On finite arguments the kernel's gradients are the reference's. -/
theorem algebraic : Cert.algebraic_KernelIdeal_ReferenceIdeal_pre_finite (hPre_finite := Cert.Pre_finite.facts) := by
  intro m g m' g' hpre hag
  have hpre' := hpre
  unfold Cert.Pre_KernelIdeal_finite at hpre'
  have fin := fun c => @Cert.Pre_finite.real_of_fn Cert.Pre_finite.facts _ _ _ _ (hpre' c)
  have hR := fun c t => KernelIdeal.Bwd.reads c t m (fun i x => (fin c).1 (ix2 i x)) (fun i x => (fin c).2.1 (ix2 i x))
    (fun i x => (fin c).2.2.1 (ix2 i x)) (fun i x => (fin c).2.2.2 (ix2 i x))
  refine ⟨fun c => Cert.ReferenceIdeal.Value.res_main_v74 m' c, fun c => Cert.ReferenceIdeal.Value.res_main_v73 m' c,
    fun c => Cert.ReferenceIdeal.Value.res_main_v71 m' c, KernelIdeal.Bwd.run_results m g _ _ _
      (fun c => KernelIdeal.Bwd.final_q m (hR c) _ fun i x => ?_) (fun c => KernelIdeal.Bwd.final_k m (hR c) _ fun i x => ?_)
      (fun c => KernelIdeal.Bwd.final_v m (hR c) _ fun i x => ?_), Cert.ReferenceIdeal.Value.run (F := Ideal) m' g'⟩
  · rw [Cert.ReferenceIdeal.Grad.res_q, (hag c).1, (hag c).2.1, (hag c).2.2.1, (hag c).2.2.2]
    exact Cert.ReferenceIdeal.Grad.outQ_real (fun i x => (fin c).1 (ix2 i x)) (fun i x => (fin c).2.1 (ix2 i x))
      (fun i x => (fin c).2.2.1 (ix2 i x)) (fun i x => (fin c).2.2.2 (ix2 i x)) i x
  · rw [Cert.ReferenceIdeal.Grad.res_k, (hag c).1, (hag c).2.1, (hag c).2.2.1, (hag c).2.2.2]
    exact Cert.ReferenceIdeal.Grad.outK_real (fun i x => (fin c).1 (ix2 i x)) (fun i x => (fin c).2.1 (ix2 i x))
      (fun i x => (fin c).2.2.1 (ix2 i x)) (fun i x => (fin c).2.2.2 (ix2 i x)) i x
  · rw [Cert.ReferenceIdeal.Grad.res_v, (hag c).1, (hag c).2.1, (hag c).2.2.2]
    exact Cert.ReferenceIdeal.Grad.outV_real (fun i x => (fin c).1 (ix2 i x)) (fun i x => (fin c).2.1 (ix2 i x))
      (fun i x => (fin c).2.2.2 (ix2 i x)) i x

/-- Everything claimed: the attention's gradient first, then the products one by one. -/
theorem claim : Cert.Claim :=
  ⟨Cert.Kernel.Gen.facts, Cert.KernelIdeal.Gen.facts, Cert.ReferenceIdeal.Gen.facts,
    Cert.Up.Gen.facts, Cert.UpIdeal.Gen.facts, Cert.UpRefIdeal.Gen.facts,
    Cert.Down.Gen.facts, Cert.DownIdeal.Gen.facts, Cert.DownRefIdeal.Gen.facts,
    Cert.DownDx.Gen.facts, Cert.DownDxIdeal.Gen.facts, Cert.DownDxRefIdeal.Gen.facts,
    Cert.DownDw.Gen.facts, Cert.DownDwIdeal.Gen.facts, Cert.DownDwRefIdeal.Gen.facts,
    Cert.UpDx.Gen.facts, Cert.UpDxIdeal.Gen.facts, Cert.UpDxRefIdeal.Gen.facts,
    Cert.UpDw.Gen.facts, Cert.UpDwIdeal.Gen.facts, Cert.UpDwRefIdeal.Gen.facts,
    Cert.OutDw.Gen.facts, Cert.OutDwIdeal.Gen.facts, Cert.OutDwRefIdeal.Gen.facts,
    Cert.BranchAttnDw.Gen.facts, Cert.BranchAttnDwIdeal.Gen.facts, Cert.BranchAttnDwRefIdeal.Gen.facts,
    Cert.BranchSsmDw.Gen.facts, Cert.BranchSsmDwIdeal.Gen.facts, Cert.BranchSsmDwRefIdeal.Gen.facts,
    Cert.GluDw.Gen.facts, Cert.GluDwIdeal.Gen.facts, Cert.GluDwRefIdeal.Gen.facts,
    Cert.InDw.Gen.facts, Cert.InDwIdeal.Gen.facts, Cert.InDwRefIdeal.Gen.facts,
    Cert.UqDw.Gen.facts, Cert.UqDwIdeal.Gen.facts, Cert.UqDwRefIdeal.Gen.facts,
    Cert.UkvDw.Gen.facts, Cert.UkvDwIdeal.Gen.facts, Cert.UkvDwRefIdeal.Gen.facts,
    Cert.Merge.Gen.facts, Cert.MergeIdeal.Gen.facts, Cert.MergeRefIdeal.Gen.facts,
    Cert.Pre_finite.facts,
    fun m g _ => Cert.Kernel.Bwd.frame m g, fun m g _ => Cert.KernelIdeal.Bwd.frame m g, fun m g _ => Cert.KernelIdeal.Bwd.frame m g,
    frame_reference, fun m g _ => frame_reference m g trivial,
    Cert.UpIdeal.Own.frame, Cert.UpIdeal.Own.frame_ideal, Cert.UpIdeal.Own.frame_ref,
    Cert.DownIdeal.Own.frame, Cert.DownIdeal.Own.frame_ideal, Cert.DownIdeal.Own.frame_ref,
    Cert.DownDxIdeal.Own.frame, Cert.DownDxIdeal.Own.frame_ideal, Cert.DownDxIdeal.Own.frame_ref,
    Cert.DownDwIdeal.Own.frame, Cert.DownDwIdeal.Own.frame_ideal, Cert.DownDwIdeal.Own.frame_ref,
    Cert.UpDxIdeal.Own.frame, Cert.UpDxIdeal.Own.frame_ideal, Cert.UpDxIdeal.Own.frame_ref,
    Cert.UpDwIdeal.Own.frame, Cert.UpDwIdeal.Own.frame_ideal, Cert.UpDwIdeal.Own.frame_ref,
    Cert.OutDwIdeal.Own.frame, Cert.OutDwIdeal.Own.frame_ideal, Cert.OutDwIdeal.Own.frame_ref,
    Cert.BranchAttnDwIdeal.Own.frame, Cert.BranchAttnDwIdeal.Own.frame_ideal, Cert.BranchAttnDwIdeal.Own.frame_ref,
    Cert.BranchSsmDwIdeal.Own.frame, Cert.BranchSsmDwIdeal.Own.frame_ideal, Cert.BranchSsmDwIdeal.Own.frame_ref,
    Cert.GluDwIdeal.Own.frame, Cert.GluDwIdeal.Own.frame_ideal, Cert.GluDwIdeal.Own.frame_ref,
    Cert.InDwIdeal.Own.frame, Cert.InDwIdeal.Own.frame_ideal, Cert.InDwIdeal.Own.frame_ref,
    Cert.UqDwIdeal.Own.frame, Cert.UqDwIdeal.Own.frame_ideal, Cert.UqDwIdeal.Own.frame_ref,
    Cert.UkvDwIdeal.Own.frame, Cert.UkvDwIdeal.Own.frame_ideal, Cert.UkvDwIdeal.Own.frame_ref,
    Cert.MergeIdeal.Own.frame, Cert.MergeIdeal.Own.frame_ideal, Cert.MergeIdeal.Own.frame_ref,
    preserves, algebraic,
    Cert.UpIdeal.Own.preserves, Cert.UpIdeal.Own.algebraic,
    Cert.DownIdeal.Own.preserves, Cert.DownIdeal.Own.algebraic,
    Cert.DownDxIdeal.Own.preserves, Cert.DownDxIdeal.Own.algebraic,
    Cert.DownDwIdeal.Own.preserves, Cert.DownDwIdeal.Own.algebraic,
    Cert.UpDxIdeal.Own.preserves, Cert.UpDxIdeal.Own.algebraic,
    Cert.UpDwIdeal.Own.preserves, Cert.UpDwIdeal.Own.algebraic,
    Cert.OutDwIdeal.Own.preserves, Cert.OutDwIdeal.Own.algebraic,
    Cert.BranchAttnDwIdeal.Own.preserves, Cert.BranchAttnDwIdeal.Own.algebraic,
    Cert.BranchSsmDwIdeal.Own.preserves, Cert.BranchSsmDwIdeal.Own.algebraic,
    Cert.GluDwIdeal.Own.preserves, Cert.GluDwIdeal.Own.algebraic,
    Cert.InDwIdeal.Own.preserves, Cert.InDwIdeal.Own.algebraic,
    Cert.UqDwIdeal.Own.preserves, Cert.UqDwIdeal.Own.algebraic,
    Cert.UkvDwIdeal.Own.preserves, Cert.UkvDwIdeal.Own.algebraic,
    Cert.MergeIdeal.Own.preserves, Cert.MergeIdeal.Own.algebraic⟩

end Cert.Proof

end
